-- ==== Defs.lean ====
def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInIdeal_finite [hPre_finite : Cert.Pre_finite.Facts] (m : (ℓ : Loc Cert.BwdInIdeal.nD Cert.BwdInIdeal.τ Cert.BwdInIdeal.sig) → Buf (Elt Ideal) ℓ) : Prop :=
  ∀ c : Dev Cert.BwdInIdeal.nD,
    (Cert.Pre_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).1 = (fun _ => 1#1)
    ∧ (Cert.Pre_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.1 = (fun _ => 1#1)
    ∧ (Cert.Pre_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.1 = (fun _ => 1#1)
    ∧ (Cert.Pre_finite.fn (F := Ideal) (m ((c.tc : Thread Cert.BwdInIdeal.nD Cert.BwdInIdeal.τ).loc Cert.BwdInIdeal.main_arg0)) (m ((c.tc : Thread Cert.BwdInIdeal.nD Cert.BwdInIdeal.τ).loc Cert.BwdInIdeal.main_arg1)) (m ((c.tc : Thread Cert.BwdInIdeal.nD Cert.BwdInIdeal.τ).loc Cert.BwdInIdeal.main_arg2)) (m ((c.tc : Thread Cert.BwdInIdeal.nD Cert.BwdInIdeal.τ).loc Cert.BwdInIdeal.main_arg3)) (m ((c.tc : Thread Cert.BwdInIdeal.nD Cert.BwdInIdeal.τ).loc Cert.BwdInIdeal.main_arg4)) (m ((c.tc : Thread Cert.BwdInIdeal.nD Cert.BwdInIdeal.τ).loc Cert.BwdInIdeal.main_arg5))).2.2.2 = (fun _ => 1#1)

def Pre_BwdInRefIdeal (m : (ℓ : Loc Cert.BwdInRefIdeal.nD Cert.BwdInRefIdeal.τ Cert.BwdInRefIdeal.sig) → Buf (Elt Ideal) ℓ) : Prop :=
  True

def Pre_BwdInRefIdeal_finite [hPre_finite : Cert.Pre_finite.Facts] (m : (ℓ : Loc Cert.BwdInRefIdeal.nD Cert.BwdInRefIdeal.τ Cert.BwdInRefIdeal.sig) → Buf (Elt Ideal) ℓ) : Prop :=
  ∀ c : Dev Cert.BwdInRefIdeal.nD,
    (Cert.Pre_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).1 = (fun _ => 1#1)
    ∧ (Cert.Pre_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.1 = (fun _ => 1#1)
    ∧ (Cert.Pre_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.1 = (fun _ => 1#1)
    ∧ (Cert.Pre_finite.fn (F := Ideal) (m ((c.tc : Thread Cert.BwdInRefIdeal.nD Cert.BwdInRefIdeal.τ).loc Cert.BwdInRefIdeal.main_arg0)) (m ((c.tc : Thread Cert.BwdInRefIdeal.nD Cert.BwdInRefIdeal.τ).loc Cert.BwdInRefIdeal.main_arg1)) (m ((c.tc : Thread Cert.BwdInRefIdeal.nD Cert.BwdInRefIdeal.τ).loc Cert.BwdInRefIdeal.main_arg2)) (m ((c.tc : Thread Cert.BwdInRefIdeal.nD Cert.BwdInRefIdeal.τ).loc Cert.BwdInRefIdeal.main_arg3)) (m ((c.tc : Thread Cert.BwdInRefIdeal.nD Cert.BwdInRefIdeal.τ).loc Cert.BwdInRefIdeal.main_arg4)) (m ((c.tc : Thread Cert.BwdInRefIdeal.nD Cert.BwdInRefIdeal.τ).loc Cert.BwdInRefIdeal.main_arg5))).2.2.2 = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_AdamRow (m : (ℓ : Loc Cert.AdamRow.nD Cert.AdamRow.τ Cert.AdamRow.sig) → Buf (Elt Bits) ℓ) : Prop :=
  True

def Pre_AdamRowIdeal (m : (ℓ : Loc Cert.AdamRowIdeal.nD Cert.AdamRowIdeal.τ Cert.AdamRowIdeal.sig) → Buf (Elt Ideal) ℓ) : Prop :=
  True

def Pre_AdamRowRefIdeal (m : (ℓ : Loc Cert.AdamRowRefIdeal.nD Cert.AdamRowRefIdeal.τ Cert.AdamRowRefIdeal.sig) → Buf (Elt Ideal) ℓ) : Prop :=
  True

def Pre_AdamHalf (m : (ℓ : Loc Cert.AdamHalf.nD Cert.AdamHalf.τ Cert.AdamHalf.sig) → Buf (Elt Bits) ℓ) : Prop :=
  True

def Pre_AdamHalfIdeal (m : (ℓ : Loc Cert.AdamHalfIdeal.nD Cert.AdamHalfIdeal.τ Cert.AdamHalfIdeal.sig) → Buf (Elt Ideal) ℓ) : Prop :=
  True

def Pre_AdamHalfRefIdeal (m : (ℓ : Loc Cert.AdamHalfRefIdeal.nD Cert.AdamHalfRefIdeal.τ Cert.AdamHalfRefIdeal.sig) → Buf (Elt Ideal) ℓ) : Prop :=
  True

def Pre_AdamWide (m : (ℓ : Loc Cert.AdamWide.nD Cert.AdamWide.τ Cert.AdamWide.sig) → Buf (Elt Bits) ℓ) : Prop :=
  True

def Pre_AdamWideIdeal (m : (ℓ : Loc Cert.AdamWideIdeal.nD Cert.AdamWideIdeal.τ Cert.AdamWideIdeal.sig) → Buf (Elt Ideal) ℓ) : Prop :=
  True

def Pre_AdamWideRefIdeal (m : (ℓ : Loc Cert.AdamWideRefIdeal.nD Cert.AdamWideRefIdeal.τ Cert.AdamWideRefIdeal.sig) → Buf (Elt Ideal) ℓ) : Prop :=
  True

def Pre_AdamGates (m : (ℓ : Loc Cert.AdamGates.nD Cert.AdamGates.τ Cert.AdamGates.sig) → Buf (Elt Bits) ℓ) : Prop :=
  True

def Pre_AdamGatesIdeal (m : (ℓ : Loc Cert.AdamGatesIdeal.nD Cert.AdamGatesIdeal.τ Cert.AdamGatesIdeal.sig) → Buf (Elt Ideal) ℓ) : Prop :=
  True

def Pre_AdamGatesRefIdeal (m : (ℓ : Loc Cert.AdamGatesRefIdeal.nD Cert.AdamGatesRefIdeal.τ Cert.AdamGatesRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamIn [hPre_device_in : Cert.Pre_device_in.Facts] (m : (ℓ : Loc Cert.AdamIn.nD Cert.AdamIn.τ Cert.AdamIn.sig) → Buf (Elt Bits) ℓ) : Prop :=
  ∀ c : Dev Cert.AdamIn.nD,
    (Cert.Pre_device_in.fn (F := Bits) (m ((c.tc : Thread Cert.AdamIn.nD Cert.AdamIn.τ).loc Cert.AdamIn.main_arg0)) (m ((c.tc : Thread Cert.AdamIn.nD Cert.AdamIn.τ).loc Cert.AdamIn.main_arg1)) (m ((c.tc : Thread Cert.AdamIn.nD Cert.AdamIn.τ).loc Cert.AdamIn.main_arg2)) (m ((c.tc : Thread Cert.AdamIn.nD Cert.AdamIn.τ).loc Cert.AdamIn.main_arg3)) (m ((c.tc : Thread Cert.AdamIn.nD Cert.AdamIn.τ).loc Cert.AdamIn.main_arg4)) (m ((c.tc : Thread Cert.AdamIn.nD Cert.AdamIn.τ).loc Cert.AdamIn.main_arg5))) = (fun _ => 1#1)

def Pre_AdamInIdeal [hPre_device_in : Cert.Pre_device_in.Facts] (m : (ℓ : Loc Cert.AdamInIdeal.nD Cert.AdamInIdeal.τ Cert.AdamInIdeal.sig) → Buf (Elt Ideal) ℓ) : Prop :=
  ∀ c : Dev Cert.AdamInIdeal.nD,
    (Cert.Pre_device_in.fn (F := Ideal) (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)) (m ((c.tc : Thread Cert.AdamInIdeal.nD Cert.AdamInIdeal.τ).loc Cert.AdamInIdeal.main_arg4)) (m ((c.tc : Thread Cert.AdamInIdeal.nD Cert.AdamInIdeal.τ).loc Cert.AdamInIdeal.main_arg5))) = (fun _ => 1#1)

def Pre_AdamInRefIdeal (m : (ℓ : Loc Cert.AdamInRefIdeal.nD Cert.AdamInRefIdeal.τ Cert.AdamInRefIdeal.sig) → Buf (Elt Ideal) ℓ) : Prop :=
  True

def Pre_AdamInRefIdeal_device_in [hPre_device_in : Cert.Pre_device_in.Facts] (m : (ℓ : Loc Cert.AdamInRefIdeal.nD Cert.AdamInRefIdeal.τ Cert.AdamInRefIdeal.sig) → Buf (Elt Ideal) ℓ) : Prop :=
  ∀ c : Dev Cert.AdamInRefIdeal.nD,
    (Cert.Pre_device_in.fn (F := Ideal) (m ((c.tc : Thread Cert.AdamInRefIdeal.nD Cert.AdamInRefIdeal.τ).loc Cert.AdamInRefIdeal.main_arg0)) (m ((c.tc : Thread Cert.AdamInRefIdeal.nD Cert.AdamInRefIdeal.τ).loc Cert.AdamInRefIdeal.main_arg1)) (m ((c.tc : Thread Cert.AdamInRefIdeal.nD Cert.AdamInRefIdeal.τ).loc Cert.AdamInRefIdeal.main_arg2)) (m ((c.tc : Thread Cert.AdamInRefIdeal.nD Cert.AdamInRefIdeal.τ).loc Cert.AdamInRefIdeal.main_arg3)) (m ((c.tc : Thread Cert.AdamInRefIdeal.nD Cert.AdamInRefIdeal.τ).loc Cert.AdamInRefIdeal.main_arg4)) (m ((c.tc : Thread Cert.AdamInRefIdeal.nD Cert.AdamInRefIdeal.τ).loc Cert.AdamInRefIdeal.main_arg5))) = (fun _ => 1#1)

def Pre_AdamOut [hPre_device_out : Cert.Pre_device_out.Facts] (m : (ℓ : Loc Cert.AdamOut.nD Cert.AdamOut.τ Cert.AdamOut.sig) → Buf (Elt Bits) ℓ) : Prop :=
  ∀ c : Dev Cert.AdamOut.nD,
    (Cert.Pre_device_out.fn (F := Bits) (m ((c.tc : Thread Cert.AdamOut.nD Cert.AdamOut.τ).loc Cert.AdamOut.main_arg0)) (m ((c.tc : Thread Cert.AdamOut.nD Cert.AdamOut.τ).loc Cert.AdamOut.main_arg1)) (m ((c.tc : Thread Cert.AdamOut.nD Cert.AdamOut.τ).loc Cert.AdamOut.main_arg2)) (m ((c.tc : Thread Cert.AdamOut.nD Cert.AdamOut.τ).loc Cert.AdamOut.main_arg3)) (m ((c.tc : Thread Cert.AdamOut.nD Cert.AdamOut.τ).loc Cert.AdamOut.main_arg4)) (m ((c.tc : Thread Cert.AdamOut.nD Cert.AdamOut.τ).loc Cert.AdamOut.main_arg5))) = (fun _ => 1#1)

def Pre_AdamOutIdeal [hPre_device_out : Cert.Pre_device_out.Facts] (m : (ℓ : Loc Cert.AdamOutIdeal.nD Cert.AdamOutIdeal.τ Cert.AdamOutIdeal.sig) → Buf (Elt Ideal) ℓ) : Prop :=
  ∀ c : Dev Cert.AdamOutIdeal.nD,
    (Cert.Pre_device_out.fn (F := Ideal) (m ((c.tc : Thread Cert.AdamOutIdeal.nD Cert.AdamOutIdeal.τ).loc Cert.AdamOutIdeal.main_arg0)) (m ((c.tc : Thread Cert.AdamOutIdeal.nD Cert.AdamOutIdeal.τ).loc Cert.AdamOutIdeal.main_arg1)) (m ((c.tc : Thread Cert.AdamOutIdeal.nD Cert.AdamOutIdeal.τ).loc Cert.AdamOutIdeal.main_arg2)) (m ((c.tc : Thread Cert.AdamOutIdeal.nD Cert.AdamOutIdeal.τ).loc Cert.AdamOutIdeal.main_arg3)) (m ((c.tc : Thread Cert.AdamOutIdeal.nD Cert.AdamOutIdeal.τ).loc Cert.AdamOutIdeal.main_arg4)) (m ((c.tc : Thread Cert.AdamOutIdeal.nD Cert.AdamOutIdeal.τ).loc Cert.AdamOutIdeal.main_arg5))) = (fun _ => 1#1)

def Pre_AdamOutRefIdeal (m : (ℓ : Loc Cert.AdamOutRefIdeal.nD Cert.AdamOutRefIdeal.τ Cert.AdamOutRefIdeal.sig) → Buf (Elt Ideal) ℓ) : Prop :=
  True

def Pre_AdamOutRefIdeal_device_out [hPre_device_out : Cert.Pre_device_out.Facts] (m : (ℓ : Loc Cert.AdamOutRefIdeal.nD Cert.AdamOutRefIdeal.τ Cert.AdamOutRefIdeal.sig) → Buf (Elt Ideal) ℓ) : Prop :=
  ∀ c : Dev Cert.AdamOutRefIdeal.nD,
    (Cert.Pre_device_out.fn (F := Ideal) (m ((c.tc : Thread Cert.AdamOutRefIdeal.nD Cert.AdamOutRefIdeal.τ).loc Cert.AdamOutRefIdeal.main_arg0)) (m ((c.tc : Thread Cert.AdamOutRefIdeal.nD Cert.AdamOutRefIdeal.τ).loc Cert.AdamOutRefIdeal.main_arg1)) (m ((c.tc : Thread Cert.AdamOutRefIdeal.nD Cert.AdamOutRefIdeal.τ).loc Cert.AdamOutRefIdeal.main_arg2)) (m ((c.tc : Thread Cert.AdamOutRefIdeal.nD Cert.AdamOutRefIdeal.τ).loc Cert.AdamOutRefIdeal.main_arg3)) (m ((c.tc : Thread Cert.AdamOutRefIdeal.nD Cert.AdamOutRefIdeal.τ).loc Cert.AdamOutRefIdeal.main_arg4)) (m ((c.tc : Thread Cert.AdamOutRefIdeal.nD Cert.AdamOutRefIdeal.τ).loc Cert.AdamOutRefIdeal.main_arg5))) = (fun _ => 1#1)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInIdeal_pre_finite [hBwdInIdeal : Cert.BwdInIdeal.Facts] [hPre_finite : Cert.Pre_finite.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal_finite m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ r.2.sem = fun _ => 0)

def quiescent_BwdInRefIdeal [hBwdInRefIdeal : Cert.BwdInRefIdeal.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_BwdInRefIdeal_pre_finite [hBwdInRefIdeal : Cert.BwdInRefIdeal.Facts] [hPre_finite : Cert.Pre_finite.Facts] : Prop :=
  ∀ (m : (ℓ : Loc Cert.BwdInRefIdeal.nD Cert.BwdInRefIdeal.τ Cert.BwdInRefIdeal.sig) → Buf (Elt Ideal) ℓ) (g : Dev Cert.BwdInRefIdeal.nD → PrngReg), Pre_BwdInRefIdeal_finite m →
    θ_run (Cert.BwdInRefIdeal.defs (F := Ideal)) (onTc (τ := Cert.BwdInRefIdeal.τ) (Cert.BwdInRefIdeal.main (F := Ideal))) ⟨m, fun _ => 0, g⟩ (fun r => (∀ c : Dev Cert.BwdInRefIdeal.nD,
      r.2.mem ((c.tc : Thread Cert.BwdInRefIdeal.nD Cert.BwdInRefIdeal.τ).loc Cert.BwdInRefIdeal.main_arg0) = m ((c.tc : Thread Cert.BwdInRefIdeal.nD Cert.BwdInRefIdeal.τ).loc Cert.BwdInRefIdeal.main_arg0)
      ∧ r.2.mem ((c.tc : Thread Cert.BwdInRefIdeal.nD Cert.BwdInRefIdeal.τ).loc Cert.BwdInRefIdeal.main_arg1) = m ((c.tc : Thread Cert.BwdInRefIdeal.nD Cert.BwdInRefIdeal.τ).loc Cert.BwdInRefIdeal.main_arg1)
      ∧ r.2.mem ((c.tc : Thread Cert.BwdInRefIdeal.nD Cert.BwdInRefIdeal.τ).loc Cert.BwdInRefIdeal.main_arg2) = m ((c.tc : Thread Cert.BwdInRefIdeal.nD Cert.BwdInRefIdeal.τ).loc Cert.BwdInRefIdeal.main_arg2)
      ∧ r.2.mem ((c.tc : Thread Cert.BwdInRefIdeal.nD Cert.BwdInRefIdeal.τ).loc Cert.BwdInRefIdeal.main_arg3) = m ((c.tc : Thread Cert.BwdInRefIdeal.nD Cert.BwdInRefIdeal.τ).loc Cert.BwdInRefIdeal.main_arg3)
      ∧ r.2.mem ((c.tc : Thread Cert.BwdInRefIdeal.nD Cert.BwdInRefIdeal.τ).loc Cert.BwdInRefIdeal.main_arg4) = m ((c.tc : Thread Cert.BwdInRefIdeal.nD Cert.BwdInRefIdeal.τ).loc Cert.BwdInRefIdeal.main_arg4)
      ∧ r.2.mem ((c.tc : Thread Cert.BwdInRefIdeal.nD Cert.BwdInRefIdeal.τ).loc Cert.BwdInRefIdeal.main_arg5) = m ((c.tc : Thread Cert.BwdInRefIdeal.nD Cert.BwdInRefIdeal.τ).loc Cert.BwdInRefIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3)
      ∧ r.2.mem ((c.tc : Thread Cert.Fwd.nD Cert.Fwd.τ).loc Cert.Fwd.main_arg4) = m ((c.tc : Thread Cert.Fwd.nD Cert.Fwd.τ).loc Cert.Fwd.main_arg4))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
      ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3)
      ∧ r.2.mem ((c.tc : Thread Cert.FwdRefIdeal.nD Cert.FwdRefIdeal.τ).loc Cert.FwdRefIdeal.main_arg4) = m ((c.tc : Thread Cert.FwdRefIdeal.nD Cert.FwdRefIdeal.τ).loc Cert.FwdRefIdeal.main_arg4))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3)
      ∧ r.2.mem ((c.tc : Thread Cert.AdamAdaRefIdeal.nD Cert.AdamAdaRefIdeal.τ).loc Cert.AdamAdaRefIdeal.main_arg4) = m ((c.tc : Thread Cert.AdamAdaRefIdeal.nD Cert.AdamAdaRefIdeal.τ).loc Cert.AdamAdaRefIdeal.main_arg4))
      ∧ r.2.sem = fun _ => 0)

def quiescent_AdamRow [hAdamRow : Cert.AdamRow.Facts] : Prop :=
  ∀ (m : (ℓ : Loc Cert.AdamRow.nD Cert.AdamRow.τ Cert.AdamRow.sig) → Buf (Elt Bits) ℓ) (g : Dev Cert.AdamRow.nD → PrngReg), Pre_AdamRow m →
    θ_run (Cert.AdamRow.defs (F := Bits)) (onTc (τ := Cert.AdamRow.τ) (Cert.AdamRow.main (F := Bits))) ⟨m, fun _ => 0, g⟩ (fun r => (∀ c : Dev Cert.AdamRow.nD,
      r.2.mem ((c.tc : Thread Cert.AdamRow.nD Cert.AdamRow.τ).loc Cert.AdamRow.main_arg0) = m ((c.tc : Thread Cert.AdamRow.nD Cert.AdamRow.τ).loc Cert.AdamRow.main_arg0)
      ∧ r.2.mem ((c.tc : Thread Cert.AdamRow.nD Cert.AdamRow.τ).loc Cert.AdamRow.main_arg1) = m ((c.tc : Thread Cert.AdamRow.nD Cert.AdamRow.τ).loc Cert.AdamRow.main_arg1)
      ∧ r.2.mem ((c.tc : Thread Cert.AdamRow.nD Cert.AdamRow.τ).loc Cert.AdamRow.main_arg2) = m ((c.tc : Thread Cert.AdamRow.nD Cert.AdamRow.τ).loc Cert.AdamRow.main_arg2)
      ∧ r.2.mem ((c.tc : Thread Cert.AdamRow.nD Cert.AdamRow.τ).loc Cert.AdamRow.main_arg3) = m ((c.tc : Thread Cert.AdamRow.nD Cert.AdamRow.τ).loc Cert.AdamRow.main_arg3)
      ∧ r.2.mem ((c.tc : Thread Cert.AdamRow.nD Cert.AdamRow.τ).loc Cert.AdamRow.main_arg4) = m ((c.tc : Thread Cert.AdamRow.nD Cert.AdamRow.τ).loc Cert.AdamRow.main_arg4)
      ∧ r.2.mem ((c.tc : Thread Cert.AdamRow.nD Cert.AdamRow.τ).loc Cert.AdamRow.main_arg5) = m ((c.tc : Thread Cert.AdamRow.nD Cert.AdamRow.τ).loc Cert.AdamRow.main_arg5)
      ∧ r.2.mem ((c.tc : Thread Cert.AdamRow.nD Cert.AdamRow.τ).loc Cert.AdamRow.main_arg6) = m ((c.tc : Thread Cert.AdamRow.nD Cert.AdamRow.τ).loc Cert.AdamRow.main_arg6)
      ∧ r.2.mem ((c.tc : Thread Cert.AdamRow.nD Cert.AdamRow.τ).loc Cert.AdamRow.main_arg7) = m ((c.tc : Thread Cert.AdamRow.nD Cert.AdamRow.τ).loc Cert.AdamRow.main_arg7))
      ∧ r.2.sem = fun _ => 0)

def quiescent_AdamRowIdeal [hAdamRowIdeal : Cert.AdamRowIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg), Pre_AdamRowIdeal m →
    θ_run (Cert.AdamRowIdeal.defs (F := Ideal)) (onTc (τ := Cert.AdamRowIdeal.τ) (Cert.AdamRowIdeal.main (F := Ideal))) ⟨m, fun _ => 0, g⟩ (fun r => (∀ c : Dev Cert.AdamRowIdeal.nD,
      r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
      ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
      ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
      ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3)
      ∧ r.2.mem ((c.tc : Thread Cert.AdamRowIdeal.nD Cert.AdamRowIdeal.τ).loc Cert.AdamRowIdeal.main_arg4) = m ((c.tc : Thread Cert.AdamRowIdeal.nD Cert.AdamRowIdeal.τ).loc Cert.AdamRowIdeal.main_arg4)
      ∧ r.2.mem ((c.tc : Thread Cert.AdamRowIdeal.nD Cert.AdamRowIdeal.τ).loc Cert.AdamRowIdeal.main_arg5) = m ((c.tc : Thread Cert.AdamRowIdeal.nD Cert.AdamRowIdeal.τ).loc Cert.AdamRowIdeal.main_arg5)
      ∧ r.2.mem ((c.tc : Thread Cert.AdamRowIdeal.nD Cert.AdamRowIdeal.τ).loc Cert.AdamRowIdeal.main_arg6) = m ((c.tc : Thread Cert.AdamRowIdeal.nD Cert.AdamRowIdeal.τ).loc Cert.AdamRowIdeal.main_arg6)
      ∧ r.2.mem ((c.tc : Thread Cert.AdamRowIdeal.nD Cert.AdamRowIdeal.τ).loc Cert.AdamRowIdeal.main_arg7) = m ((c.tc : Thread Cert.AdamRowIdeal.nD Cert.AdamRowIdeal.τ).loc Cert.AdamRowIdeal.main_arg7))
      ∧ r.2.sem = fun _ => 0)

def quiescent_AdamRowRefIdeal [hAdamRowRefIdeal : Cert.AdamRowRefIdeal.Facts] : Prop :=
  ∀ (m : (ℓ : Loc Cert.AdamRowRefIdeal.nD Cert.AdamRowRefIdeal.τ Cert.AdamRowRefIdeal.sig) → Buf (Elt Ideal) ℓ) (g : Dev Cert.AdamRowRefIdeal.nD → PrngReg), Pre_AdamRowRefIdeal m →
    θ_run (Cert.AdamRowRefIdeal.defs (F := Ideal)) (onTc (τ := Cert.AdamRowRefIdeal.τ) (Cert.AdamRowRefIdeal.main (F := Ideal))) ⟨m, fun _ => 0, g⟩ (fun r => (∀ c : Dev Cert.AdamRowRefIdeal.nD,
      r.2.mem ((c.tc : Thread Cert.AdamRowRefIdeal.nD Cert.AdamRowRefIdeal.τ).loc Cert.AdamRowRefIdeal.main_arg0) = m ((c.tc : Thread Cert.AdamRowRefIdeal.nD Cert.AdamRowRefIdeal.τ).loc Cert.AdamRowRefIdeal.main_arg0)
      ∧ r.2.mem ((c.tc : Thread Cert.AdamRowRefIdeal.nD Cert.AdamRowRefIdeal.τ).loc Cert.AdamRowRefIdeal.main_arg1) = m ((c.tc : Thread Cert.AdamRowRefIdeal.nD Cert.AdamRowRefIdeal.τ).loc Cert.AdamRowRefIdeal.main_arg1)
      ∧ r.2.mem ((c.tc : Thread Cert.AdamRowRefIdeal.nD Cert.AdamRowRefIdeal.τ).loc Cert.AdamRowRefIdeal.main_arg2) = m ((c.tc : Thread Cert.AdamRowRefIdeal.nD Cert.AdamRowRefIdeal.τ).loc Cert.AdamRowRefIdeal.main_arg2)
      ∧ r.2.mem ((c.tc : Thread Cert.AdamRowRefIdeal.nD Cert.AdamRowRefIdeal.τ).loc Cert.AdamRowRefIdeal.main_arg3) = m ((c.tc : Thread Cert.AdamRowRefIdeal.nD Cert.AdamRowRefIdeal.τ).loc Cert.AdamRowRefIdeal.main_arg3)
      ∧ r.2.mem ((c.tc : Thread Cert.AdamRowRefIdeal.nD Cert.AdamRowRefIdeal.τ).loc Cert.AdamRowRefIdeal.main_arg4) = m ((c.tc : Thread Cert.AdamRowRefIdeal.nD Cert.AdamRowRefIdeal.τ).loc Cert.AdamRowRefIdeal.main_arg4)
      ∧ r.2.mem ((c.tc : Thread Cert.AdamRowRefIdeal.nD Cert.AdamRowRefIdeal.τ).loc Cert.AdamRowRefIdeal.main_arg5) = m ((c.tc : Thread Cert.AdamRowRefIdeal.nD Cert.AdamRowRefIdeal.τ).loc Cert.AdamRowRefIdeal.main_arg5)
      ∧ r.2.mem ((c.tc : Thread Cert.AdamRowRefIdeal.nD Cert.AdamRowRefIdeal.τ).loc Cert.AdamRowRefIdeal.main_arg6) = m ((c.tc : Thread Cert.AdamRowRefIdeal.nD Cert.AdamRowRefIdeal.τ).loc Cert.AdamRowRefIdeal.main_arg6)
      ∧ r.2.mem ((c.tc : Thread Cert.AdamRowRefIdeal.nD Cert.AdamRowRefIdeal.τ).loc Cert.AdamRowRefIdeal.main_arg7) = m ((c.tc : Thread Cert.AdamRowRefIdeal.nD Cert.AdamRowRefIdeal.τ).loc Cert.AdamRowRefIdeal.main_arg7))
      ∧ r.2.sem = fun _ => 0)

def quiescent_AdamHalf [hAdamHalf : Cert.AdamHalf.Facts] : Prop :=
  ∀ (m : (ℓ : Loc Cert.AdamHalf.nD Cert.AdamHalf.τ Cert.AdamHalf.sig) → Buf (Elt Bits) ℓ) (g : Dev Cert.AdamHalf.nD → PrngReg), Pre_AdamHalf m →
    θ_run (Cert.AdamHalf.defs (F := Bits)) (onTc (τ := Cert.AdamHalf.τ) (Cert.AdamHalf.main (F := Bits))) ⟨m, fun _ => 0, g⟩ (fun r => (∀ c : Dev Cert.AdamHalf.nD,
      r.2.mem ((c.tc : Thread Cert.AdamHalf.nD Cert.AdamHalf.τ).loc Cert.AdamHalf.main_arg0) = m ((c.tc : Thread Cert.AdamHalf.nD Cert.AdamHalf.τ).loc Cert.AdamHalf.main_arg0)
      ∧ r.2.mem ((c.tc : Thread Cert.AdamHalf.nD Cert.AdamHalf.τ).loc Cert.AdamHalf.main_arg1) = m ((c.tc : Thread Cert.AdamHalf.nD Cert.AdamHalf.τ).loc Cert.AdamHalf.main_arg1)
      ∧ r.2.mem ((c.tc : Thread Cert.AdamHalf.nD Cert.AdamHalf.τ).loc Cert.AdamHalf.main_arg2) = m ((c.tc : Thread Cert.AdamHalf.nD Cert.AdamHalf.τ).loc Cert.AdamHalf.main_arg2)
      ∧ r.2.mem ((c.tc : Thread Cert.AdamHalf.nD Cert.AdamHalf.τ).loc Cert.AdamHalf.main_arg3) = m ((c.tc : Thread Cert.AdamHalf.nD Cert.AdamHalf.τ).loc Cert.AdamHalf.main_arg3)
      ∧ r.2.mem ((c.tc : Thread Cert.AdamHalf.nD Cert.AdamHalf.τ).loc Cert.AdamHalf.main_arg4) = m ((c.tc : Thread Cert.AdamHalf.nD Cert.AdamHalf.τ).loc Cert.AdamHalf.main_arg4)
      ∧ r.2.mem ((c.tc : Thread Cert.AdamHalf.nD Cert.AdamHalf.τ).loc Cert.AdamHalf.main_arg5) = m ((c.tc : Thread Cert.AdamHalf.nD Cert.AdamHalf.τ).loc Cert.AdamHalf.main_arg5)
      ∧ r.2.mem ((c.tc : Thread Cert.AdamHalf.nD Cert.AdamHalf.τ).loc Cert.AdamHalf.main_arg6) = m ((c.tc : Thread Cert.AdamHalf.nD Cert.AdamHalf.τ).loc Cert.AdamHalf.main_arg6)
      ∧ r.2.mem ((c.tc : Thread Cert.AdamHalf.nD Cert.AdamHalf.τ).loc Cert.AdamHalf.main_arg7) = m ((c.tc : Thread Cert.AdamHalf.nD Cert.AdamHalf.τ).loc Cert.AdamHalf.main_arg7))
      ∧ r.2.sem = fun _ => 0)

def quiescent_AdamHalfIdeal [hAdamHalfIdeal : Cert.AdamHalfIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg), Pre_AdamHalfIdeal m →
    θ_run (Cert.AdamHalfIdeal.defs (F := Ideal)) (onTc (τ := Cert.AdamHalfIdeal.τ) (Cert.AdamHalfIdeal.main (F := Ideal))) ⟨m, fun _ => 0, g⟩ (fun r => (∀ c : Dev Cert.AdamHalfIdeal.nD,
      r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
      ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
      ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
      ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3)
      ∧ r.2.mem ((c.tc : Thread Cert.AdamHalfIdeal.nD Cert.AdamHalfIdeal.τ).loc Cert.AdamHalfIdeal.main_arg4) = m ((c.tc : Thread Cert.AdamHalfIdeal.nD Cert.AdamHalfIdeal.τ).loc Cert.AdamHalfIdeal.main_arg4)
      ∧ r.2.mem ((c.tc : Thread Cert.AdamHalfIdeal.nD Cert.AdamHalfIdeal.τ).loc Cert.AdamHalfIdeal.main_arg5) = m ((c.tc : Thread Cert.AdamHalfIdeal.nD Cert.AdamHalfIdeal.τ).loc Cert.AdamHalfIdeal.main_arg5)
      ∧ r.2.mem ((c.tc : Thread Cert.AdamHalfIdeal.nD Cert.AdamHalfIdeal.τ).loc Cert.AdamHalfIdeal.main_arg6) = m ((c.tc : Thread Cert.AdamHalfIdeal.nD Cert.AdamHalfIdeal.τ).loc Cert.AdamHalfIdeal.main_arg6)
      ∧ r.2.mem ((c.tc : Thread Cert.AdamHalfIdeal.nD Cert.AdamHalfIdeal.τ).loc Cert.AdamHalfIdeal.main_arg7) = m ((c.tc : Thread Cert.AdamHalfIdeal.nD Cert.AdamHalfIdeal.τ).loc Cert.AdamHalfIdeal.main_arg7))
      ∧ r.2.sem = fun _ => 0)

def quiescent_AdamHalfRefIdeal [hAdamHalfRefIdeal : Cert.AdamHalfRefIdeal.Facts] : Prop :=
  ∀ (m : (ℓ : Loc Cert.AdamHalfRefIdeal.nD Cert.AdamHalfRefIdeal.τ Cert.AdamHalfRefIdeal.sig) → Buf (Elt Ideal) ℓ) (g : Dev Cert.AdamHalfRefIdeal.nD → PrngReg), Pre_AdamHalfRefIdeal m →
    θ_run (Cert.AdamHalfRefIdeal.defs (F := Ideal)) (onTc (τ := Cert.AdamHalfRefIdeal.τ) (Cert.AdamHalfRefIdeal.main (F := Ideal))) ⟨m, fun _ => 0, g⟩ (fun r => (∀ c : Dev Cert.AdamHalfRefIdeal.nD,
      r.2.mem ((c.tc : Thread Cert.AdamHalfRefIdeal.nD Cert.AdamHalfRefIdeal.τ).loc Cert.AdamHalfRefIdeal.main_arg0) = m ((c.tc : Thread Cert.AdamHalfRefIdeal.nD Cert.AdamHalfRefIdeal.τ).loc Cert.AdamHalfRefIdeal.main_arg0)
      ∧ r.2.mem ((c.tc : Thread Cert.AdamHalfRefIdeal.nD Cert.AdamHalfRefIdeal.τ).loc Cert.AdamHalfRefIdeal.main_arg1) = m ((c.tc : Thread Cert.AdamHalfRefIdeal.nD Cert.AdamHalfRefIdeal.τ).loc Cert.AdamHalfRefIdeal.main_arg1)
      ∧ r.2.mem ((c.tc : Thread Cert.AdamHalfRefIdeal.nD Cert.AdamHalfRefIdeal.τ).loc Cert.AdamHalfRefIdeal.main_arg2) = m ((c.tc : Thread Cert.AdamHalfRefIdeal.nD Cert.AdamHalfRefIdeal.τ).loc Cert.AdamHalfRefIdeal.main_arg2)
      ∧ r.2.mem ((c.tc : Thread Cert.AdamHalfRefIdeal.nD Cert.AdamHalfRefIdeal.τ).loc Cert.AdamHalfRefIdeal.main_arg3) = m ((c.tc : Thread Cert.AdamHalfRefIdeal.nD Cert.AdamHalfRefIdeal.τ).loc Cert.AdamHalfRefIdeal.main_arg3)
      ∧ r.2.mem ((c.tc : Thread Cert.AdamHalfRefIdeal.nD Cert.AdamHalfRefIdeal.τ).loc Cert.AdamHalfRefIdeal.main_arg4) = m ((c.tc : Thread Cert.AdamHalfRefIdeal.nD Cert.AdamHalfRefIdeal.τ).loc Cert.AdamHalfRefIdeal.main_arg4)
      ∧ r.2.mem ((c.tc : Thread Cert.AdamHalfRefIdeal.nD Cert.AdamHalfRefIdeal.τ).loc Cert.AdamHalfRefIdeal.main_arg5) = m ((c.tc : Thread Cert.AdamHalfRefIdeal.nD Cert.AdamHalfRefIdeal.τ).loc Cert.AdamHalfRefIdeal.main_arg5)
      ∧ r.2.mem ((c.tc : Thread Cert.AdamHalfRefIdeal.nD Cert.AdamHalfRefIdeal.τ).loc Cert.AdamHalfRefIdeal.main_arg6) = m ((c.tc : Thread Cert.AdamHalfRefIdeal.nD Cert.AdamHalfRefIdeal.τ).loc Cert.AdamHalfRefIdeal.main_arg6)
      ∧ r.2.mem ((c.tc : Thread Cert.AdamHalfRefIdeal.nD Cert.AdamHalfRefIdeal.τ).loc Cert.AdamHalfRefIdeal.main_arg7) = m ((c.tc : Thread Cert.AdamHalfRefIdeal.nD Cert.AdamHalfRefIdeal.τ).loc Cert.AdamHalfRefIdeal.main_arg7))
      ∧ r.2.sem = fun _ => 0)

def quiescent_AdamWide [hAdamWide : Cert.AdamWide.Facts] : Prop :=
  ∀ (m : (ℓ : Loc Cert.AdamWide.nD Cert.AdamWide.τ Cert.AdamWide.sig) → Buf (Elt Bits) ℓ) (g : Dev Cert.AdamWide.nD → PrngReg), Pre_AdamWide m →
    θ_run (Cert.AdamWide.defs (F := Bits)) (onTc (τ := Cert.AdamWide.τ) (Cert.AdamWide.main (F := Bits))) ⟨m, fun _ => 0, g⟩ (fun r => (∀ c : Dev Cert.AdamWide.nD,
      r.2.mem ((c.tc : Thread Cert.AdamWide.nD Cert.AdamWide.τ).loc Cert.AdamWide.main_arg0) = m ((c.tc : Thread Cert.AdamWide.nD Cert.AdamWide.τ).loc Cert.AdamWide.main_arg0)
      ∧ r.2.mem ((c.tc : Thread Cert.AdamWide.nD Cert.AdamWide.τ).loc Cert.AdamWide.main_arg1) = m ((c.tc : Thread Cert.AdamWide.nD Cert.AdamWide.τ).loc Cert.AdamWide.main_arg1)
      ∧ r.2.mem ((c.tc : Thread Cert.AdamWide.nD Cert.AdamWide.τ).loc Cert.AdamWide.main_arg2) = m ((c.tc : Thread Cert.AdamWide.nD Cert.AdamWide.τ).loc Cert.AdamWide.main_arg2)
      ∧ r.2.mem ((c.tc : Thread Cert.AdamWide.nD Cert.AdamWide.τ).loc Cert.AdamWide.main_arg3) = m ((c.tc : Thread Cert.AdamWide.nD Cert.AdamWide.τ).loc Cert.AdamWide.main_arg3)
      ∧ r.2.mem ((c.tc : Thread Cert.AdamWide.nD Cert.AdamWide.τ).loc Cert.AdamWide.main_arg4) = m ((c.tc : Thread Cert.AdamWide.nD Cert.AdamWide.τ).loc Cert.AdamWide.main_arg4)
      ∧ r.2.mem ((c.tc : Thread Cert.AdamWide.nD Cert.AdamWide.τ).loc Cert.AdamWide.main_arg5) = m ((c.tc : Thread Cert.AdamWide.nD Cert.AdamWide.τ).loc Cert.AdamWide.main_arg5)
      ∧ r.2.mem ((c.tc : Thread Cert.AdamWide.nD Cert.AdamWide.τ).loc Cert.AdamWide.main_arg6) = m ((c.tc : Thread Cert.AdamWide.nD Cert.AdamWide.τ).loc Cert.AdamWide.main_arg6)
      ∧ r.2.mem ((c.tc : Thread Cert.AdamWide.nD Cert.AdamWide.τ).loc Cert.AdamWide.main_arg7) = m ((c.tc : Thread Cert.AdamWide.nD Cert.AdamWide.τ).loc Cert.AdamWide.main_arg7))
      ∧ r.2.sem = fun _ => 0)

def quiescent_AdamWideIdeal [hAdamWideIdeal : Cert.AdamWideIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg), Pre_AdamWideIdeal m →
    θ_run (Cert.AdamWideIdeal.defs (F := Ideal)) (onTc (τ := Cert.AdamWideIdeal.τ) (Cert.AdamWideIdeal.main (F := Ideal))) ⟨m, fun _ => 0, g⟩ (fun r => (∀ c : Dev Cert.AdamWideIdeal.nD,
      r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
      ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
      ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
      ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3)
      ∧ r.2.mem ((c.tc : Thread Cert.AdamWideIdeal.nD Cert.AdamWideIdeal.τ).loc Cert.AdamWideIdeal.main_arg4) = m ((c.tc : Thread Cert.AdamWideIdeal.nD Cert.AdamWideIdeal.τ).loc Cert.AdamWideIdeal.main_arg4)
      ∧ r.2.mem ((c.tc : Thread Cert.AdamWideIdeal.nD Cert.AdamWideIdeal.τ).loc Cert.AdamWideIdeal.main_arg5) = m ((c.tc : Thread Cert.AdamWideIdeal.nD Cert.AdamWideIdeal.τ).loc Cert.AdamWideIdeal.main_arg5)
      ∧ r.2.mem ((c.tc : Thread Cert.AdamWideIdeal.nD Cert.AdamWideIdeal.τ).loc Cert.AdamWideIdeal.main_arg6) = m ((c.tc : Thread Cert.AdamWideIdeal.nD Cert.AdamWideIdeal.τ).loc Cert.AdamWideIdeal.main_arg6)
      ∧ r.2.mem ((c.tc : Thread Cert.AdamWideIdeal.nD Cert.AdamWideIdeal.τ).loc Cert.AdamWideIdeal.main_arg7) = m ((c.tc : Thread Cert.AdamWideIdeal.nD Cert.AdamWideIdeal.τ).loc Cert.AdamWideIdeal.main_arg7))
      ∧ r.2.sem = fun _ => 0)

def quiescent_AdamWideRefIdeal [hAdamWideRefIdeal : Cert.AdamWideRefIdeal.Facts] : Prop :=
  ∀ (m : (ℓ : Loc Cert.AdamWideRefIdeal.nD Cert.AdamWideRefIdeal.τ Cert.AdamWideRefIdeal.sig) → Buf (Elt Ideal) ℓ) (g : Dev Cert.AdamWideRefIdeal.nD → PrngReg), Pre_AdamWideRefIdeal m →
    θ_run (Cert.AdamWideRefIdeal.defs (F := Ideal)) (onTc (τ := Cert.AdamWideRefIdeal.τ) (Cert.AdamWideRefIdeal.main (F := Ideal))) ⟨m, fun _ => 0, g⟩ (fun r => (∀ c : Dev Cert.AdamWideRefIdeal.nD,
      r.2.mem ((c.tc : Thread Cert.AdamWideRefIdeal.nD Cert.AdamWideRefIdeal.τ).loc Cert.AdamWideRefIdeal.main_arg0) = m ((c.tc : Thread Cert.AdamWideRefIdeal.nD Cert.AdamWideRefIdeal.τ).loc Cert.AdamWideRefIdeal.main_arg0)
      ∧ r.2.mem ((c.tc : Thread Cert.AdamWideRefIdeal.nD Cert.AdamWideRefIdeal.τ).loc Cert.AdamWideRefIdeal.main_arg1) = m ((c.tc : Thread Cert.AdamWideRefIdeal.nD Cert.AdamWideRefIdeal.τ).loc Cert.AdamWideRefIdeal.main_arg1)
      ∧ r.2.mem ((c.tc : Thread Cert.AdamWideRefIdeal.nD Cert.AdamWideRefIdeal.τ).loc Cert.AdamWideRefIdeal.main_arg2) = m ((c.tc : Thread Cert.AdamWideRefIdeal.nD Cert.AdamWideRefIdeal.τ).loc Cert.AdamWideRefIdeal.main_arg2)
      ∧ r.2.mem ((c.tc : Thread Cert.AdamWideRefIdeal.nD Cert.AdamWideRefIdeal.τ).loc Cert.AdamWideRefIdeal.main_arg3) = m ((c.tc : Thread Cert.AdamWideRefIdeal.nD Cert.AdamWideRefIdeal.τ).loc Cert.AdamWideRefIdeal.main_arg3)
      ∧ r.2.mem ((c.tc : Thread Cert.AdamWideRefIdeal.nD Cert.AdamWideRefIdeal.τ).loc Cert.AdamWideRefIdeal.main_arg4) = m ((c.tc : Thread Cert.AdamWideRefIdeal.nD Cert.AdamWideRefIdeal.τ).loc Cert.AdamWideRefIdeal.main_arg4)
      ∧ r.2.mem ((c.tc : Thread Cert.AdamWideRefIdeal.nD Cert.AdamWideRefIdeal.τ).loc Cert.AdamWideRefIdeal.main_arg5) = m ((c.tc : Thread Cert.AdamWideRefIdeal.nD Cert.AdamWideRefIdeal.τ).loc Cert.AdamWideRefIdeal.main_arg5)
      ∧ r.2.mem ((c.tc : Thread Cert.AdamWideRefIdeal.nD Cert.AdamWideRefIdeal.τ).loc Cert.AdamWideRefIdeal.main_arg6) = m ((c.tc : Thread Cert.AdamWideRefIdeal.nD Cert.AdamWideRefIdeal.τ).loc Cert.AdamWideRefIdeal.main_arg6)
      ∧ r.2.mem ((c.tc : Thread Cert.AdamWideRefIdeal.nD Cert.AdamWideRefIdeal.τ).loc Cert.AdamWideRefIdeal.main_arg7) = m ((c.tc : Thread Cert.AdamWideRefIdeal.nD Cert.AdamWideRefIdeal.τ).loc Cert.AdamWideRefIdeal.main_arg7))
      ∧ r.2.sem = fun _ => 0)

def quiescent_AdamGates [hAdamGates : Cert.AdamGates.Facts] : Prop :=
  ∀ (m : (ℓ : Loc Cert.AdamGates.nD Cert.AdamGates.τ Cert.AdamGates.sig) → Buf (Elt Bits) ℓ) (g : Dev Cert.AdamGates.nD → PrngReg), Pre_AdamGates m →
    θ_run (Cert.AdamGates.defs (F := Bits)) (onTc (τ := Cert.AdamGates.τ) (Cert.AdamGates.main (F := Bits))) ⟨m, fun _ => 0, g⟩ (fun r => (∀ c : Dev Cert.AdamGates.nD,
      r.2.mem ((c.tc : Thread Cert.AdamGates.nD Cert.AdamGates.τ).loc Cert.AdamGates.main_arg0) = m ((c.tc : Thread Cert.AdamGates.nD Cert.AdamGates.τ).loc Cert.AdamGates.main_arg0)
      ∧ r.2.mem ((c.tc : Thread Cert.AdamGates.nD Cert.AdamGates.τ).loc Cert.AdamGates.main_arg1) = m ((c.tc : Thread Cert.AdamGates.nD Cert.AdamGates.τ).loc Cert.AdamGates.main_arg1)
      ∧ r.2.mem ((c.tc : Thread Cert.AdamGates.nD Cert.AdamGates.τ).loc Cert.AdamGates.main_arg2) = m ((c.tc : Thread Cert.AdamGates.nD Cert.AdamGates.τ).loc Cert.AdamGates.main_arg2)
      ∧ r.2.mem ((c.tc : Thread Cert.AdamGates.nD Cert.AdamGates.τ).loc Cert.AdamGates.main_arg3) = m ((c.tc : Thread Cert.AdamGates.nD Cert.AdamGates.τ).loc Cert.AdamGates.main_arg3)
      ∧ r.2.mem ((c.tc : Thread Cert.AdamGates.nD Cert.AdamGates.τ).loc Cert.AdamGates.main_arg4) = m ((c.tc : Thread Cert.AdamGates.nD Cert.AdamGates.τ).loc Cert.AdamGates.main_arg4)
      ∧ r.2.mem ((c.tc : Thread Cert.AdamGates.nD Cert.AdamGates.τ).loc Cert.AdamGates.main_arg5) = m ((c.tc : Thread Cert.AdamGates.nD Cert.AdamGates.τ).loc Cert.AdamGates.main_arg5)
      ∧ r.2.mem ((c.tc : Thread Cert.AdamGates.nD Cert.AdamGates.τ).loc Cert.AdamGates.main_arg6) = m ((c.tc : Thread Cert.AdamGates.nD Cert.AdamGates.τ).loc Cert.AdamGates.main_arg6)
      ∧ r.2.mem ((c.tc : Thread Cert.AdamGates.nD Cert.AdamGates.τ).loc Cert.AdamGates.main_arg7) = m ((c.tc : Thread Cert.AdamGates.nD Cert.AdamGates.τ).loc Cert.AdamGates.main_arg7))
      ∧ r.2.sem = fun _ => 0)

def quiescent_AdamGatesIdeal [hAdamGatesIdeal : Cert.AdamGatesIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg), Pre_AdamGatesIdeal m →
    θ_run (Cert.AdamGatesIdeal.defs (F := Ideal)) (onTc (τ := Cert.AdamGatesIdeal.τ) (Cert.AdamGatesIdeal.main (F := Ideal))) ⟨m, fun _ => 0, g⟩ (fun r => (∀ c : Dev Cert.AdamGatesIdeal.nD,
      r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
      ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
      ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
      ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3)
      ∧ r.2.mem ((c.tc : Thread Cert.AdamGatesIdeal.nD Cert.AdamGatesIdeal.τ).loc Cert.AdamGatesIdeal.main_arg4) = m ((c.tc : Thread Cert.AdamGatesIdeal.nD Cert.AdamGatesIdeal.τ).loc Cert.AdamGatesIdeal.main_arg4)
      ∧ r.2.mem ((c.tc : Thread Cert.AdamGatesIdeal.nD Cert.AdamGatesIdeal.τ).loc Cert.AdamGatesIdeal.main_arg5) = m ((c.tc : Thread Cert.AdamGatesIdeal.nD Cert.AdamGatesIdeal.τ).loc Cert.AdamGatesIdeal.main_arg5)
      ∧ r.2.mem ((c.tc : Thread Cert.AdamGatesIdeal.nD Cert.AdamGatesIdeal.τ).loc Cert.AdamGatesIdeal.main_arg6) = m ((c.tc : Thread Cert.AdamGatesIdeal.nD Cert.AdamGatesIdeal.τ).loc Cert.AdamGatesIdeal.main_arg6)
      ∧ r.2.mem ((c.tc : Thread Cert.AdamGatesIdeal.nD Cert.AdamGatesIdeal.τ).loc Cert.AdamGatesIdeal.main_arg7) = m ((c.tc : Thread Cert.AdamGatesIdeal.nD Cert.AdamGatesIdeal.τ).loc Cert.AdamGatesIdeal.main_arg7))
      ∧ r.2.sem = fun _ => 0)

def quiescent_AdamGatesRefIdeal [hAdamGatesRefIdeal : Cert.AdamGatesRefIdeal.Facts] : Prop :=
  ∀ (m : (ℓ : Loc Cert.AdamGatesRefIdeal.nD Cert.AdamGatesRefIdeal.τ Cert.AdamGatesRefIdeal.sig) → Buf (Elt Ideal) ℓ) (g : Dev Cert.AdamGatesRefIdeal.nD → PrngReg), Pre_AdamGatesRefIdeal m →
    θ_run (Cert.AdamGatesRefIdeal.defs (F := Ideal)) (onTc (τ := Cert.AdamGatesRefIdeal.τ) (Cert.AdamGatesRefIdeal.main (F := Ideal))) ⟨m, fun _ => 0, g⟩ (fun r => (∀ c : Dev Cert.AdamGatesRefIdeal.nD,
      r.2.mem ((c.tc : Thread Cert.AdamGatesRefIdeal.nD Cert.AdamGatesRefIdeal.τ).loc Cert.AdamGatesRefIdeal.main_arg0) = m ((c.tc : Thread Cert.AdamGatesRefIdeal.nD Cert.AdamGatesRefIdeal.τ).loc Cert.AdamGatesRefIdeal.main_arg0)
      ∧ r.2.mem ((c.tc : Thread Cert.AdamGatesRefIdeal.nD Cert.AdamGatesRefIdeal.τ).loc Cert.AdamGatesRefIdeal.main_arg1) = m ((c.tc : Thread Cert.AdamGatesRefIdeal.nD Cert.AdamGatesRefIdeal.τ).loc Cert.AdamGatesRefIdeal.main_arg1)
      ∧ r.2.mem ((c.tc : Thread Cert.AdamGatesRefIdeal.nD Cert.AdamGatesRefIdeal.τ).loc Cert.AdamGatesRefIdeal.main_arg2) = m ((c.tc : Thread Cert.AdamGatesRefIdeal.nD Cert.AdamGatesRefIdeal.τ).loc Cert.AdamGatesRefIdeal.main_arg2)
      ∧ r.2.mem ((c.tc : Thread Cert.AdamGatesRefIdeal.nD Cert.AdamGatesRefIdeal.τ).loc Cert.AdamGatesRefIdeal.main_arg3) = m ((c.tc : Thread Cert.AdamGatesRefIdeal.nD Cert.AdamGatesRefIdeal.τ).loc Cert.AdamGatesRefIdeal.main_arg3)
      ∧ r.2.mem ((c.tc : Thread Cert.AdamGatesRefIdeal.nD Cert.AdamGatesRefIdeal.τ).loc Cert.AdamGatesRefIdeal.main_arg4) = m ((c.tc : Thread Cert.AdamGatesRefIdeal.nD Cert.AdamGatesRefIdeal.τ).loc Cert.AdamGatesRefIdeal.main_arg4)
      ∧ r.2.mem ((c.tc : Thread Cert.AdamGatesRefIdeal.nD Cert.AdamGatesRefIdeal.τ).loc Cert.AdamGatesRefIdeal.main_arg5) = m ((c.tc : Thread Cert.AdamGatesRefIdeal.nD Cert.AdamGatesRefIdeal.τ).loc Cert.AdamGatesRefIdeal.main_arg5)
      ∧ r.2.mem ((c.tc : Thread Cert.AdamGatesRefIdeal.nD Cert.AdamGatesRefIdeal.τ).loc Cert.AdamGatesRefIdeal.main_arg6) = m ((c.tc : Thread Cert.AdamGatesRefIdeal.nD Cert.AdamGatesRefIdeal.τ).loc Cert.AdamGatesRefIdeal.main_arg6)
      ∧ r.2.mem ((c.tc : Thread Cert.AdamGatesRefIdeal.nD Cert.AdamGatesRefIdeal.τ).loc Cert.AdamGatesRefIdeal.main_arg7) = m ((c.tc : Thread Cert.AdamGatesRefIdeal.nD Cert.AdamGatesRefIdeal.τ).loc Cert.AdamGatesRefIdeal.main_arg7))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4)
      ∧ r.2.mem ((c.tc : Thread Cert.AdamPool.nD Cert.AdamPool.τ).loc Cert.AdamPool.main_arg5) = m ((c.tc : Thread Cert.AdamPool.nD Cert.AdamPool.τ).loc Cert.AdamPool.main_arg5)
      ∧ r.2.mem ((c.tc : Thread Cert.AdamPool.nD Cert.AdamPool.τ).loc Cert.AdamPool.main_arg6) = m ((c.tc : Thread Cert.AdamPool.nD Cert.AdamPool.τ).loc Cert.AdamPool.main_arg6)
      ∧ r.2.mem ((c.tc : Thread Cert.AdamPool.nD Cert.AdamPool.τ).loc Cert.AdamPool.main_arg7) = m ((c.tc : Thread Cert.AdamPool.nD Cert.AdamPool.τ).loc Cert.AdamPool.main_arg7))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
      ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5)
      ∧ r.2.mem ((c.tc : Thread Cert.AdamPoolIdeal.nD Cert.AdamPoolIdeal.τ).loc Cert.AdamPoolIdeal.main_arg6) = m ((c.tc : Thread Cert.AdamPoolIdeal.nD Cert.AdamPoolIdeal.τ).loc Cert.AdamPoolIdeal.main_arg6)
      ∧ r.2.mem ((c.tc : Thread Cert.AdamPoolIdeal.nD Cert.AdamPoolIdeal.τ).loc Cert.AdamPoolIdeal.main_arg7) = m ((c.tc : Thread Cert.AdamPoolIdeal.nD Cert.AdamPoolIdeal.τ).loc Cert.AdamPoolIdeal.main_arg7))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4)
      ∧ r.2.mem ((c.tc : Thread Cert.AdamPoolRefIdeal.nD Cert.AdamPoolRefIdeal.τ).loc Cert.AdamPoolRefIdeal.main_arg5) = m ((c.tc : Thread Cert.AdamPoolRefIdeal.nD Cert.AdamPoolRefIdeal.τ).loc Cert.AdamPoolRefIdeal.main_arg5)
      ∧ r.2.mem ((c.tc : Thread Cert.AdamPoolRefIdeal.nD Cert.AdamPoolRefIdeal.τ).loc Cert.AdamPoolRefIdeal.main_arg6) = m ((c.tc : Thread Cert.AdamPoolRefIdeal.nD Cert.AdamPoolRefIdeal.τ).loc Cert.AdamPoolRefIdeal.main_arg6)
      ∧ r.2.mem ((c.tc : Thread Cert.AdamPoolRefIdeal.nD Cert.AdamPoolRefIdeal.τ).loc Cert.AdamPoolRefIdeal.main_arg7) = m ((c.tc : Thread Cert.AdamPoolRefIdeal.nD Cert.AdamPoolRefIdeal.τ).loc Cert.AdamPoolRefIdeal.main_arg7))
      ∧ r.2.sem = fun _ => 0)

def quiescent_AdamIn [hAdamIn : Cert.AdamIn.Facts] [hPre_device_in : Cert.Pre_device_in.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] [hPre_device_in : Cert.Pre_device_in.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamInRefIdeal_pre_device_in [hAdamInRefIdeal : Cert.AdamInRefIdeal.Facts] [hPre_device_in : Cert.Pre_device_in.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal_device_in m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_AdamOut [hAdamOut : Cert.AdamOut.Facts] [hPre_device_out : Cert.Pre_device_out.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3)
      ∧ r.2.mem ((c.tc : Thread Cert.AdamOut.nD Cert.AdamOut.τ).loc Cert.AdamOut.main_arg4) = m ((c.tc : Thread Cert.AdamOut.nD Cert.AdamOut.τ).loc Cert.AdamOut.main_arg4)
      ∧ r.2.mem ((c.tc : Thread Cert.AdamOut.nD Cert.AdamOut.τ).loc Cert.AdamOut.main_arg5) = m ((c.tc : Thread Cert.AdamOut.nD Cert.AdamOut.τ).loc Cert.AdamOut.main_arg5))
      ∧ r.2.sem = fun _ => 0)

def quiescent_AdamOutIdeal [hAdamOutIdeal : Cert.AdamOutIdeal.Facts] [hPre_device_out : Cert.Pre_device_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
      ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
      ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def quiescent_AdamOutRefIdeal_pre_device_out [hAdamOutRefIdeal : Cert.AdamOutRefIdeal.Facts] [hPre_device_out : Cert.Pre_device_out.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal_device_out m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3)
      ∧ r.2.mem ((c.tc : Thread Cert.AdamOutRefIdeal.nD Cert.AdamOutRefIdeal.τ).loc Cert.AdamOutRefIdeal.main_arg4) = m ((c.tc : Thread Cert.AdamOutRefIdeal.nD Cert.AdamOutRefIdeal.τ).loc Cert.AdamOutRefIdeal.main_arg4)
      ∧ r.2.mem ((c.tc : Thread Cert.AdamOutRefIdeal.nD Cert.AdamOutRefIdeal.τ).loc Cert.AdamOutRefIdeal.main_arg5) = m ((c.tc : Thread Cert.AdamOutRefIdeal.nD Cert.AdamOutRefIdeal.τ).loc Cert.AdamOutRefIdeal.main_arg5))
      ∧ r.2.sem = fun _ => 0)

def preserves_BwdIn_BwdInIdeal : Prop :=
  True

def algebraic_BwdInIdeal_BwdInRefIdeal_pre_finite [hBwdInIdeal : Cert.BwdInIdeal.Facts] [hBwdInRefIdeal : Cert.BwdInRefIdeal.Facts] [hPre_finite : Cert.Pre_finite.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRefIdeal.nD Cert.BwdInRefIdeal.τ Cert.BwdInRefIdeal.sig) → Buf (Elt Ideal) ℓ) (g' : Dev Cert.BwdInRefIdeal.nD → PrngReg), Pre_BwdInIdeal_finite m →
    (∀ c : Dev Cert.BwdInIdeal.nD,
      m' ((c.tc : Thread Cert.BwdInRefIdeal.nD Cert.BwdInRefIdeal.τ).loc Cert.BwdInRefIdeal.main_arg0) = m ((c.tc : Thread Cert.BwdInIdeal.nD Cert.BwdInIdeal.τ).loc Cert.BwdInIdeal.main_arg0)
      ∧ m' ((c.tc : Thread Cert.BwdInRefIdeal.nD Cert.BwdInRefIdeal.τ).loc Cert.BwdInRefIdeal.main_arg1) = m ((c.tc : Thread Cert.BwdInIdeal.nD Cert.BwdInIdeal.τ).loc Cert.BwdInIdeal.main_arg1)
      ∧ m' ((c.tc : Thread Cert.BwdInRefIdeal.nD Cert.BwdInRefIdeal.τ).loc Cert.BwdInRefIdeal.main_arg2) = m ((c.tc : Thread Cert.BwdInIdeal.nD Cert.BwdInIdeal.τ).loc Cert.BwdInIdeal.main_arg2)
      ∧ m' ((c.tc : Thread Cert.BwdInRefIdeal.nD Cert.BwdInRefIdeal.τ).loc Cert.BwdInRefIdeal.main_arg3) = m ((c.tc : Thread Cert.BwdInIdeal.nD Cert.BwdInIdeal.τ).loc Cert.BwdInIdeal.main_arg3)
      ∧ m' ((c.tc : Thread Cert.BwdInRefIdeal.nD Cert.BwdInRefIdeal.τ).loc Cert.BwdInRefIdeal.main_arg4) = m ((c.tc : Thread Cert.BwdInIdeal.nD Cert.BwdInIdeal.τ).loc Cert.BwdInIdeal.main_arg4)
      ∧ m' ((c.tc : Thread Cert.BwdInRefIdeal.nD Cert.BwdInRefIdeal.τ).loc Cert.BwdInRefIdeal.main_arg5) = m ((c.tc : Thread Cert.BwdInIdeal.nD Cert.BwdInIdeal.τ).loc Cert.BwdInIdeal.main_arg5)) →
    ∃ (v0 : (c : Dev Cert.BwdInIdeal.nD) → Buf (Elt Ideal) ((c.tc : Thread Cert.BwdInIdeal.nD Cert.BwdInIdeal.τ).loc Cert.BwdInIdeal.main_v0_0)) (v1 : (c : Dev Cert.BwdInIdeal.nD) → Buf (Elt Ideal) ((c.tc : Thread Cert.BwdInIdeal.nD Cert.BwdInIdeal.τ).loc Cert.BwdInIdeal.main_v0_1)) (v2 : (c : Dev Cert.BwdInIdeal.nD) → Buf (Elt Ideal) ((c.tc : Thread Cert.BwdInIdeal.nD Cert.BwdInIdeal.τ).loc Cert.BwdInIdeal.main_v0_2)) (v3 : (c : Dev Cert.BwdInIdeal.nD) → Buf (Elt Ideal) ((c.tc : Thread Cert.BwdInIdeal.nD Cert.BwdInIdeal.τ).loc Cert.BwdInIdeal.main_v0_3)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v0_0) = v0 c
          ∧ r.2.mem ((c.tc : Thread Cert.BwdInIdeal.nD Cert.BwdInIdeal.τ).loc Cert.BwdInIdeal.main_v0_1) = v1 c
          ∧ r.2.mem ((c.tc : Thread Cert.BwdInIdeal.nD Cert.BwdInIdeal.τ).loc Cert.BwdInIdeal.main_v0_2) = v2 c
          ∧ r.2.mem ((c.tc : Thread Cert.BwdInIdeal.nD Cert.BwdInIdeal.τ).loc Cert.BwdInIdeal.main_v0_3) = v3 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5))
      ∧ θ_run (Cert.BwdInRefIdeal.defs (F := Ideal)) (onTc (τ := Cert.BwdInRefIdeal.τ) (Cert.BwdInRefIdeal.main (F := Ideal))) ⟨m', fun _ => 0, g'⟩ (fun r => ∀ c : Dev Cert.BwdInRefIdeal.nD,
          r.2.mem ((c.tc : Thread Cert.BwdInRefIdeal.nD Cert.BwdInRefIdeal.τ).loc Cert.BwdInRefIdeal.main_v53) = v0 c
          ∧ r.2.mem ((c.tc : Thread Cert.BwdInRefIdeal.nD Cert.BwdInRefIdeal.τ).loc Cert.BwdInRefIdeal.main_v28) = v1 c
          ∧ r.2.mem ((c.tc : Thread Cert.BwdInRefIdeal.nD Cert.BwdInRefIdeal.τ).loc Cert.BwdInRefIdeal.main_v31) = v2 c
          ∧ r.2.mem ((c.tc : Thread Cert.BwdInRefIdeal.nD Cert.BwdInRefIdeal.τ).loc Cert.BwdInRefIdeal.main_v36) = v3 c
          ∧ r.2.mem ((c.tc : Thread Cert.BwdInRefIdeal.nD Cert.BwdInRefIdeal.τ).loc Cert.BwdInRefIdeal.main_arg0) = m' ((c.tc : Thread Cert.BwdInRefIdeal.nD Cert.BwdInRefIdeal.τ).loc Cert.BwdInRefIdeal.main_arg0)
          ∧ r.2.mem ((c.tc : Thread Cert.BwdInRefIdeal.nD Cert.BwdInRefIdeal.τ).loc Cert.BwdInRefIdeal.main_arg1) = m' ((c.tc : Thread Cert.BwdInRefIdeal.nD Cert.BwdInRefIdeal.τ).loc Cert.BwdInRefIdeal.main_arg1)
          ∧ r.2.mem ((c.tc : Thread Cert.BwdInRefIdeal.nD Cert.BwdInRefIdeal.τ).loc Cert.BwdInRefIdeal.main_arg2) = m' ((c.tc : Thread Cert.BwdInRefIdeal.nD Cert.BwdInRefIdeal.τ).loc Cert.BwdInRefIdeal.main_arg2)
          ∧ r.2.mem ((c.tc : Thread Cert.BwdInRefIdeal.nD Cert.BwdInRefIdeal.τ).loc Cert.BwdInRefIdeal.main_arg3) = m' ((c.tc : Thread Cert.BwdInRefIdeal.nD Cert.BwdInRefIdeal.τ).loc Cert.BwdInRefIdeal.main_arg3)
          ∧ r.2.mem ((c.tc : Thread Cert.BwdInRefIdeal.nD Cert.BwdInRefIdeal.τ).loc Cert.BwdInRefIdeal.main_arg4) = m' ((c.tc : Thread Cert.BwdInRefIdeal.nD Cert.BwdInRefIdeal.τ).loc Cert.BwdInRefIdeal.main_arg4)
          ∧ r.2.mem ((c.tc : Thread Cert.BwdInRefIdeal.nD Cert.BwdInRefIdeal.τ).loc Cert.BwdInRefIdeal.main_arg5) = m' ((c.tc : Thread Cert.BwdInRefIdeal.nD Cert.BwdInRefIdeal.τ).loc Cert.BwdInRefIdeal.main_arg5))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v8) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v0_0)) (v1 : (c : Dev Cert.OutIdeal.nD) → Buf (Elt Ideal) ((c.tc : Thread Cert.OutIdeal.nD Cert.OutIdeal.τ).loc Cert.OutIdeal.main_v0_1)) (v2 : (c : Dev Cert.OutIdeal.nD) → Buf (Elt Ideal) ((c.tc : Thread Cert.OutIdeal.nD Cert.OutIdeal.τ).loc Cert.OutIdeal.main_v0_2)) (v3 : (c : Dev Cert.OutIdeal.nD) → Buf (Elt Ideal) ((c.tc : Thread Cert.OutIdeal.nD Cert.OutIdeal.τ).loc Cert.OutIdeal.main_v0_3)) (v4 : (c : Dev Cert.OutIdeal.nD) → Buf (Elt Ideal) ((c.tc : Thread Cert.OutIdeal.nD Cert.OutIdeal.τ).loc Cert.OutIdeal.main_v0_4)) (v5 : (c : Dev Cert.OutIdeal.nD) → Buf (Elt Ideal) ((c.tc : Thread Cert.OutIdeal.nD Cert.OutIdeal.τ).loc Cert.OutIdeal.main_v0_5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0_0) = v0 c
          ∧ r.2.mem ((c.tc : Thread Cert.OutIdeal.nD Cert.OutIdeal.τ).loc Cert.OutIdeal.main_v0_1) = v1 c
          ∧ r.2.mem ((c.tc : Thread Cert.OutIdeal.nD Cert.OutIdeal.τ).loc Cert.OutIdeal.main_v0_2) = v2 c
          ∧ r.2.mem ((c.tc : Thread Cert.OutIdeal.nD Cert.OutIdeal.τ).loc Cert.OutIdeal.main_v0_3) = v3 c
          ∧ r.2.mem ((c.tc : Thread Cert.OutIdeal.nD Cert.OutIdeal.τ).loc Cert.OutIdeal.main_v0_4) = v4 c
          ∧ r.2.mem ((c.tc : Thread Cert.OutIdeal.nD Cert.OutIdeal.τ).loc Cert.OutIdeal.main_v0_5) = v5 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v54) = v0 c
          ∧ r.2.mem ((c.tc : Thread Cert.OutRefIdeal.nD Cert.OutRefIdeal.τ).loc Cert.OutRefIdeal.main_v62) = v1 c
          ∧ r.2.mem ((c.tc : Thread Cert.OutRefIdeal.nD Cert.OutRefIdeal.τ).loc Cert.OutRefIdeal.main_v63) = v2 c
          ∧ r.2.mem ((c.tc : Thread Cert.OutRefIdeal.nD Cert.OutRefIdeal.τ).loc Cert.OutRefIdeal.main_v59) = v3 c
          ∧ r.2.mem ((c.tc : Thread Cert.OutRefIdeal.nD Cert.OutRefIdeal.τ).loc Cert.OutRefIdeal.main_v38) = v4 c
          ∧ r.2.mem ((c.tc : Thread Cert.OutRefIdeal.nD Cert.OutRefIdeal.τ).loc Cert.OutRefIdeal.main_v64) = v5 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)
      ∧ m' ((c.tc : Thread Cert.FwdRefIdeal.nD Cert.FwdRefIdeal.τ).loc Cert.FwdRefIdeal.main_arg4) = m ((c.tc : Thread Cert.FwdIdeal.nD Cert.FwdIdeal.τ).loc Cert.FwdIdeal.main_arg4)) →
    ∃ (v0 : (c : Dev Cert.FwdIdeal.nD) → Buf (Elt Ideal) ((c.tc : Thread Cert.FwdIdeal.nD Cert.FwdIdeal.τ).loc Cert.FwdIdeal.main_v0_0)) (v1 : (c : Dev Cert.FwdIdeal.nD) → Buf (Elt Ideal) ((c.tc : Thread Cert.FwdIdeal.nD Cert.FwdIdeal.τ).loc Cert.FwdIdeal.main_v0_1)) (v2 : (c : Dev Cert.FwdIdeal.nD) → Buf (Elt Ideal) ((c.tc : Thread Cert.FwdIdeal.nD Cert.FwdIdeal.τ).loc Cert.FwdIdeal.main_v0_2)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v0_0) = v0 c
          ∧ r.2.mem ((c.tc : Thread Cert.FwdIdeal.nD Cert.FwdIdeal.τ).loc Cert.FwdIdeal.main_v0_1) = v1 c
          ∧ r.2.mem ((c.tc : Thread Cert.FwdIdeal.nD Cert.FwdIdeal.τ).loc Cert.FwdIdeal.main_v0_2) = v2 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3)
          ∧ r.2.mem ((c.tc : Thread Cert.FwdIdeal.nD Cert.FwdIdeal.τ).loc Cert.FwdIdeal.main_arg4) = m ((c.tc : Thread Cert.FwdIdeal.nD Cert.FwdIdeal.τ).loc Cert.FwdIdeal.main_arg4))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v21) = v0 c
          ∧ r.2.mem ((c.tc : Thread Cert.FwdRefIdeal.nD Cert.FwdRefIdeal.τ).loc Cert.FwdRefIdeal.main_v22) = v1 c
          ∧ r.2.mem ((c.tc : Thread Cert.FwdRefIdeal.nD Cert.FwdRefIdeal.τ).loc Cert.FwdRefIdeal.main_v23) = v2 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3)
          ∧ r.2.mem ((c.tc : Thread Cert.FwdRefIdeal.nD Cert.FwdRefIdeal.τ).loc Cert.FwdRefIdeal.main_arg4) = m' ((c.tc : Thread Cert.FwdRefIdeal.nD Cert.FwdRefIdeal.τ).loc Cert.FwdRefIdeal.main_arg4))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)) (v3 : (c : Dev Cert.AdamConvIdeal.nD) → Buf (Elt Ideal) ((c.tc : Thread Cert.AdamConvIdeal.nD Cert.AdamConvIdeal.τ).loc Cert.AdamConvIdeal.main_v0_3)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_v0_3) = v3 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v0) = v0 c
          ∧ r.2.mem ((c.tc : Thread Cert.AdamConvRefIdeal.nD Cert.AdamConvRefIdeal.τ).loc Cert.AdamConvRefIdeal.main_v24) = v1 c
          ∧ r.2.mem ((c.tc : Thread Cert.AdamConvRefIdeal.nD Cert.AdamConvRefIdeal.τ).loc Cert.AdamConvRefIdeal.main_v5) = v2 c
          ∧ r.2.mem ((c.tc : Thread Cert.AdamConvRefIdeal.nD Cert.AdamConvRefIdeal.τ).loc Cert.AdamConvRefIdeal.main_v11) = v3 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamAda_AdamAdaIdeal : Prop :=
  True

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)
      ∧ m' ((c.tc : Thread Cert.AdamAdaRefIdeal.nD Cert.AdamAdaRefIdeal.τ).loc Cert.AdamAdaRefIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v0_0)) (v1 : (c : Dev Cert.AdamAdaIdeal.nD) → Buf (Elt Ideal) ((c.tc : Thread Cert.AdamAdaIdeal.nD Cert.AdamAdaIdeal.τ).loc Cert.AdamAdaIdeal.main_v0_1)) (v2 : (c : Dev Cert.AdamAdaIdeal.nD) → Buf (Elt Ideal) ((c.tc : Thread Cert.AdamAdaIdeal.nD Cert.AdamAdaIdeal.τ).loc Cert.AdamAdaIdeal.main_v0_2)) (v3 : (c : Dev Cert.AdamAdaIdeal.nD) → Buf (Elt Ideal) ((c.tc : Thread Cert.AdamAdaIdeal.nD Cert.AdamAdaIdeal.τ).loc Cert.AdamAdaIdeal.main_v0_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v0_0) = v0 c
          ∧ r.2.mem ((c.tc : Thread Cert.AdamAdaIdeal.nD Cert.AdamAdaIdeal.τ).loc Cert.AdamAdaIdeal.main_v0_1) = v1 c
          ∧ r.2.mem ((c.tc : Thread Cert.AdamAdaIdeal.nD Cert.AdamAdaIdeal.τ).loc Cert.AdamAdaIdeal.main_v0_2) = v2 c
          ∧ r.2.mem ((c.tc : Thread Cert.AdamAdaIdeal.nD Cert.AdamAdaIdeal.τ).loc Cert.AdamAdaIdeal.main_v0_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v1) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v6) = v2 c
          ∧ r.2.mem ((c.tc : Thread Cert.AdamAdaRefIdeal.nD Cert.AdamAdaRefIdeal.τ).loc Cert.AdamAdaRefIdeal.main_v12) = v3 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3)
          ∧ r.2.mem ((c.tc : Thread Cert.AdamAdaRefIdeal.nD Cert.AdamAdaRefIdeal.τ).loc Cert.AdamAdaRefIdeal.main_arg4) = m' ((c.tc : Thread Cert.AdamAdaRefIdeal.nD Cert.AdamAdaRefIdeal.τ).loc Cert.AdamAdaRefIdeal.main_arg4))

def preserves_AdamRow_AdamRowIdeal : Prop :=
  True

def algebraic_AdamRowIdeal_AdamRowRefIdeal [hAdamRowIdeal : Cert.AdamRowIdeal.Facts] [hAdamRowRefIdeal : Cert.AdamRowRefIdeal.Facts] : Prop :=
  ∀ (m : (ℓ : Loc Cert.AdamRowIdeal.nD Cert.AdamRowIdeal.τ Cert.AdamRowIdeal.sig) → Buf (Elt Ideal) ℓ) (g : Dev Cert.AdamRowIdeal.nD → PrngReg)
    (m' : (ℓ : Loc Cert.AdamRowRefIdeal.nD Cert.AdamRowRefIdeal.τ Cert.AdamRowRefIdeal.sig) → Buf (Elt Ideal) ℓ) (g' : Dev Cert.AdamRowRefIdeal.nD → PrngReg), Pre_AdamRowIdeal m →
    (∀ c : Dev Cert.AdamRowIdeal.nD,
      m' ((c.tc : Thread Cert.AdamRowRefIdeal.nD Cert.AdamRowRefIdeal.τ).loc Cert.AdamRowRefIdeal.main_arg0) = m ((c.tc : Thread Cert.AdamRowIdeal.nD Cert.AdamRowIdeal.τ).loc Cert.AdamRowIdeal.main_arg0)
      ∧ m' ((c.tc : Thread Cert.AdamRowRefIdeal.nD Cert.AdamRowRefIdeal.τ).loc Cert.AdamRowRefIdeal.main_arg1) = m ((c.tc : Thread Cert.AdamRowIdeal.nD Cert.AdamRowIdeal.τ).loc Cert.AdamRowIdeal.main_arg1)
      ∧ m' ((c.tc : Thread Cert.AdamRowRefIdeal.nD Cert.AdamRowRefIdeal.τ).loc Cert.AdamRowRefIdeal.main_arg2) = m ((c.tc : Thread Cert.AdamRowIdeal.nD Cert.AdamRowIdeal.τ).loc Cert.AdamRowIdeal.main_arg2)
      ∧ m' ((c.tc : Thread Cert.AdamRowRefIdeal.nD Cert.AdamRowRefIdeal.τ).loc Cert.AdamRowRefIdeal.main_arg3) = m ((c.tc : Thread Cert.AdamRowIdeal.nD Cert.AdamRowIdeal.τ).loc Cert.AdamRowIdeal.main_arg3)
      ∧ m' ((c.tc : Thread Cert.AdamRowRefIdeal.nD Cert.AdamRowRefIdeal.τ).loc Cert.AdamRowRefIdeal.main_arg4) = m ((c.tc : Thread Cert.AdamRowIdeal.nD Cert.AdamRowIdeal.τ).loc Cert.AdamRowIdeal.main_arg4)
      ∧ m' ((c.tc : Thread Cert.AdamRowRefIdeal.nD Cert.AdamRowRefIdeal.τ).loc Cert.AdamRowRefIdeal.main_arg5) = m ((c.tc : Thread Cert.AdamRowIdeal.nD Cert.AdamRowIdeal.τ).loc Cert.AdamRowIdeal.main_arg5)
      ∧ m' ((c.tc : Thread Cert.AdamRowRefIdeal.nD Cert.AdamRowRefIdeal.τ).loc Cert.AdamRowRefIdeal.main_arg6) = m ((c.tc : Thread Cert.AdamRowIdeal.nD Cert.AdamRowIdeal.τ).loc Cert.AdamRowIdeal.main_arg6)
      ∧ m' ((c.tc : Thread Cert.AdamRowRefIdeal.nD Cert.AdamRowRefIdeal.τ).loc Cert.AdamRowRefIdeal.main_arg7) = m ((c.tc : Thread Cert.AdamRowIdeal.nD Cert.AdamRowIdeal.τ).loc Cert.AdamRowIdeal.main_arg7)) →
    ∃ (v0 : (c : Dev Cert.AdamRowIdeal.nD) → Buf (Elt Ideal) ((c.tc : Thread Cert.AdamRowIdeal.nD Cert.AdamRowIdeal.τ).loc Cert.AdamRowIdeal.main_v0_0)) (v1 : (c : Dev Cert.AdamRowIdeal.nD) → Buf (Elt Ideal) ((c.tc : Thread Cert.AdamRowIdeal.nD Cert.AdamRowIdeal.τ).loc Cert.AdamRowIdeal.main_v0_1)) (v2 : (c : Dev Cert.AdamRowIdeal.nD) → Buf (Elt Ideal) ((c.tc : Thread Cert.AdamRowIdeal.nD Cert.AdamRowIdeal.τ).loc Cert.AdamRowIdeal.main_v0_2)) (v3 : (c : Dev Cert.AdamRowIdeal.nD) → Buf (Elt Ideal) ((c.tc : Thread Cert.AdamRowIdeal.nD Cert.AdamRowIdeal.τ).loc Cert.AdamRowIdeal.main_v0_3)) (v4 : (c : Dev Cert.AdamRowIdeal.nD) → Buf (Elt Ideal) ((c.tc : Thread Cert.AdamRowIdeal.nD Cert.AdamRowIdeal.τ).loc Cert.AdamRowIdeal.main_v0_4)),
      θ_run (Cert.AdamRowIdeal.defs (F := Ideal)) (onTc (τ := Cert.AdamRowIdeal.τ) (Cert.AdamRowIdeal.main (F := Ideal))) ⟨m, fun _ => 0, g⟩ (fun r => ∀ c : Dev Cert.AdamRowIdeal.nD,
          r.2.mem ((c.tc : Thread Cert.AdamRowIdeal.nD Cert.AdamRowIdeal.τ).loc Cert.AdamRowIdeal.main_v0_0) = v0 c
          ∧ r.2.mem ((c.tc : Thread Cert.AdamRowIdeal.nD Cert.AdamRowIdeal.τ).loc Cert.AdamRowIdeal.main_v0_1) = v1 c
          ∧ r.2.mem ((c.tc : Thread Cert.AdamRowIdeal.nD Cert.AdamRowIdeal.τ).loc Cert.AdamRowIdeal.main_v0_2) = v2 c
          ∧ r.2.mem ((c.tc : Thread Cert.AdamRowIdeal.nD Cert.AdamRowIdeal.τ).loc Cert.AdamRowIdeal.main_v0_3) = v3 c
          ∧ r.2.mem ((c.tc : Thread Cert.AdamRowIdeal.nD Cert.AdamRowIdeal.τ).loc Cert.AdamRowIdeal.main_v0_4) = v4 c
          ∧ r.2.mem ((c.tc : Thread Cert.AdamRowIdeal.nD Cert.AdamRowIdeal.τ).loc Cert.AdamRowIdeal.main_arg0) = m ((c.tc : Thread Cert.AdamRowIdeal.nD Cert.AdamRowIdeal.τ).loc Cert.AdamRowIdeal.main_arg0)
          ∧ r.2.mem ((c.tc : Thread Cert.AdamRowIdeal.nD Cert.AdamRowIdeal.τ).loc Cert.AdamRowIdeal.main_arg1) = m ((c.tc : Thread Cert.AdamRowIdeal.nD Cert.AdamRowIdeal.τ).loc Cert.AdamRowIdeal.main_arg1)
          ∧ r.2.mem ((c.tc : Thread Cert.AdamRowIdeal.nD Cert.AdamRowIdeal.τ).loc Cert.AdamRowIdeal.main_arg2) = m ((c.tc : Thread Cert.AdamRowIdeal.nD Cert.AdamRowIdeal.τ).loc Cert.AdamRowIdeal.main_arg2)
          ∧ r.2.mem ((c.tc : Thread Cert.AdamRowIdeal.nD Cert.AdamRowIdeal.τ).loc Cert.AdamRowIdeal.main_arg3) = m ((c.tc : Thread Cert.AdamRowIdeal.nD Cert.AdamRowIdeal.τ).loc Cert.AdamRowIdeal.main_arg3)
          ∧ r.2.mem ((c.tc : Thread Cert.AdamRowIdeal.nD Cert.AdamRowIdeal.τ).loc Cert.AdamRowIdeal.main_arg4) = m ((c.tc : Thread Cert.AdamRowIdeal.nD Cert.AdamRowIdeal.τ).loc Cert.AdamRowIdeal.main_arg4)
          ∧ r.2.mem ((c.tc : Thread Cert.AdamRowIdeal.nD Cert.AdamRowIdeal.τ).loc Cert.AdamRowIdeal.main_arg5) = m ((c.tc : Thread Cert.AdamRowIdeal.nD Cert.AdamRowIdeal.τ).loc Cert.AdamRowIdeal.main_arg5)
          ∧ r.2.mem ((c.tc : Thread Cert.AdamRowIdeal.nD Cert.AdamRowIdeal.τ).loc Cert.AdamRowIdeal.main_arg6) = m ((c.tc : Thread Cert.AdamRowIdeal.nD Cert.AdamRowIdeal.τ).loc Cert.AdamRowIdeal.main_arg6)
          ∧ r.2.mem ((c.tc : Thread Cert.AdamRowIdeal.nD Cert.AdamRowIdeal.τ).loc Cert.AdamRowIdeal.main_arg7) = m ((c.tc : Thread Cert.AdamRowIdeal.nD Cert.AdamRowIdeal.τ).loc Cert.AdamRowIdeal.main_arg7))
      ∧ θ_run (Cert.AdamRowRefIdeal.defs (F := Ideal)) (onTc (τ := Cert.AdamRowRefIdeal.τ) (Cert.AdamRowRefIdeal.main (F := Ideal))) ⟨m', fun _ => 0, g'⟩ (fun r => ∀ c : Dev Cert.AdamRowRefIdeal.nD,
          r.2.mem ((c.tc : Thread Cert.AdamRowRefIdeal.nD Cert.AdamRowRefIdeal.τ).loc Cert.AdamRowRefIdeal.main_v6) = v0 c
          ∧ r.2.mem ((c.tc : Thread Cert.AdamRowRefIdeal.nD Cert.AdamRowRefIdeal.τ).loc Cert.AdamRowRefIdeal.main_v30) = v1 c
          ∧ r.2.mem ((c.tc : Thread Cert.AdamRowRefIdeal.nD Cert.AdamRowRefIdeal.τ).loc Cert.AdamRowRefIdeal.main_v11) = v2 c
          ∧ r.2.mem ((c.tc : Thread Cert.AdamRowRefIdeal.nD Cert.AdamRowRefIdeal.τ).loc Cert.AdamRowRefIdeal.main_v17) = v3 c
          ∧ r.2.mem ((c.tc : Thread Cert.AdamRowRefIdeal.nD Cert.AdamRowRefIdeal.τ).loc Cert.AdamRowRefIdeal.main_v37) = v4 c
          ∧ r.2.mem ((c.tc : Thread Cert.AdamRowRefIdeal.nD Cert.AdamRowRefIdeal.τ).loc Cert.AdamRowRefIdeal.main_arg0) = m' ((c.tc : Thread Cert.AdamRowRefIdeal.nD Cert.AdamRowRefIdeal.τ).loc Cert.AdamRowRefIdeal.main_arg0)
          ∧ r.2.mem ((c.tc : Thread Cert.AdamRowRefIdeal.nD Cert.AdamRowRefIdeal.τ).loc Cert.AdamRowRefIdeal.main_arg1) = m' ((c.tc : Thread Cert.AdamRowRefIdeal.nD Cert.AdamRowRefIdeal.τ).loc Cert.AdamRowRefIdeal.main_arg1)
          ∧ r.2.mem ((c.tc : Thread Cert.AdamRowRefIdeal.nD Cert.AdamRowRefIdeal.τ).loc Cert.AdamRowRefIdeal.main_arg2) = m' ((c.tc : Thread Cert.AdamRowRefIdeal.nD Cert.AdamRowRefIdeal.τ).loc Cert.AdamRowRefIdeal.main_arg2)
          ∧ r.2.mem ((c.tc : Thread Cert.AdamRowRefIdeal.nD Cert.AdamRowRefIdeal.τ).loc Cert.AdamRowRefIdeal.main_arg3) = m' ((c.tc : Thread Cert.AdamRowRefIdeal.nD Cert.AdamRowRefIdeal.τ).loc Cert.AdamRowRefIdeal.main_arg3)
          ∧ r.2.mem ((c.tc : Thread Cert.AdamRowRefIdeal.nD Cert.AdamRowRefIdeal.τ).loc Cert.AdamRowRefIdeal.main_arg4) = m' ((c.tc : Thread Cert.AdamRowRefIdeal.nD Cert.AdamRowRefIdeal.τ).loc Cert.AdamRowRefIdeal.main_arg4)
          ∧ r.2.mem ((c.tc : Thread Cert.AdamRowRefIdeal.nD Cert.AdamRowRefIdeal.τ).loc Cert.AdamRowRefIdeal.main_arg5) = m' ((c.tc : Thread Cert.AdamRowRefIdeal.nD Cert.AdamRowRefIdeal.τ).loc Cert.AdamRowRefIdeal.main_arg5)
          ∧ r.2.mem ((c.tc : Thread Cert.AdamRowRefIdeal.nD Cert.AdamRowRefIdeal.τ).loc Cert.AdamRowRefIdeal.main_arg6) = m' ((c.tc : Thread Cert.AdamRowRefIdeal.nD Cert.AdamRowRefIdeal.τ).loc Cert.AdamRowRefIdeal.main_arg6)
          ∧ r.2.mem ((c.tc : Thread Cert.AdamRowRefIdeal.nD Cert.AdamRowRefIdeal.τ).loc Cert.AdamRowRefIdeal.main_arg7) = m' ((c.tc : Thread Cert.AdamRowRefIdeal.nD Cert.AdamRowRefIdeal.τ).loc Cert.AdamRowRefIdeal.main_arg7))

def preserves_AdamHalf_AdamHalfIdeal : Prop :=
  True

def algebraic_AdamHalfIdeal_AdamHalfRefIdeal [hAdamHalfIdeal : Cert.AdamHalfIdeal.Facts] [hAdamHalfRefIdeal : Cert.AdamHalfRefIdeal.Facts] : Prop :=
  ∀ (m : (ℓ : Loc Cert.AdamHalfIdeal.nD Cert.AdamHalfIdeal.τ Cert.AdamHalfIdeal.sig) → Buf (Elt Ideal) ℓ) (g : Dev Cert.AdamHalfIdeal.nD → PrngReg)
    (m' : (ℓ : Loc Cert.AdamHalfRefIdeal.nD Cert.AdamHalfRefIdeal.τ Cert.AdamHalfRefIdeal.sig) → Buf (Elt Ideal) ℓ) (g' : Dev Cert.AdamHalfRefIdeal.nD → PrngReg), Pre_AdamHalfIdeal m →
    (∀ c : Dev Cert.AdamHalfIdeal.nD,
      m' ((c.tc : Thread Cert.AdamHalfRefIdeal.nD Cert.AdamHalfRefIdeal.τ).loc Cert.AdamHalfRefIdeal.main_arg0) = m ((c.tc : Thread Cert.AdamHalfIdeal.nD Cert.AdamHalfIdeal.τ).loc Cert.AdamHalfIdeal.main_arg0)
      ∧ m' ((c.tc : Thread Cert.AdamHalfRefIdeal.nD Cert.AdamHalfRefIdeal.τ).loc Cert.AdamHalfRefIdeal.main_arg1) = m ((c.tc : Thread Cert.AdamHalfIdeal.nD Cert.AdamHalfIdeal.τ).loc Cert.AdamHalfIdeal.main_arg1)
      ∧ m' ((c.tc : Thread Cert.AdamHalfRefIdeal.nD Cert.AdamHalfRefIdeal.τ).loc Cert.AdamHalfRefIdeal.main_arg2) = m ((c.tc : Thread Cert.AdamHalfIdeal.nD Cert.AdamHalfIdeal.τ).loc Cert.AdamHalfIdeal.main_arg2)
      ∧ m' ((c.tc : Thread Cert.AdamHalfRefIdeal.nD Cert.AdamHalfRefIdeal.τ).loc Cert.AdamHalfRefIdeal.main_arg3) = m ((c.tc : Thread Cert.AdamHalfIdeal.nD Cert.AdamHalfIdeal.τ).loc Cert.AdamHalfIdeal.main_arg3)
      ∧ m' ((c.tc : Thread Cert.AdamHalfRefIdeal.nD Cert.AdamHalfRefIdeal.τ).loc Cert.AdamHalfRefIdeal.main_arg4) = m ((c.tc : Thread Cert.AdamHalfIdeal.nD Cert.AdamHalfIdeal.τ).loc Cert.AdamHalfIdeal.main_arg4)
      ∧ m' ((c.tc : Thread Cert.AdamHalfRefIdeal.nD Cert.AdamHalfRefIdeal.τ).loc Cert.AdamHalfRefIdeal.main_arg5) = m ((c.tc : Thread Cert.AdamHalfIdeal.nD Cert.AdamHalfIdeal.τ).loc Cert.AdamHalfIdeal.main_arg5)
      ∧ m' ((c.tc : Thread Cert.AdamHalfRefIdeal.nD Cert.AdamHalfRefIdeal.τ).loc Cert.AdamHalfRefIdeal.main_arg6) = m ((c.tc : Thread Cert.AdamHalfIdeal.nD Cert.AdamHalfIdeal.τ).loc Cert.AdamHalfIdeal.main_arg6)
      ∧ m' ((c.tc : Thread Cert.AdamHalfRefIdeal.nD Cert.AdamHalfRefIdeal.τ).loc Cert.AdamHalfRefIdeal.main_arg7) = m ((c.tc : Thread Cert.AdamHalfIdeal.nD Cert.AdamHalfIdeal.τ).loc Cert.AdamHalfIdeal.main_arg7)) →
    ∃ (v0 : (c : Dev Cert.AdamHalfIdeal.nD) → Buf (Elt Ideal) ((c.tc : Thread Cert.AdamHalfIdeal.nD Cert.AdamHalfIdeal.τ).loc Cert.AdamHalfIdeal.main_v0_0)) (v1 : (c : Dev Cert.AdamHalfIdeal.nD) → Buf (Elt Ideal) ((c.tc : Thread Cert.AdamHalfIdeal.nD Cert.AdamHalfIdeal.τ).loc Cert.AdamHalfIdeal.main_v0_1)) (v2 : (c : Dev Cert.AdamHalfIdeal.nD) → Buf (Elt Ideal) ((c.tc : Thread Cert.AdamHalfIdeal.nD Cert.AdamHalfIdeal.τ).loc Cert.AdamHalfIdeal.main_v0_2)) (v3 : (c : Dev Cert.AdamHalfIdeal.nD) → Buf (Elt Ideal) ((c.tc : Thread Cert.AdamHalfIdeal.nD Cert.AdamHalfIdeal.τ).loc Cert.AdamHalfIdeal.main_v0_3)) (v4 : (c : Dev Cert.AdamHalfIdeal.nD) → Buf (Elt Ideal) ((c.tc : Thread Cert.AdamHalfIdeal.nD Cert.AdamHalfIdeal.τ).loc Cert.AdamHalfIdeal.main_v0_4)),
      θ_run (Cert.AdamHalfIdeal.defs (F := Ideal)) (onTc (τ := Cert.AdamHalfIdeal.τ) (Cert.AdamHalfIdeal.main (F := Ideal))) ⟨m, fun _ => 0, g⟩ (fun r => ∀ c : Dev Cert.AdamHalfIdeal.nD,
          r.2.mem ((c.tc : Thread Cert.AdamHalfIdeal.nD Cert.AdamHalfIdeal.τ).loc Cert.AdamHalfIdeal.main_v0_0) = v0 c
          ∧ r.2.mem ((c.tc : Thread Cert.AdamHalfIdeal.nD Cert.AdamHalfIdeal.τ).loc Cert.AdamHalfIdeal.main_v0_1) = v1 c
          ∧ r.2.mem ((c.tc : Thread Cert.AdamHalfIdeal.nD Cert.AdamHalfIdeal.τ).loc Cert.AdamHalfIdeal.main_v0_2) = v2 c
          ∧ r.2.mem ((c.tc : Thread Cert.AdamHalfIdeal.nD Cert.AdamHalfIdeal.τ).loc Cert.AdamHalfIdeal.main_v0_3) = v3 c
          ∧ r.2.mem ((c.tc : Thread Cert.AdamHalfIdeal.nD Cert.AdamHalfIdeal.τ).loc Cert.AdamHalfIdeal.main_v0_4) = v4 c
          ∧ r.2.mem ((c.tc : Thread Cert.AdamHalfIdeal.nD Cert.AdamHalfIdeal.τ).loc Cert.AdamHalfIdeal.main_arg0) = m ((c.tc : Thread Cert.AdamHalfIdeal.nD Cert.AdamHalfIdeal.τ).loc Cert.AdamHalfIdeal.main_arg0)
          ∧ r.2.mem ((c.tc : Thread Cert.AdamHalfIdeal.nD Cert.AdamHalfIdeal.τ).loc Cert.AdamHalfIdeal.main_arg1) = m ((c.tc : Thread Cert.AdamHalfIdeal.nD Cert.AdamHalfIdeal.τ).loc Cert.AdamHalfIdeal.main_arg1)
          ∧ r.2.mem ((c.tc : Thread Cert.AdamHalfIdeal.nD Cert.AdamHalfIdeal.τ).loc Cert.AdamHalfIdeal.main_arg2) = m ((c.tc : Thread Cert.AdamHalfIdeal.nD Cert.AdamHalfIdeal.τ).loc Cert.AdamHalfIdeal.main_arg2)
          ∧ r.2.mem ((c.tc : Thread Cert.AdamHalfIdeal.nD Cert.AdamHalfIdeal.τ).loc Cert.AdamHalfIdeal.main_arg3) = m ((c.tc : Thread Cert.AdamHalfIdeal.nD Cert.AdamHalfIdeal.τ).loc Cert.AdamHalfIdeal.main_arg3)
          ∧ r.2.mem ((c.tc : Thread Cert.AdamHalfIdeal.nD Cert.AdamHalfIdeal.τ).loc Cert.AdamHalfIdeal.main_arg4) = m ((c.tc : Thread Cert.AdamHalfIdeal.nD Cert.AdamHalfIdeal.τ).loc Cert.AdamHalfIdeal.main_arg4)
          ∧ r.2.mem ((c.tc : Thread Cert.AdamHalfIdeal.nD Cert.AdamHalfIdeal.τ).loc Cert.AdamHalfIdeal.main_arg5) = m ((c.tc : Thread Cert.AdamHalfIdeal.nD Cert.AdamHalfIdeal.τ).loc Cert.AdamHalfIdeal.main_arg5)
          ∧ r.2.mem ((c.tc : Thread Cert.AdamHalfIdeal.nD Cert.AdamHalfIdeal.τ).loc Cert.AdamHalfIdeal.main_arg6) = m ((c.tc : Thread Cert.AdamHalfIdeal.nD Cert.AdamHalfIdeal.τ).loc Cert.AdamHalfIdeal.main_arg6)
          ∧ r.2.mem ((c.tc : Thread Cert.AdamHalfIdeal.nD Cert.AdamHalfIdeal.τ).loc Cert.AdamHalfIdeal.main_arg7) = m ((c.tc : Thread Cert.AdamHalfIdeal.nD Cert.AdamHalfIdeal.τ).loc Cert.AdamHalfIdeal.main_arg7))
      ∧ θ_run (Cert.AdamHalfRefIdeal.defs (F := Ideal)) (onTc (τ := Cert.AdamHalfRefIdeal.τ) (Cert.AdamHalfRefIdeal.main (F := Ideal))) ⟨m', fun _ => 0, g'⟩ (fun r => ∀ c : Dev Cert.AdamHalfRefIdeal.nD,
          r.2.mem ((c.tc : Thread Cert.AdamHalfRefIdeal.nD Cert.AdamHalfRefIdeal.τ).loc Cert.AdamHalfRefIdeal.main_v6) = v0 c
          ∧ r.2.mem ((c.tc : Thread Cert.AdamHalfRefIdeal.nD Cert.AdamHalfRefIdeal.τ).loc Cert.AdamHalfRefIdeal.main_v30) = v1 c
          ∧ r.2.mem ((c.tc : Thread Cert.AdamHalfRefIdeal.nD Cert.AdamHalfRefIdeal.τ).loc Cert.AdamHalfRefIdeal.main_v11) = v2 c
          ∧ r.2.mem ((c.tc : Thread Cert.AdamHalfRefIdeal.nD Cert.AdamHalfRefIdeal.τ).loc Cert.AdamHalfRefIdeal.main_v17) = v3 c
          ∧ r.2.mem ((c.tc : Thread Cert.AdamHalfRefIdeal.nD Cert.AdamHalfRefIdeal.τ).loc Cert.AdamHalfRefIdeal.main_v37) = v4 c
          ∧ r.2.mem ((c.tc : Thread Cert.AdamHalfRefIdeal.nD Cert.AdamHalfRefIdeal.τ).loc Cert.AdamHalfRefIdeal.main_arg0) = m' ((c.tc : Thread Cert.AdamHalfRefIdeal.nD Cert.AdamHalfRefIdeal.τ).loc Cert.AdamHalfRefIdeal.main_arg0)
          ∧ r.2.mem ((c.tc : Thread Cert.AdamHalfRefIdeal.nD Cert.AdamHalfRefIdeal.τ).loc Cert.AdamHalfRefIdeal.main_arg1) = m' ((c.tc : Thread Cert.AdamHalfRefIdeal.nD Cert.AdamHalfRefIdeal.τ).loc Cert.AdamHalfRefIdeal.main_arg1)
          ∧ r.2.mem ((c.tc : Thread Cert.AdamHalfRefIdeal.nD Cert.AdamHalfRefIdeal.τ).loc Cert.AdamHalfRefIdeal.main_arg2) = m' ((c.tc : Thread Cert.AdamHalfRefIdeal.nD Cert.AdamHalfRefIdeal.τ).loc Cert.AdamHalfRefIdeal.main_arg2)
          ∧ r.2.mem ((c.tc : Thread Cert.AdamHalfRefIdeal.nD Cert.AdamHalfRefIdeal.τ).loc Cert.AdamHalfRefIdeal.main_arg3) = m' ((c.tc : Thread Cert.AdamHalfRefIdeal.nD Cert.AdamHalfRefIdeal.τ).loc Cert.AdamHalfRefIdeal.main_arg3)
          ∧ r.2.mem ((c.tc : Thread Cert.AdamHalfRefIdeal.nD Cert.AdamHalfRefIdeal.τ).loc Cert.AdamHalfRefIdeal.main_arg4) = m' ((c.tc : Thread Cert.AdamHalfRefIdeal.nD Cert.AdamHalfRefIdeal.τ).loc Cert.AdamHalfRefIdeal.main_arg4)
          ∧ r.2.mem ((c.tc : Thread Cert.AdamHalfRefIdeal.nD Cert.AdamHalfRefIdeal.τ).loc Cert.AdamHalfRefIdeal.main_arg5) = m' ((c.tc : Thread Cert.AdamHalfRefIdeal.nD Cert.AdamHalfRefIdeal.τ).loc Cert.AdamHalfRefIdeal.main_arg5)
          ∧ r.2.mem ((c.tc : Thread Cert.AdamHalfRefIdeal.nD Cert.AdamHalfRefIdeal.τ).loc Cert.AdamHalfRefIdeal.main_arg6) = m' ((c.tc : Thread Cert.AdamHalfRefIdeal.nD Cert.AdamHalfRefIdeal.τ).loc Cert.AdamHalfRefIdeal.main_arg6)
          ∧ r.2.mem ((c.tc : Thread Cert.AdamHalfRefIdeal.nD Cert.AdamHalfRefIdeal.τ).loc Cert.AdamHalfRefIdeal.main_arg7) = m' ((c.tc : Thread Cert.AdamHalfRefIdeal.nD Cert.AdamHalfRefIdeal.τ).loc Cert.AdamHalfRefIdeal.main_arg7))

def preserves_AdamWide_AdamWideIdeal : Prop :=
  True

def algebraic_AdamWideIdeal_AdamWideRefIdeal [hAdamWideIdeal : Cert.AdamWideIdeal.Facts] [hAdamWideRefIdeal : Cert.AdamWideRefIdeal.Facts] : Prop :=
  ∀ (m : (ℓ : Loc Cert.AdamWideIdeal.nD Cert.AdamWideIdeal.τ Cert.AdamWideIdeal.sig) → Buf (Elt Ideal) ℓ) (g : Dev Cert.AdamWideIdeal.nD → PrngReg)
    (m' : (ℓ : Loc Cert.AdamWideRefIdeal.nD Cert.AdamWideRefIdeal.τ Cert.AdamWideRefIdeal.sig) → Buf (Elt Ideal) ℓ) (g' : Dev Cert.AdamWideRefIdeal.nD → PrngReg), Pre_AdamWideIdeal m →
    (∀ c : Dev Cert.AdamWideIdeal.nD,
      m' ((c.tc : Thread Cert.AdamWideRefIdeal.nD Cert.AdamWideRefIdeal.τ).loc Cert.AdamWideRefIdeal.main_arg0) = m ((c.tc : Thread Cert.AdamWideIdeal.nD Cert.AdamWideIdeal.τ).loc Cert.AdamWideIdeal.main_arg0)
      ∧ m' ((c.tc : Thread Cert.AdamWideRefIdeal.nD Cert.AdamWideRefIdeal.τ).loc Cert.AdamWideRefIdeal.main_arg1) = m ((c.tc : Thread Cert.AdamWideIdeal.nD Cert.AdamWideIdeal.τ).loc Cert.AdamWideIdeal.main_arg1)
      ∧ m' ((c.tc : Thread Cert.AdamWideRefIdeal.nD Cert.AdamWideRefIdeal.τ).loc Cert.AdamWideRefIdeal.main_arg2) = m ((c.tc : Thread Cert.AdamWideIdeal.nD Cert.AdamWideIdeal.τ).loc Cert.AdamWideIdeal.main_arg2)
      ∧ m' ((c.tc : Thread Cert.AdamWideRefIdeal.nD Cert.AdamWideRefIdeal.τ).loc Cert.AdamWideRefIdeal.main_arg3) = m ((c.tc : Thread Cert.AdamWideIdeal.nD Cert.AdamWideIdeal.τ).loc Cert.AdamWideIdeal.main_arg3)
      ∧ m' ((c.tc : Thread Cert.AdamWideRefIdeal.nD Cert.AdamWideRefIdeal.τ).loc Cert.AdamWideRefIdeal.main_arg4) = m ((c.tc : Thread Cert.AdamWideIdeal.nD Cert.AdamWideIdeal.τ).loc Cert.AdamWideIdeal.main_arg4)
      ∧ m' ((c.tc : Thread Cert.AdamWideRefIdeal.nD Cert.AdamWideRefIdeal.τ).loc Cert.AdamWideRefIdeal.main_arg5) = m ((c.tc : Thread Cert.AdamWideIdeal.nD Cert.AdamWideIdeal.τ).loc Cert.AdamWideIdeal.main_arg5)
      ∧ m' ((c.tc : Thread Cert.AdamWideRefIdeal.nD Cert.AdamWideRefIdeal.τ).loc Cert.AdamWideRefIdeal.main_arg6) = m ((c.tc : Thread Cert.AdamWideIdeal.nD Cert.AdamWideIdeal.τ).loc Cert.AdamWideIdeal.main_arg6)
      ∧ m' ((c.tc : Thread Cert.AdamWideRefIdeal.nD Cert.AdamWideRefIdeal.τ).loc Cert.AdamWideRefIdeal.main_arg7) = m ((c.tc : Thread Cert.AdamWideIdeal.nD Cert.AdamWideIdeal.τ).loc Cert.AdamWideIdeal.main_arg7)) →
    ∃ (v0 : (c : Dev Cert.AdamWideIdeal.nD) → Buf (Elt Ideal) ((c.tc : Thread Cert.AdamWideIdeal.nD Cert.AdamWideIdeal.τ).loc Cert.AdamWideIdeal.main_v0_0)) (v1 : (c : Dev Cert.AdamWideIdeal.nD) → Buf (Elt Ideal) ((c.tc : Thread Cert.AdamWideIdeal.nD Cert.AdamWideIdeal.τ).loc Cert.AdamWideIdeal.main_v0_1)) (v2 : (c : Dev Cert.AdamWideIdeal.nD) → Buf (Elt Ideal) ((c.tc : Thread Cert.AdamWideIdeal.nD Cert.AdamWideIdeal.τ).loc Cert.AdamWideIdeal.main_v0_2)) (v3 : (c : Dev Cert.AdamWideIdeal.nD) → Buf (Elt Ideal) ((c.tc : Thread Cert.AdamWideIdeal.nD Cert.AdamWideIdeal.τ).loc Cert.AdamWideIdeal.main_v0_3)) (v4 : (c : Dev Cert.AdamWideIdeal.nD) → Buf (Elt Ideal) ((c.tc : Thread Cert.AdamWideIdeal.nD Cert.AdamWideIdeal.τ).loc Cert.AdamWideIdeal.main_v0_4)),
      θ_run (Cert.AdamWideIdeal.defs (F := Ideal)) (onTc (τ := Cert.AdamWideIdeal.τ) (Cert.AdamWideIdeal.main (F := Ideal))) ⟨m, fun _ => 0, g⟩ (fun r => ∀ c : Dev Cert.AdamWideIdeal.nD,
          r.2.mem ((c.tc : Thread Cert.AdamWideIdeal.nD Cert.AdamWideIdeal.τ).loc Cert.AdamWideIdeal.main_v0_0) = v0 c
          ∧ r.2.mem ((c.tc : Thread Cert.AdamWideIdeal.nD Cert.AdamWideIdeal.τ).loc Cert.AdamWideIdeal.main_v0_1) = v1 c
          ∧ r.2.mem ((c.tc : Thread Cert.AdamWideIdeal.nD Cert.AdamWideIdeal.τ).loc Cert.AdamWideIdeal.main_v0_2) = v2 c
          ∧ r.2.mem ((c.tc : Thread Cert.AdamWideIdeal.nD Cert.AdamWideIdeal.τ).loc Cert.AdamWideIdeal.main_v0_3) = v3 c
          ∧ r.2.mem ((c.tc : Thread Cert.AdamWideIdeal.nD Cert.AdamWideIdeal.τ).loc Cert.AdamWideIdeal.main_v0_4) = v4 c
          ∧ r.2.mem ((c.tc : Thread Cert.AdamWideIdeal.nD Cert.AdamWideIdeal.τ).loc Cert.AdamWideIdeal.main_arg0) = m ((c.tc : Thread Cert.AdamWideIdeal.nD Cert.AdamWideIdeal.τ).loc Cert.AdamWideIdeal.main_arg0)
          ∧ r.2.mem ((c.tc : Thread Cert.AdamWideIdeal.nD Cert.AdamWideIdeal.τ).loc Cert.AdamWideIdeal.main_arg1) = m ((c.tc : Thread Cert.AdamWideIdeal.nD Cert.AdamWideIdeal.τ).loc Cert.AdamWideIdeal.main_arg1)
          ∧ r.2.mem ((c.tc : Thread Cert.AdamWideIdeal.nD Cert.AdamWideIdeal.τ).loc Cert.AdamWideIdeal.main_arg2) = m ((c.tc : Thread Cert.AdamWideIdeal.nD Cert.AdamWideIdeal.τ).loc Cert.AdamWideIdeal.main_arg2)
          ∧ r.2.mem ((c.tc : Thread Cert.AdamWideIdeal.nD Cert.AdamWideIdeal.τ).loc Cert.AdamWideIdeal.main_arg3) = m ((c.tc : Thread Cert.AdamWideIdeal.nD Cert.AdamWideIdeal.τ).loc Cert.AdamWideIdeal.main_arg3)
          ∧ r.2.mem ((c.tc : Thread Cert.AdamWideIdeal.nD Cert.AdamWideIdeal.τ).loc Cert.AdamWideIdeal.main_arg4) = m ((c.tc : Thread Cert.AdamWideIdeal.nD Cert.AdamWideIdeal.τ).loc Cert.AdamWideIdeal.main_arg4)
          ∧ r.2.mem ((c.tc : Thread Cert.AdamWideIdeal.nD Cert.AdamWideIdeal.τ).loc Cert.AdamWideIdeal.main_arg5) = m ((c.tc : Thread Cert.AdamWideIdeal.nD Cert.AdamWideIdeal.τ).loc Cert.AdamWideIdeal.main_arg5)
          ∧ r.2.mem ((c.tc : Thread Cert.AdamWideIdeal.nD Cert.AdamWideIdeal.τ).loc Cert.AdamWideIdeal.main_arg6) = m ((c.tc : Thread Cert.AdamWideIdeal.nD Cert.AdamWideIdeal.τ).loc Cert.AdamWideIdeal.main_arg6)
          ∧ r.2.mem ((c.tc : Thread Cert.AdamWideIdeal.nD Cert.AdamWideIdeal.τ).loc Cert.AdamWideIdeal.main_arg7) = m ((c.tc : Thread Cert.AdamWideIdeal.nD Cert.AdamWideIdeal.τ).loc Cert.AdamWideIdeal.main_arg7))
      ∧ θ_run (Cert.AdamWideRefIdeal.defs (F := Ideal)) (onTc (τ := Cert.AdamWideRefIdeal.τ) (Cert.AdamWideRefIdeal.main (F := Ideal))) ⟨m', fun _ => 0, g'⟩ (fun r => ∀ c : Dev Cert.AdamWideRefIdeal.nD,
          r.2.mem ((c.tc : Thread Cert.AdamWideRefIdeal.nD Cert.AdamWideRefIdeal.τ).loc Cert.AdamWideRefIdeal.main_v6) = v0 c
          ∧ r.2.mem ((c.tc : Thread Cert.AdamWideRefIdeal.nD Cert.AdamWideRefIdeal.τ).loc Cert.AdamWideRefIdeal.main_v30) = v1 c
          ∧ r.2.mem ((c.tc : Thread Cert.AdamWideRefIdeal.nD Cert.AdamWideRefIdeal.τ).loc Cert.AdamWideRefIdeal.main_v11) = v2 c
          ∧ r.2.mem ((c.tc : Thread Cert.AdamWideRefIdeal.nD Cert.AdamWideRefIdeal.τ).loc Cert.AdamWideRefIdeal.main_v17) = v3 c
          ∧ r.2.mem ((c.tc : Thread Cert.AdamWideRefIdeal.nD Cert.AdamWideRefIdeal.τ).loc Cert.AdamWideRefIdeal.main_v37) = v4 c
          ∧ r.2.mem ((c.tc : Thread Cert.AdamWideRefIdeal.nD Cert.AdamWideRefIdeal.τ).loc Cert.AdamWideRefIdeal.main_arg0) = m' ((c.tc : Thread Cert.AdamWideRefIdeal.nD Cert.AdamWideRefIdeal.τ).loc Cert.AdamWideRefIdeal.main_arg0)
          ∧ r.2.mem ((c.tc : Thread Cert.AdamWideRefIdeal.nD Cert.AdamWideRefIdeal.τ).loc Cert.AdamWideRefIdeal.main_arg1) = m' ((c.tc : Thread Cert.AdamWideRefIdeal.nD Cert.AdamWideRefIdeal.τ).loc Cert.AdamWideRefIdeal.main_arg1)
          ∧ r.2.mem ((c.tc : Thread Cert.AdamWideRefIdeal.nD Cert.AdamWideRefIdeal.τ).loc Cert.AdamWideRefIdeal.main_arg2) = m' ((c.tc : Thread Cert.AdamWideRefIdeal.nD Cert.AdamWideRefIdeal.τ).loc Cert.AdamWideRefIdeal.main_arg2)
          ∧ r.2.mem ((c.tc : Thread Cert.AdamWideRefIdeal.nD Cert.AdamWideRefIdeal.τ).loc Cert.AdamWideRefIdeal.main_arg3) = m' ((c.tc : Thread Cert.AdamWideRefIdeal.nD Cert.AdamWideRefIdeal.τ).loc Cert.AdamWideRefIdeal.main_arg3)
          ∧ r.2.mem ((c.tc : Thread Cert.AdamWideRefIdeal.nD Cert.AdamWideRefIdeal.τ).loc Cert.AdamWideRefIdeal.main_arg4) = m' ((c.tc : Thread Cert.AdamWideRefIdeal.nD Cert.AdamWideRefIdeal.τ).loc Cert.AdamWideRefIdeal.main_arg4)
          ∧ r.2.mem ((c.tc : Thread Cert.AdamWideRefIdeal.nD Cert.AdamWideRefIdeal.τ).loc Cert.AdamWideRefIdeal.main_arg5) = m' ((c.tc : Thread Cert.AdamWideRefIdeal.nD Cert.AdamWideRefIdeal.τ).loc Cert.AdamWideRefIdeal.main_arg5)
          ∧ r.2.mem ((c.tc : Thread Cert.AdamWideRefIdeal.nD Cert.AdamWideRefIdeal.τ).loc Cert.AdamWideRefIdeal.main_arg6) = m' ((c.tc : Thread Cert.AdamWideRefIdeal.nD Cert.AdamWideRefIdeal.τ).loc Cert.AdamWideRefIdeal.main_arg6)
          ∧ r.2.mem ((c.tc : Thread Cert.AdamWideRefIdeal.nD Cert.AdamWideRefIdeal.τ).loc Cert.AdamWideRefIdeal.main_arg7) = m' ((c.tc : Thread Cert.AdamWideRefIdeal.nD Cert.AdamWideRefIdeal.τ).loc Cert.AdamWideRefIdeal.main_arg7))

def preserves_AdamGates_AdamGatesIdeal : Prop :=
  True

def algebraic_AdamGatesIdeal_AdamGatesRefIdeal [hAdamGatesIdeal : Cert.AdamGatesIdeal.Facts] [hAdamGatesRefIdeal : Cert.AdamGatesRefIdeal.Facts] : Prop :=
  ∀ (m : (ℓ : Loc Cert.AdamGatesIdeal.nD Cert.AdamGatesIdeal.τ Cert.AdamGatesIdeal.sig) → Buf (Elt Ideal) ℓ) (g : Dev Cert.AdamGatesIdeal.nD → PrngReg)
    (m' : (ℓ : Loc Cert.AdamGatesRefIdeal.nD Cert.AdamGatesRefIdeal.τ Cert.AdamGatesRefIdeal.sig) → Buf (Elt Ideal) ℓ) (g' : Dev Cert.AdamGatesRefIdeal.nD → PrngReg), Pre_AdamGatesIdeal m →
    (∀ c : Dev Cert.AdamGatesIdeal.nD,
      m' ((c.tc : Thread Cert.AdamGatesRefIdeal.nD Cert.AdamGatesRefIdeal.τ).loc Cert.AdamGatesRefIdeal.main_arg0) = m ((c.tc : Thread Cert.AdamGatesIdeal.nD Cert.AdamGatesIdeal.τ).loc Cert.AdamGatesIdeal.main_arg0)
      ∧ m' ((c.tc : Thread Cert.AdamGatesRefIdeal.nD Cert.AdamGatesRefIdeal.τ).loc Cert.AdamGatesRefIdeal.main_arg1) = m ((c.tc : Thread Cert.AdamGatesIdeal.nD Cert.AdamGatesIdeal.τ).loc Cert.AdamGatesIdeal.main_arg1)
      ∧ m' ((c.tc : Thread Cert.AdamGatesRefIdeal.nD Cert.AdamGatesRefIdeal.τ).loc Cert.AdamGatesRefIdeal.main_arg2) = m ((c.tc : Thread Cert.AdamGatesIdeal.nD Cert.AdamGatesIdeal.τ).loc Cert.AdamGatesIdeal.main_arg2)
      ∧ m' ((c.tc : Thread Cert.AdamGatesRefIdeal.nD Cert.AdamGatesRefIdeal.τ).loc Cert.AdamGatesRefIdeal.main_arg3) = m ((c.tc : Thread Cert.AdamGatesIdeal.nD Cert.AdamGatesIdeal.τ).loc Cert.AdamGatesIdeal.main_arg3)
      ∧ m' ((c.tc : Thread Cert.AdamGatesRefIdeal.nD Cert.AdamGatesRefIdeal.τ).loc Cert.AdamGatesRefIdeal.main_arg4) = m ((c.tc : Thread Cert.AdamGatesIdeal.nD Cert.AdamGatesIdeal.τ).loc Cert.AdamGatesIdeal.main_arg4)
      ∧ m' ((c.tc : Thread Cert.AdamGatesRefIdeal.nD Cert.AdamGatesRefIdeal.τ).loc Cert.AdamGatesRefIdeal.main_arg5) = m ((c.tc : Thread Cert.AdamGatesIdeal.nD Cert.AdamGatesIdeal.τ).loc Cert.AdamGatesIdeal.main_arg5)
      ∧ m' ((c.tc : Thread Cert.AdamGatesRefIdeal.nD Cert.AdamGatesRefIdeal.τ).loc Cert.AdamGatesRefIdeal.main_arg6) = m ((c.tc : Thread Cert.AdamGatesIdeal.nD Cert.AdamGatesIdeal.τ).loc Cert.AdamGatesIdeal.main_arg6)
      ∧ m' ((c.tc : Thread Cert.AdamGatesRefIdeal.nD Cert.AdamGatesRefIdeal.τ).loc Cert.AdamGatesRefIdeal.main_arg7) = m ((c.tc : Thread Cert.AdamGatesIdeal.nD Cert.AdamGatesIdeal.τ).loc Cert.AdamGatesIdeal.main_arg7)) →
    ∃ (v0 : (c : Dev Cert.AdamGatesIdeal.nD) → Buf (Elt Ideal) ((c.tc : Thread Cert.AdamGatesIdeal.nD Cert.AdamGatesIdeal.τ).loc Cert.AdamGatesIdeal.main_v0_0)) (v1 : (c : Dev Cert.AdamGatesIdeal.nD) → Buf (Elt Ideal) ((c.tc : Thread Cert.AdamGatesIdeal.nD Cert.AdamGatesIdeal.τ).loc Cert.AdamGatesIdeal.main_v0_1)) (v2 : (c : Dev Cert.AdamGatesIdeal.nD) → Buf (Elt Ideal) ((c.tc : Thread Cert.AdamGatesIdeal.nD Cert.AdamGatesIdeal.τ).loc Cert.AdamGatesIdeal.main_v0_2)) (v3 : (c : Dev Cert.AdamGatesIdeal.nD) → Buf (Elt Ideal) ((c.tc : Thread Cert.AdamGatesIdeal.nD Cert.AdamGatesIdeal.τ).loc Cert.AdamGatesIdeal.main_v0_3)) (v4 : (c : Dev Cert.AdamGatesIdeal.nD) → Buf (Elt Ideal) ((c.tc : Thread Cert.AdamGatesIdeal.nD Cert.AdamGatesIdeal.τ).loc Cert.AdamGatesIdeal.main_v0_4)),
      θ_run (Cert.AdamGatesIdeal.defs (F := Ideal)) (onTc (τ := Cert.AdamGatesIdeal.τ) (Cert.AdamGatesIdeal.main (F := Ideal))) ⟨m, fun _ => 0, g⟩ (fun r => ∀ c : Dev Cert.AdamGatesIdeal.nD,
          r.2.mem ((c.tc : Thread Cert.AdamGatesIdeal.nD Cert.AdamGatesIdeal.τ).loc Cert.AdamGatesIdeal.main_v0_0) = v0 c
          ∧ r.2.mem ((c.tc : Thread Cert.AdamGatesIdeal.nD Cert.AdamGatesIdeal.τ).loc Cert.AdamGatesIdeal.main_v0_1) = v1 c
          ∧ r.2.mem ((c.tc : Thread Cert.AdamGatesIdeal.nD Cert.AdamGatesIdeal.τ).loc Cert.AdamGatesIdeal.main_v0_2) = v2 c
          ∧ r.2.mem ((c.tc : Thread Cert.AdamGatesIdeal.nD Cert.AdamGatesIdeal.τ).loc Cert.AdamGatesIdeal.main_v0_3) = v3 c
          ∧ r.2.mem ((c.tc : Thread Cert.AdamGatesIdeal.nD Cert.AdamGatesIdeal.τ).loc Cert.AdamGatesIdeal.main_v0_4) = v4 c
          ∧ r.2.mem ((c.tc : Thread Cert.AdamGatesIdeal.nD Cert.AdamGatesIdeal.τ).loc Cert.AdamGatesIdeal.main_arg0) = m ((c.tc : Thread Cert.AdamGatesIdeal.nD Cert.AdamGatesIdeal.τ).loc Cert.AdamGatesIdeal.main_arg0)
          ∧ r.2.mem ((c.tc : Thread Cert.AdamGatesIdeal.nD Cert.AdamGatesIdeal.τ).loc Cert.AdamGatesIdeal.main_arg1) = m ((c.tc : Thread Cert.AdamGatesIdeal.nD Cert.AdamGatesIdeal.τ).loc Cert.AdamGatesIdeal.main_arg1)
          ∧ r.2.mem ((c.tc : Thread Cert.AdamGatesIdeal.nD Cert.AdamGatesIdeal.τ).loc Cert.AdamGatesIdeal.main_arg2) = m ((c.tc : Thread Cert.AdamGatesIdeal.nD Cert.AdamGatesIdeal.τ).loc Cert.AdamGatesIdeal.main_arg2)
          ∧ r.2.mem ((c.tc : Thread Cert.AdamGatesIdeal.nD Cert.AdamGatesIdeal.τ).loc Cert.AdamGatesIdeal.main_arg3) = m ((c.tc : Thread Cert.AdamGatesIdeal.nD Cert.AdamGatesIdeal.τ).loc Cert.AdamGatesIdeal.main_arg3)
          ∧ r.2.mem ((c.tc : Thread Cert.AdamGatesIdeal.nD Cert.AdamGatesIdeal.τ).loc Cert.AdamGatesIdeal.main_arg4) = m ((c.tc : Thread Cert.AdamGatesIdeal.nD Cert.AdamGatesIdeal.τ).loc Cert.AdamGatesIdeal.main_arg4)
          ∧ r.2.mem ((c.tc : Thread Cert.AdamGatesIdeal.nD Cert.AdamGatesIdeal.τ).loc Cert.AdamGatesIdeal.main_arg5) = m ((c.tc : Thread Cert.AdamGatesIdeal.nD Cert.AdamGatesIdeal.τ).loc Cert.AdamGatesIdeal.main_arg5)
          ∧ r.2.mem ((c.tc : Thread Cert.AdamGatesIdeal.nD Cert.AdamGatesIdeal.τ).loc Cert.AdamGatesIdeal.main_arg6) = m ((c.tc : Thread Cert.AdamGatesIdeal.nD Cert.AdamGatesIdeal.τ).loc Cert.AdamGatesIdeal.main_arg6)
          ∧ r.2.mem ((c.tc : Thread Cert.AdamGatesIdeal.nD Cert.AdamGatesIdeal.τ).loc Cert.AdamGatesIdeal.main_arg7) = m ((c.tc : Thread Cert.AdamGatesIdeal.nD Cert.AdamGatesIdeal.τ).loc Cert.AdamGatesIdeal.main_arg7))
      ∧ θ_run (Cert.AdamGatesRefIdeal.defs (F := Ideal)) (onTc (τ := Cert.AdamGatesRefIdeal.τ) (Cert.AdamGatesRefIdeal.main (F := Ideal))) ⟨m', fun _ => 0, g'⟩ (fun r => ∀ c : Dev Cert.AdamGatesRefIdeal.nD,
          r.2.mem ((c.tc : Thread Cert.AdamGatesRefIdeal.nD Cert.AdamGatesRefIdeal.τ).loc Cert.AdamGatesRefIdeal.main_v7) = v0 c
          ∧ r.2.mem ((c.tc : Thread Cert.AdamGatesRefIdeal.nD Cert.AdamGatesRefIdeal.τ).loc Cert.AdamGatesRefIdeal.main_v31) = v1 c
          ∧ r.2.mem ((c.tc : Thread Cert.AdamGatesRefIdeal.nD Cert.AdamGatesRefIdeal.τ).loc Cert.AdamGatesRefIdeal.main_v12) = v2 c
          ∧ r.2.mem ((c.tc : Thread Cert.AdamGatesRefIdeal.nD Cert.AdamGatesRefIdeal.τ).loc Cert.AdamGatesRefIdeal.main_v18) = v3 c
          ∧ r.2.mem ((c.tc : Thread Cert.AdamGatesRefIdeal.nD Cert.AdamGatesRefIdeal.τ).loc Cert.AdamGatesRefIdeal.main_v38) = v4 c
          ∧ r.2.mem ((c.tc : Thread Cert.AdamGatesRefIdeal.nD Cert.AdamGatesRefIdeal.τ).loc Cert.AdamGatesRefIdeal.main_arg0) = m' ((c.tc : Thread Cert.AdamGatesRefIdeal.nD Cert.AdamGatesRefIdeal.τ).loc Cert.AdamGatesRefIdeal.main_arg0)
          ∧ r.2.mem ((c.tc : Thread Cert.AdamGatesRefIdeal.nD Cert.AdamGatesRefIdeal.τ).loc Cert.AdamGatesRefIdeal.main_arg1) = m' ((c.tc : Thread Cert.AdamGatesRefIdeal.nD Cert.AdamGatesRefIdeal.τ).loc Cert.AdamGatesRefIdeal.main_arg1)
          ∧ r.2.mem ((c.tc : Thread Cert.AdamGatesRefIdeal.nD Cert.AdamGatesRefIdeal.τ).loc Cert.AdamGatesRefIdeal.main_arg2) = m' ((c.tc : Thread Cert.AdamGatesRefIdeal.nD Cert.AdamGatesRefIdeal.τ).loc Cert.AdamGatesRefIdeal.main_arg2)
          ∧ r.2.mem ((c.tc : Thread Cert.AdamGatesRefIdeal.nD Cert.AdamGatesRefIdeal.τ).loc Cert.AdamGatesRefIdeal.main_arg3) = m' ((c.tc : Thread Cert.AdamGatesRefIdeal.nD Cert.AdamGatesRefIdeal.τ).loc Cert.AdamGatesRefIdeal.main_arg3)
          ∧ r.2.mem ((c.tc : Thread Cert.AdamGatesRefIdeal.nD Cert.AdamGatesRefIdeal.τ).loc Cert.AdamGatesRefIdeal.main_arg4) = m' ((c.tc : Thread Cert.AdamGatesRefIdeal.nD Cert.AdamGatesRefIdeal.τ).loc Cert.AdamGatesRefIdeal.main_arg4)
          ∧ r.2.mem ((c.tc : Thread Cert.AdamGatesRefIdeal.nD Cert.AdamGatesRefIdeal.τ).loc Cert.AdamGatesRefIdeal.main_arg5) = m' ((c.tc : Thread Cert.AdamGatesRefIdeal.nD Cert.AdamGatesRefIdeal.τ).loc Cert.AdamGatesRefIdeal.main_arg5)
          ∧ r.2.mem ((c.tc : Thread Cert.AdamGatesRefIdeal.nD Cert.AdamGatesRefIdeal.τ).loc Cert.AdamGatesRefIdeal.main_arg6) = m' ((c.tc : Thread Cert.AdamGatesRefIdeal.nD Cert.AdamGatesRefIdeal.τ).loc Cert.AdamGatesRefIdeal.main_arg6)
          ∧ r.2.mem ((c.tc : Thread Cert.AdamGatesRefIdeal.nD Cert.AdamGatesRefIdeal.τ).loc Cert.AdamGatesRefIdeal.main_arg7) = m' ((c.tc : Thread Cert.AdamGatesRefIdeal.nD Cert.AdamGatesRefIdeal.τ).loc Cert.AdamGatesRefIdeal.main_arg7))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)
      ∧ m' ((c.tc : Thread Cert.AdamPoolRefIdeal.nD Cert.AdamPoolRefIdeal.τ).loc Cert.AdamPoolRefIdeal.main_arg5) = m ((c.tc : Thread Cert.AdamPoolIdeal.nD Cert.AdamPoolIdeal.τ).loc Cert.AdamPoolIdeal.main_arg5)
      ∧ m' ((c.tc : Thread Cert.AdamPoolRefIdeal.nD Cert.AdamPoolRefIdeal.τ).loc Cert.AdamPoolRefIdeal.main_arg6) = m ((c.tc : Thread Cert.AdamPoolIdeal.nD Cert.AdamPoolIdeal.τ).loc Cert.AdamPoolIdeal.main_arg6)
      ∧ m' ((c.tc : Thread Cert.AdamPoolRefIdeal.nD Cert.AdamPoolRefIdeal.τ).loc Cert.AdamPoolRefIdeal.main_arg7) = m ((c.tc : Thread Cert.AdamPoolIdeal.nD Cert.AdamPoolIdeal.τ).loc Cert.AdamPoolIdeal.main_arg7)) →
    ∃ (v0 : (c : Dev Cert.AdamPoolIdeal.nD) → Buf (Elt Ideal) ((c.tc : Thread Cert.AdamPoolIdeal.nD Cert.AdamPoolIdeal.τ).loc Cert.AdamPoolIdeal.main_v0_0)) (v1 : (c : Dev Cert.AdamPoolIdeal.nD) → Buf (Elt Ideal) ((c.tc : Thread Cert.AdamPoolIdeal.nD Cert.AdamPoolIdeal.τ).loc Cert.AdamPoolIdeal.main_v0_1)) (v2 : (c : Dev Cert.AdamPoolIdeal.nD) → Buf (Elt Ideal) ((c.tc : Thread Cert.AdamPoolIdeal.nD Cert.AdamPoolIdeal.τ).loc Cert.AdamPoolIdeal.main_v0_2)) (v3 : (c : Dev Cert.AdamPoolIdeal.nD) → Buf (Elt Ideal) ((c.tc : Thread Cert.AdamPoolIdeal.nD Cert.AdamPoolIdeal.τ).loc Cert.AdamPoolIdeal.main_v0_3)) (v4 : (c : Dev Cert.AdamPoolIdeal.nD) → Buf (Elt Ideal) ((c.tc : Thread Cert.AdamPoolIdeal.nD Cert.AdamPoolIdeal.τ).loc Cert.AdamPoolIdeal.main_v0_4)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v0_0) = v0 c
          ∧ r.2.mem ((c.tc : Thread Cert.AdamPoolIdeal.nD Cert.AdamPoolIdeal.τ).loc Cert.AdamPoolIdeal.main_v0_1) = v1 c
          ∧ r.2.mem ((c.tc : Thread Cert.AdamPoolIdeal.nD Cert.AdamPoolIdeal.τ).loc Cert.AdamPoolIdeal.main_v0_2) = v2 c
          ∧ r.2.mem ((c.tc : Thread Cert.AdamPoolIdeal.nD Cert.AdamPoolIdeal.τ).loc Cert.AdamPoolIdeal.main_v0_3) = v3 c
          ∧ r.2.mem ((c.tc : Thread Cert.AdamPoolIdeal.nD Cert.AdamPoolIdeal.τ).loc Cert.AdamPoolIdeal.main_v0_4) = v4 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4)
          ∧ r.2.mem ((c.tc : Thread Cert.AdamPoolIdeal.nD Cert.AdamPoolIdeal.τ).loc Cert.AdamPoolIdeal.main_arg5) = m ((c.tc : Thread Cert.AdamPoolIdeal.nD Cert.AdamPoolIdeal.τ).loc Cert.AdamPoolIdeal.main_arg5)
          ∧ r.2.mem ((c.tc : Thread Cert.AdamPoolIdeal.nD Cert.AdamPoolIdeal.τ).loc Cert.AdamPoolIdeal.main_arg6) = m ((c.tc : Thread Cert.AdamPoolIdeal.nD Cert.AdamPoolIdeal.τ).loc Cert.AdamPoolIdeal.main_arg6)
          ∧ r.2.mem ((c.tc : Thread Cert.AdamPoolIdeal.nD Cert.AdamPoolIdeal.τ).loc Cert.AdamPoolIdeal.main_arg7) = m ((c.tc : Thread Cert.AdamPoolIdeal.nD Cert.AdamPoolIdeal.τ).loc Cert.AdamPoolIdeal.main_arg7))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v6) = v0 c
          ∧ r.2.mem ((c.tc : Thread Cert.AdamPoolRefIdeal.nD Cert.AdamPoolRefIdeal.τ).loc Cert.AdamPoolRefIdeal.main_v30) = v1 c
          ∧ r.2.mem ((c.tc : Thread Cert.AdamPoolRefIdeal.nD Cert.AdamPoolRefIdeal.τ).loc Cert.AdamPoolRefIdeal.main_v11) = v2 c
          ∧ r.2.mem ((c.tc : Thread Cert.AdamPoolRefIdeal.nD Cert.AdamPoolRefIdeal.τ).loc Cert.AdamPoolRefIdeal.main_v17) = v3 c
          ∧ r.2.mem ((c.tc : Thread Cert.AdamPoolRefIdeal.nD Cert.AdamPoolRefIdeal.τ).loc Cert.AdamPoolRefIdeal.main_v37) = v4 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4)
          ∧ r.2.mem ((c.tc : Thread Cert.AdamPoolRefIdeal.nD Cert.AdamPoolRefIdeal.τ).loc Cert.AdamPoolRefIdeal.main_arg5) = m' ((c.tc : Thread Cert.AdamPoolRefIdeal.nD Cert.AdamPoolRefIdeal.τ).loc Cert.AdamPoolRefIdeal.main_arg5)
          ∧ r.2.mem ((c.tc : Thread Cert.AdamPoolRefIdeal.nD Cert.AdamPoolRefIdeal.τ).loc Cert.AdamPoolRefIdeal.main_arg6) = m' ((c.tc : Thread Cert.AdamPoolRefIdeal.nD Cert.AdamPoolRefIdeal.τ).loc Cert.AdamPoolRefIdeal.main_arg6)
          ∧ r.2.mem ((c.tc : Thread Cert.AdamPoolRefIdeal.nD Cert.AdamPoolRefIdeal.τ).loc Cert.AdamPoolRefIdeal.main_arg7) = m' ((c.tc : Thread Cert.AdamPoolRefIdeal.nD Cert.AdamPoolRefIdeal.τ).loc Cert.AdamPoolRefIdeal.main_arg7))

def preserves_AdamIn_AdamInIdeal : Prop :=
  True

def algebraic_AdamInIdeal_AdamInRefIdeal [hAdamInIdeal : Cert.AdamInIdeal.Facts] [hAdamInRefIdeal : Cert.AdamInRefIdeal.Facts] [hPre_device_in : Cert.Pre_device_in.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v7) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v12) = v2 c
          ∧ r.2.mem ((c.tc : Thread Cert.AdamInRefIdeal.nD Cert.AdamInRefIdeal.τ).loc Cert.AdamInRefIdeal.main_v18) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_AdamOut_AdamOutIdeal : Prop :=
  True

def algebraic_AdamOutIdeal_AdamOutRefIdeal [hAdamOutIdeal : Cert.AdamOutIdeal.Facts] [hAdamOutRefIdeal : Cert.AdamOutRefIdeal.Facts] [hPre_device_out : Cert.Pre_device_out.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)
      ∧ m' ((c.tc : Thread Cert.AdamOutRefIdeal.nD Cert.AdamOutRefIdeal.τ).loc Cert.AdamOutRefIdeal.main_arg4) = m ((c.tc : Thread Cert.AdamOutIdeal.nD Cert.AdamOutIdeal.τ).loc Cert.AdamOutIdeal.main_arg4)
      ∧ m' ((c.tc : Thread Cert.AdamOutRefIdeal.nD Cert.AdamOutRefIdeal.τ).loc Cert.AdamOutRefIdeal.main_arg5) = m ((c.tc : Thread Cert.AdamOutIdeal.nD Cert.AdamOutIdeal.τ).loc Cert.AdamOutIdeal.main_arg5)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3)
          ∧ r.2.mem ((c.tc : Thread Cert.AdamOutIdeal.nD Cert.AdamOutIdeal.τ).loc Cert.AdamOutIdeal.main_arg4) = m ((c.tc : Thread Cert.AdamOutIdeal.nD Cert.AdamOutIdeal.τ).loc Cert.AdamOutIdeal.main_arg4)
          ∧ r.2.mem ((c.tc : Thread Cert.AdamOutIdeal.nD Cert.AdamOutIdeal.τ).loc Cert.AdamOutIdeal.main_arg5) = m ((c.tc : Thread Cert.AdamOutIdeal.nD Cert.AdamOutIdeal.τ).loc Cert.AdamOutIdeal.main_arg5))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v7) = v0 c
          ∧ r.2.mem ((c.tc : Thread Cert.AdamOutRefIdeal.nD Cert.AdamOutRefIdeal.τ).loc Cert.AdamOutRefIdeal.main_v31) = v1 c
          ∧ r.2.mem ((c.tc : Thread Cert.AdamOutRefIdeal.nD Cert.AdamOutRefIdeal.τ).loc Cert.AdamOutRefIdeal.main_v12) = v2 c
          ∧ r.2.mem ((c.tc : Thread Cert.AdamOutRefIdeal.nD Cert.AdamOutRefIdeal.τ).loc Cert.AdamOutRefIdeal.main_v18) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3)
          ∧ r.2.mem ((c.tc : Thread Cert.AdamOutRefIdeal.nD Cert.AdamOutRefIdeal.τ).loc Cert.AdamOutRefIdeal.main_arg4) = m' ((c.tc : Thread Cert.AdamOutRefIdeal.nD Cert.AdamOutRefIdeal.τ).loc Cert.AdamOutRefIdeal.main_arg4)
          ∧ r.2.mem ((c.tc : Thread Cert.AdamOutRefIdeal.nD Cert.AdamOutRefIdeal.τ).loc Cert.AdamOutRefIdeal.main_arg5) = m' ((c.tc : Thread Cert.AdamOutRefIdeal.nD Cert.AdamOutRefIdeal.τ).loc Cert.AdamOutRefIdeal.main_arg5))

def Claim : Prop :=
  ∃ (hBwdIn : Cert.BwdIn.Facts) (hBwdInIdeal : Cert.BwdInIdeal.Facts) (hBwdInRefIdeal : Cert.BwdInRefIdeal.Facts) (hDwIn : Cert.DwIn.Facts) (hDwInIdeal : Cert.DwInIdeal.Facts) (hDwInRefIdeal : Cert.DwInRefIdeal.Facts) (hOut : Cert.Out.Facts) (hOutIdeal : Cert.OutIdeal.Facts) (hOutRefIdeal : Cert.OutRefIdeal.Facts) (hFwd : Cert.Fwd.Facts) (hFwdIdeal : Cert.FwdIdeal.Facts) (hFwdRefIdeal : Cert.FwdRefIdeal.Facts) (hAdamConv : Cert.AdamConv.Facts) (hAdamConvIdeal : Cert.AdamConvIdeal.Facts) (hAdamConvRefIdeal : Cert.AdamConvRefIdeal.Facts) (hAdamAda : Cert.AdamAda.Facts) (hAdamAdaIdeal : Cert.AdamAdaIdeal.Facts) (hAdamAdaRefIdeal : Cert.AdamAdaRefIdeal.Facts) (hAdamRow : Cert.AdamRow.Facts) (hAdamRowIdeal : Cert.AdamRowIdeal.Facts) (hAdamRowRefIdeal : Cert.AdamRowRefIdeal.Facts) (hAdamHalf : Cert.AdamHalf.Facts) (hAdamHalfIdeal : Cert.AdamHalfIdeal.Facts) (hAdamHalfRefIdeal : Cert.AdamHalfRefIdeal.Facts) (hAdamWide : Cert.AdamWide.Facts) (hAdamWideIdeal : Cert.AdamWideIdeal.Facts) (hAdamWideRefIdeal : Cert.AdamWideRefIdeal.Facts) (hAdamGates : Cert.AdamGates.Facts) (hAdamGatesIdeal : Cert.AdamGatesIdeal.Facts) (hAdamGatesRefIdeal : Cert.AdamGatesRefIdeal.Facts) (hAdamPool : Cert.AdamPool.Facts) (hAdamPoolIdeal : Cert.AdamPoolIdeal.Facts) (hAdamPoolRefIdeal : Cert.AdamPoolRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hPre_finite : Cert.Pre_finite.Facts) (hPre_device_in : Cert.Pre_device_in.Facts) (hPre_device_out : Cert.Pre_device_out.Facts),
    quiescent_BwdIn (hBwdIn := hBwdIn)
    ∧ quiescent_BwdInIdeal (hBwdInIdeal := hBwdInIdeal)
    ∧ quiescent_BwdInIdeal_pre_finite (hBwdInIdeal := hBwdInIdeal) (hPre_finite := hPre_finite)
    ∧ quiescent_BwdInRefIdeal (hBwdInRefIdeal := hBwdInRefIdeal)
    ∧ quiescent_BwdInRefIdeal_pre_finite (hBwdInRefIdeal := hBwdInRefIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_Out (hOut := hOut)
    ∧ quiescent_OutIdeal (hOutIdeal := hOutIdeal)
    ∧ quiescent_OutRefIdeal (hOutRefIdeal := hOutRefIdeal)
    ∧ quiescent_Fwd (hFwd := hFwd)
    ∧ quiescent_FwdIdeal (hFwdIdeal := hFwdIdeal)
    ∧ quiescent_FwdRefIdeal (hFwdRefIdeal := hFwdRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_AdamRow (hAdamRow := hAdamRow)
    ∧ quiescent_AdamRowIdeal (hAdamRowIdeal := hAdamRowIdeal)
    ∧ quiescent_AdamRowRefIdeal (hAdamRowRefIdeal := hAdamRowRefIdeal)
    ∧ quiescent_AdamHalf (hAdamHalf := hAdamHalf)
    ∧ quiescent_AdamHalfIdeal (hAdamHalfIdeal := hAdamHalfIdeal)
    ∧ quiescent_AdamHalfRefIdeal (hAdamHalfRefIdeal := hAdamHalfRefIdeal)
    ∧ quiescent_AdamWide (hAdamWide := hAdamWide)
    ∧ quiescent_AdamWideIdeal (hAdamWideIdeal := hAdamWideIdeal)
    ∧ quiescent_AdamWideRefIdeal (hAdamWideRefIdeal := hAdamWideRefIdeal)
    ∧ quiescent_AdamGates (hAdamGates := hAdamGates)
    ∧ quiescent_AdamGatesIdeal (hAdamGatesIdeal := hAdamGatesIdeal)
    ∧ quiescent_AdamGatesRefIdeal (hAdamGatesRefIdeal := hAdamGatesRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamIn (hAdamIn := hAdamIn) (hPre_device_in := hPre_device_in)
    ∧ quiescent_AdamInIdeal (hAdamInIdeal := hAdamInIdeal) (hPre_device_in := hPre_device_in)
    ∧ quiescent_AdamInRefIdeal (hAdamInRefIdeal := hAdamInRefIdeal)
    ∧ quiescent_AdamInRefIdeal_pre_device_in (hAdamInRefIdeal := hAdamInRefIdeal) (hPre_device_in := hPre_device_in)
    ∧ quiescent_AdamOut (hAdamOut := hAdamOut) (hPre_device_out := hPre_device_out)
    ∧ quiescent_AdamOutIdeal (hAdamOutIdeal := hAdamOutIdeal) (hPre_device_out := hPre_device_out)
    ∧ quiescent_AdamOutRefIdeal (hAdamOutRefIdeal := hAdamOutRefIdeal)
    ∧ quiescent_AdamOutRefIdeal_pre_device_out (hAdamOutRefIdeal := hAdamOutRefIdeal) (hPre_device_out := hPre_device_out)
    ∧ preserves_BwdIn_BwdInIdeal
    ∧ algebraic_BwdInIdeal_BwdInRefIdeal_pre_finite (hBwdInIdeal := hBwdInIdeal) (hBwdInRefIdeal := hBwdInRefIdeal) (hPre_finite := hPre_finite)
    ∧ preserves_DwIn_DwInIdeal
    ∧ algebraic_DwInIdeal_DwInRefIdeal (hDwInIdeal := hDwInIdeal) (hDwInRefIdeal := hDwInRefIdeal)
    ∧ preserves_Out_OutIdeal
    ∧ algebraic_OutIdeal_OutRefIdeal (hOutIdeal := hOutIdeal) (hOutRefIdeal := hOutRefIdeal)
    ∧ preserves_Fwd_FwdIdeal
    ∧ algebraic_FwdIdeal_FwdRefIdeal (hFwdIdeal := hFwdIdeal) (hFwdRefIdeal := hFwdRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_AdamRow_AdamRowIdeal
    ∧ algebraic_AdamRowIdeal_AdamRowRefIdeal (hAdamRowIdeal := hAdamRowIdeal) (hAdamRowRefIdeal := hAdamRowRefIdeal)
    ∧ preserves_AdamHalf_AdamHalfIdeal
    ∧ algebraic_AdamHalfIdeal_AdamHalfRefIdeal (hAdamHalfIdeal := hAdamHalfIdeal) (hAdamHalfRefIdeal := hAdamHalfRefIdeal)
    ∧ preserves_AdamWide_AdamWideIdeal
    ∧ algebraic_AdamWideIdeal_AdamWideRefIdeal (hAdamWideIdeal := hAdamWideIdeal) (hAdamWideRefIdeal := hAdamWideRefIdeal)
    ∧ preserves_AdamGates_AdamGatesIdeal
    ∧ algebraic_AdamGatesIdeal_AdamGatesRefIdeal (hAdamGatesIdeal := hAdamGatesIdeal) (hAdamGatesRefIdeal := hAdamGatesRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamIn_AdamInIdeal
    ∧ algebraic_AdamInIdeal_AdamInRefIdeal (hAdamInIdeal := hAdamInIdeal) (hAdamInRefIdeal := hAdamInRefIdeal) (hPre_device_in := hPre_device_in)
    ∧ preserves_AdamOut_AdamOutIdeal
    ∧ algebraic_AdamOutIdeal_AdamOutRefIdeal (hAdamOutIdeal := hAdamOutIdeal) (hAdamOutRefIdeal := hAdamOutRefIdeal) (hPre_device_out := hPre_device_out)
-- ==== Pre_device_in.lean ====
abbrev S1 : Shape := ⟨1, ![1]⟩
abbrev S8x449x1024 : Shape := ⟨3, ![8, 449, 1024]⟩
abbrev S449x1024 : Shape := ⟨2, ![449, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x449x1024 .bf16) (main_arg2 : FVec F S8x449x1024 .bf16) (main_arg3 : FVec F S449x1024 .f32) (main_arg4 : FVec F S449x1024 .f32) (main_arg5 : FVec F S449x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_device_out.lean ====
abbrev S1 : Shape := ⟨1, ![1]⟩
abbrev S8x128x1024 : Shape := ⟨3, ![8, 128, 1024]⟩
abbrev S128x1024 : Shape := ⟨2, ![128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S8x128x1024 .bf16) (main_arg2 : FVec F S8x128x1024 .bf16) (main_arg3 : FVec F S128x1024 .f32) (main_arg4 : FVec F S128x1024 .f32) (main_arg5 : FVec F S128x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_finite.lean ====
abbrev S8192x3840 : Shape := ⟨2, ![8192, 3840]⟩
abbrev S3840x1024 : Shape := ⟨2, ![3840, 1024]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x3840 : S_.BroadcastsInDim S8192x3840 (![] : Fin 0 → Fin S8192x3840.rank)
  bcast_S_S3840x1024 : S_.BroadcastsInDim S3840x1024 (![] : Fin 0 → Fin S3840x1024.rank)
  bcast_S_S1x1024 : S_.BroadcastsInDim S1x1024 (![] : Fin 0 → Fin S1x1024.rank)

variable [Facts]

def fn {F : FTy → Type} [FloatOps F] (main_arg0 : FVec F S8192x3840 .bf16) (main_arg1 : FVec F S3840x1024 .bf16) (main_arg2 : FVec F S8192x1024 .f32) (main_arg3 : FVec F S8192x1024 .f32) (main_arg4 : FVec F S1x1024 .f32) (main_arg5 : FVec F S1x1024 .f32) : IVec S8192x3840 1 × IVec S3840x1024 1 × IVec S1x1024 1 × IVec S1x1024 1 :=
  let main_v0 : FVec F S8192x3840 .f32 := (extf .f32 · bitsLt_bf16_f32) main_arg0
  let main_v1 : FVec F S8192x3840 .f32 := Host.absf main_v0
  let main_cst : FVec F S_ .f32 := constant S_ .f32 0x7F800000#32
  let main_v2 : FVec F S8192x3840 .f32 := broadcastInDim S8192x3840 ![] bcast_S_S8192x3840 main_cst
  let main_v3 : IVec S8192x3840 1 := cmpf .olt main_v1 main_v2
  let main_v4 : FVec F S3840x1024 .f32 := (extf .f32 · bitsLt_bf16_f32) main_arg1
  let main_v5 : FVec F S3840x1024 .f32 := Host.absf main_v4
  let main_cst_0 : FVec F S_ .f32 := constant S_ .f32 0x7F800000#32
  let main_v6 : FVec F S3840x1024 .f32 := broadcastInDim S3840x1024 ![] bcast_S_S3840x1024 main_cst_0
  let main_v7 : IVec S3840x1024 1 := cmpf .olt main_v5 main_v6
  let main_v8 : FVec F S1x1024 .f32 := Host.absf main_arg4
  let main_cst_1 : FVec F S_ .f32 := constant S_ .f32 0x7F800000#32
  let main_v9 : FVec F S1x1024 .f32 := broadcastInDim S1x1024 ![] bcast_S_S1x1024 main_cst_1
  let main_v10 : IVec S1x1024 1 := cmpf .olt main_v8 main_v9
  let main_v11 : FVec F S1x1024 .f32 := Host.absf main_arg5
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== BwdIn.lean ====
abbrev S8192x3840 : Shape := ⟨2, ![8192, 3840]⟩
abbrev S3840x1024 : Shape := ⟨2, ![3840, 1024]⟩
abbrev S8192x1024 : Shape := ⟨2, ![8192, 1024]⟩
abbrev S1x1024 : Shape := ⟨2, ![1, 1024]⟩
abbrev S512x3840 : Shape := ⟨2, ![512, 3840]⟩
abbrev S512x1024 : Shape := ⟨2, ![512, 1024]⟩
abbrev S256x3840 : Shape := ⟨2, ![256, 3840]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8192x3840, .bf16⟩
  | .hbm, ⟨1, _⟩ => ⟨S3840x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S512x3840, .bf16⟩
  | .local _ .vmem, ⟨1, _⟩ => ⟨S512x3840, .bf16⟩
  | .local _ .vmem, ⟨2, _⟩ => ⟨S3840x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x3840, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdInRefIdeal.lean ====
abbrev S8192x3840 : Shape := ⟨2, ![8192, 3840]⟩
abbrev S3840x1024 : Shape := ⟨2, ![3840, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x3840 : Shape := ⟨2, ![1024, 3840]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x3840, .bf16⟩
  | .hbm, ⟨1, _⟩ => ⟨S3840x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S_, .f32⟩
  | .hbm, ⟨7, _⟩ => ⟨S1x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S3840x1024, .f32⟩
  | .hbm, ⟨35, _⟩ => ⟨S1024x3840, .f32⟩
  | .hbm, ⟨36, _⟩ => ⟨S8192x3840, .f32⟩
  | .hbm, ⟨37, _⟩ => ⟨S8192x3840, .f32⟩
  | .hbm, ⟨38, _⟩ => ⟨S8192x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | _, _ => ⟨S8192x3840, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== DwIn.lean ====
abbrev S8192x1024 : Shape := ⟨2, ![8192, 1024]⟩
abbrev S8192x3840 : Shape := ⟨2, ![8192, 3840]⟩
abbrev S3840x1024 : Shape := ⟨2, ![3840, 1024]⟩
abbrev S4096x1024 : Shape := ⟨2, ![4096, 1024]⟩
abbrev S4096x768 : Shape := ⟨2, ![4096, 768]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S3840x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x768, .bf16⟩
  | .local _ .vmem, ⟨3, _⟩ => ⟨S4096x768, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInRefIdeal.lean ====
abbrev S8192x1024 : Shape := ⟨2, ![8192, 1024]⟩
abbrev S8192x3840 : Shape := ⟨2, ![8192, 3840]⟩
abbrev S_ : Shape := ⟨0, ![]⟩
abbrev S3840x1024 : Shape := ⟨2, ![3840, 1024]⟩
abbrev S1024x3840 : Shape := ⟨2, ![1024, 3840]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3840, .bf16⟩
  | .hbm, ⟨2, _⟩ => ⟨S_, .f32⟩
  | .hbm, ⟨3, _⟩ => ⟨S3840x1024, .f32⟩
  | .hbm, ⟨4, _⟩ => ⟨S8192x1024, .f32⟩
  | .hbm, ⟨5, _⟩ => ⟨S1024x3840, .f32⟩
  | .hbm, ⟨6, _⟩ => ⟨S8192x3840, .f32⟩
  | .hbm, ⟨7, _⟩ => ⟨S8192x3840, .f32⟩
  | .hbm, ⟨8, _⟩ => ⟨S3840x1024, .f32⟩
  | .hbm, ⟨9, _⟩ => ⟨S1024x3840, .f32⟩
  | .hbm, ⟨10, _⟩ => ⟨S3840x1024, .f32⟩
  | .hbm, ⟨11, _⟩ => ⟨S3840x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1x1024 : Shape := ⟨2, ![1, 1024]⟩
abbrev S1x128 : Shape := ⟨2, ![1, 128]⟩
abbrev S512x1024 : Shape := ⟨2, ![512, 1024]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1x128, .f32⟩
  | .local _ .vmem, ⟨17, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v152 : BitVec 1 := Scalar.cmpi .eq arg0 c15_i32
  let v153 : BitVec 32 := Scalar.extui v152
  let c0_i32_83 : BitVec 32 := 0#32
  let v154 : BitVec 1 := Scalar.cmpi .ne v153 c0_i32_83
  v154

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 88
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x1024, .bf16⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S1024x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S1024x1024, .f32⟩
  | .hbm, ⟨84, _⟩ => ⟨S1024x1024, .f32⟩
  | .hbm, ⟨85, _⟩ => ⟨S8192x1024, .f32⟩
  | .hbm, ⟨86, _⟩ => ⟨S1024x1024, .bf16⟩
  | .hbm, ⟨87, _⟩ => ⟨S1x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_cst_8 : Ref sig .tc := ⟨.hbm, 45, rfl⟩
abbrev main_cst_9 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_13 : Ref sig .tc := ⟨.hbm, 67, rfl⟩
abbrev main_v47 : Ref sig .tc := ⟨.hbm, 68, rfl⟩
abbrev main_v48 : Ref sig .tc := ⟨.hbm, 69, rfl⟩
abbrev main_cst_14 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]
-- ==== Fwd.lean ====
abbrev S8192x1024 : Shape := ⟨2, ![8192, 1024]⟩
abbrev S1x1024 : Shape := ⟨2, ![1, 1024]⟩
abbrev S3840x1024 : Shape := ⟨2, ![3840, 1024]⟩
abbrev S8192x3584 : Shape := ⟨2, ![8192, 3584]⟩
abbrev S8192x128 : Shape := ⟨2, ![8192, 128]⟩
abbrev S512x1024 : Shape := ⟨2, ![512, 1024]⟩
abbrev S512x3584 : Shape := ⟨2, ![512, 3584]⟩
abbrev S512x128 : Shape := ⟨2, ![512, 128]⟩
abbrev S256x1024 : Shape := ⟨2, ![256, 1024]⟩
abbrev S256 : Shape := ⟨1, ![256]⟩
abbrev S256x1 : Shape := ⟨2, ![256, 1]⟩
abbrev S128x1024 : Shape := ⟨2, ![128, 1024]⟩
abbrev S256x128 : Shape := ⟨2, ![256, 128]⟩
abbrev S256x512 : Shape := ⟨2, ![256, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3840x1024, .bf16⟩
  | .hbm, ⟨5, _⟩ => ⟨S8192x3584, .f32⟩
  | .hbm, ⟨6, _⟩ => ⟨S8192x128, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S3840x1024, .bf16⟩
  | .local _ .vmem, ⟨6, _⟩ => ⟨S512x3584, .f32⟩
  | .local _ .vmem, ⟨7, _⟩ => ⟨S512x3584, .f32⟩
  | .local _ .vmem, ⟨8, _⟩ => ⟨S512x128, .f32⟩
  | .local _ .vmem, ⟨9, _⟩ => ⟨S512x128, .f32⟩
  | .local _ .vmem, ⟨10, _⟩ => ⟨S512x1024, .bf16⟩
  | .local _ .vmem, ⟨11, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3840x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdRefIdeal.lean ====
abbrev S8192x1024 : Shape := ⟨2, ![8192, 1024]⟩
abbrev S1x1024 : Shape := ⟨2, ![1, 1024]⟩
abbrev S3840x1024 : Shape := ⟨2, ![3840, 1024]⟩
abbrev S_ : Shape := ⟨0, ![]⟩
abbrev S8192 : Shape := ⟨1, ![8192]⟩
abbrev S8192x1 : Shape := ⟨2, ![8192, 1]⟩
abbrev S1024x3840 : Shape := ⟨2, ![1024, 3840]⟩
abbrev S8192x3840 : Shape := ⟨2, ![8192, 3840]⟩
abbrev S8192x3584 : Shape := ⟨2, ![8192, 3584]⟩
abbrev S8192x128 : Shape := ⟨2, ![8192, 128]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S3840x1024, .bf16⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S3840x1024, .f32⟩
  | .hbm, ⟨28, _⟩ => ⟨S1024x3840, .f32⟩
  | .hbm, ⟨29, _⟩ => ⟨S8192x3840, .f32⟩
  | .hbm, ⟨30, _⟩ => ⟨S8192x3584, .f32⟩
  | .hbm, ⟨31, _⟩ => ⟨S8192x128, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== AdamConv.lean ====
abbrev S8x4x128 : Shape := ⟨3, ![8, 4, 128]⟩
abbrev S4x128 : Shape := ⟨2, ![4, 128]⟩
abbrev S1x4x128 : Shape := ⟨3, ![1, 4, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S4x128, .f32⟩
  | .hbm, ⟨5, _⟩ => ⟨S4x128, .f32⟩
  | .hbm, ⟨6, _⟩ => ⟨S4x128, .f32⟩
  | .hbm, ⟨7, _⟩ => ⟨S4x128, .f32⟩
  | .local _ .vmem, ⟨0, _⟩ => ⟨S8x4x128, .f32⟩
  | .local _ .vmem, ⟨1, _⟩ => ⟨S4x128, .f32⟩
  | .local _ .vmem, ⟨2, _⟩ => ⟨S4x128, .f32⟩
  | .local _ .vmem, ⟨3, _⟩ => ⟨S4x128, .f32⟩
  | .local _ .vmem, ⟨4, _⟩ => ⟨S4x128, .f32⟩
  | .local _ .vmem, ⟨5, _⟩ => ⟨S4x128, .f32⟩
  | .local _ .vmem, ⟨6, _⟩ => ⟨S4x128, .f32⟩
  | .local _ .vmem, ⟨7, _⟩ => ⟨S4x128, .f32⟩
  | _, _ => ⟨S8x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S4x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S4x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S4x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]
-- ==== AdamConvRefIdeal.lean ====
abbrev S8x4x128 : Shape := ⟨3, ![8, 4, 128]⟩
abbrev S4x128 : Shape := ⟨2, ![4, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x128, .f32⟩
  | .hbm, ⟨1, _⟩ => ⟨S4x128, .f32⟩
  | .hbm, ⟨2, _⟩ => ⟨S4x128, .f32⟩
  | .hbm, ⟨3, _⟩ => ⟨S4x128, .f32⟩
  | .hbm, ⟨4, _⟩ => ⟨S_, .f32⟩
  | .hbm, ⟨5, _⟩ => ⟨S4x128, .f32⟩
  | .hbm, ⟨6, _⟩ => ⟨S_, .f32⟩
  | .hbm, ⟨7, _⟩ => ⟨S4x128, .f32⟩
  | .hbm, ⟨8, _⟩ => ⟨S4x128, .f32⟩
  | .hbm, ⟨9, _⟩ => ⟨S_, .f32⟩
  | .hbm, ⟨10, _⟩ => ⟨S4x128, .f32⟩
  | .hbm, ⟨11, _⟩ => ⟨S4x128, .f32⟩
  | .hbm, ⟨12, _⟩ => ⟨S4x128, .f32⟩
  | .hbm, ⟨13, _⟩ => ⟨S_, .f32⟩
  | .hbm, ⟨14, _⟩ => ⟨S4x128, .f32⟩
  | .hbm, ⟨15, _⟩ => ⟨S4x128, .f32⟩
  | .hbm, ⟨16, _⟩ => ⟨S4x128, .f32⟩
  | .hbm, ⟨17, _⟩ => ⟨S_, .f32⟩
  | .hbm, ⟨18, _⟩ => ⟨S4x128, .f32⟩
  | .hbm, ⟨19, _⟩ => ⟨S4x128, .f32⟩
  | .hbm, ⟨20, _⟩ => ⟨S4x128, .f32⟩
  | .hbm, ⟨21, _⟩ => ⟨S_, .f32⟩
  | .hbm, ⟨22, _⟩ => ⟨S4x128, .f32⟩
  | .hbm, ⟨23, _⟩ => ⟨S4x128, .f32⟩
  | .hbm, ⟨24, _⟩ => ⟨S_, .f32⟩
  | .hbm, ⟨25, _⟩ => ⟨S4x128, .f32⟩
  | .hbm, ⟨26, _⟩ => ⟨S4x128, .f32⟩
  | .hbm, ⟨27, _⟩ => ⟨S4x128, .f32⟩
  | .hbm, ⟨28, _⟩ => ⟨S_, .f32⟩
  | .hbm, ⟨29, _⟩ => ⟨S4x128, .f32⟩
  | .hbm, ⟨30, _⟩ => ⟨S4x128, .f32⟩
  | .hbm, ⟨31, _⟩ => ⟨S4x128, .f32⟩
  | .hbm, ⟨32, _⟩ => ⟨S_, .f32⟩
  | .hbm, ⟨33, _⟩ => ⟨S4x128, .f32⟩
  | .hbm, ⟨34, _⟩ => ⟨S4x128, .f32⟩
  | .hbm, ⟨35, _⟩ => ⟨S4x128, .f32⟩
  | .hbm, ⟨36, _⟩ => ⟨S_, .f32⟩
  | .hbm, ⟨37, _⟩ => ⟨S4x128, .f32⟩
  | .hbm, ⟨38, _⟩ => ⟨S4x128, .f32⟩
  | _, _ => ⟨S8x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamAda.lean ====
abbrev S16x1024 : Shape := ⟨2, ![16, 1024]⟩
abbrev S16x384 : Shape := ⟨2, ![16, 384]⟩
abbrev S1024x384 : Shape := ⟨2, ![1024, 384]⟩

abbrev nBuf : Space → Nat
  | .hbm => 9
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .hbm, ⟨8, _⟩ => ⟨S1024x384, .f32⟩
  | .local _ .vmem, ⟨0, _⟩ => ⟨S16x1024, .f32⟩
  | .local _ .vmem, ⟨1, _⟩ => ⟨S16x384, .f32⟩
  | .local _ .vmem, ⟨2, _⟩ => ⟨S1024x384, .f32⟩
  | .local _ .vmem, ⟨3, _⟩ => ⟨S1024x384, .f32⟩
  | .local _ .vmem, ⟨4, _⟩ => ⟨S1024x384, .f32⟩
  | .local _ .vmem, ⟨5, _⟩ => ⟨S1024x384, .f32⟩
  | .local _ .vmem, ⟨6, _⟩ => ⟨S1024x384, .f32⟩
  | .local _ .vmem, ⟨7, _⟩ => ⟨S1024x384, .f32⟩
  | .local _ .vmem, ⟨8, _⟩ => ⟨S1024x384, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== AdamAdaRefIdeal.lean ====
abbrev S16x1024 : Shape := ⟨2, ![16, 1024]⟩
abbrev S16x384 : Shape := ⟨2, ![16, 384]⟩
abbrev S1024x384 : Shape := ⟨2, ![1024, 384]⟩
abbrev S1024x16 : Shape := ⟨2, ![1024, 16]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x16, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S_, .f32⟩
  | .hbm, ⟨11, _⟩ => ⟨S1024x384, .f32⟩
  | .hbm, ⟨12, _⟩ => ⟨S1024x384, .f32⟩
  | .hbm, ⟨13, _⟩ => ⟨S1024x384, .f32⟩
  | .hbm, ⟨14, _⟩ => ⟨S_, .f32⟩
  | .hbm, ⟨15, _⟩ => ⟨S1024x384, .f32⟩
  | .hbm, ⟨16, _⟩ => ⟨S1024x384, .f32⟩
  | .hbm, ⟨17, _⟩ => ⟨S1024x384, .f32⟩
  | .hbm, ⟨18, _⟩ => ⟨S_, .f32⟩
  | .hbm, ⟨19, _⟩ => ⟨S1024x384, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S_, .f32⟩
  | .hbm, ⟨26, _⟩ => ⟨S1024x384, .f32⟩
  | .hbm, ⟨27, _⟩ => ⟨S1024x384, .f32⟩
  | .hbm, ⟨28, _⟩ => ⟨S1024x384, .f32⟩
  | .hbm, ⟨29, _⟩ => ⟨S_, .f32⟩
  | .hbm, ⟨30, _⟩ => ⟨S1024x384, .f32⟩
  | .hbm, ⟨31, _⟩ => ⟨S1024x384, .f32⟩
  | .hbm, ⟨32, _⟩ => ⟨S1024x384, .f32⟩
  | .hbm, ⟨33, _⟩ => ⟨S_, .f32⟩
  | .hbm, ⟨34, _⟩ => ⟨S1024x384, .f32⟩
  | .hbm, ⟨35, _⟩ => ⟨S1024x384, .f32⟩
  | .hbm, ⟨36, _⟩ => ⟨S1024x384, .f32⟩
  | .hbm, ⟨37, _⟩ => ⟨S_, .f32⟩
  | .hbm, ⟨38, _⟩ => ⟨S1024x384, .f32⟩
  | .hbm, ⟨39, _⟩ => ⟨S1024x384, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamRow.lean ====
abbrev S1 : Shape := ⟨1, ![1]⟩
abbrev S8x1x1024 : Shape := ⟨3, ![8, 1, 1024]⟩
abbrev S8x1x128 : Shape := ⟨3, ![8, 1, 128]⟩
abbrev S1x1024 : Shape := ⟨2, ![1, 1024]⟩
abbrev S1x128 : Shape := ⟨2, ![1, 128]⟩
abbrev S1x1x1024 : Shape := ⟨3, ![1, 1, 1024]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x1024, .f32⟩
  | .hbm, ⟨1, _⟩ => ⟨S8x1x128, .f32⟩
  | .hbm, ⟨2, _⟩ => ⟨S1x1024, .f32⟩
  | .hbm, ⟨3, _⟩ => ⟨S1x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x128, .f32⟩
  | .local _ .vmem, ⟨0, _⟩ => ⟨S8x1x1024, .f32⟩
  | .local _ .vmem, ⟨1, _⟩ => ⟨S8x1x128, .f32⟩
  | .local _ .vmem, ⟨2, _⟩ => ⟨S1x1024, .f32⟩
  | .local _ .vmem, ⟨3, _⟩ => ⟨S1x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x128, .f32⟩
  | .local _ .smem, ⟨0, _⟩ => ⟨S1, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamRowIdeal.lean ====
abbrev S1 : Shape := ⟨1, ![1]⟩
abbrev S8x1x1024 : Shape := ⟨3, ![8, 1, 1024]⟩
abbrev S8x1x128 : Shape := ⟨3, ![8, 1, 128]⟩
abbrev S1x1024 : Shape := ⟨2, ![1, 1024]⟩
abbrev S1x128 : Shape := ⟨2, ![1, 128]⟩
abbrev S1x1x1024 : Shape := ⟨3, ![1, 1, 1024]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x1024, .f32⟩
  | .hbm, ⟨1, _⟩ => ⟨S8x1x128, .f32⟩
  | .hbm, ⟨2, _⟩ => ⟨S1x1024, .f32⟩
  | .hbm, ⟨3, _⟩ => ⟨S1x128, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x128, .f32⟩
  | .local _ .vmem, ⟨0, _⟩ => ⟨S8x1x1024, .f32⟩
  | .local _ .vmem, ⟨1, _⟩ => ⟨S8x1x128, .f32⟩
  | .local _ .vmem, ⟨2, _⟩ => ⟨S1x1024, .f32⟩
  | .local _ .vmem, ⟨3, _⟩ => ⟨S1x128, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x128, .f32⟩
  | .local _ .smem, ⟨0, _⟩ => ⟨S1, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamRowRefIdeal.lean ====
abbrev S1 : Shape := ⟨1, ![1]⟩
abbrev S8x1x1024 : Shape := ⟨3, ![8, 1, 1024]⟩
abbrev S8x1x128 : Shape := ⟨3, ![8, 1, 128]⟩
abbrev S1x1024 : Shape := ⟨2, ![1, 1024]⟩
abbrev S1x128 : Shape := ⟨2, ![1, 128]⟩
abbrev S1x1x1024 : Shape := ⟨3, ![1, 1, 1024]⟩
abbrev S_ : Shape := ⟨0, ![]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x1024, .f32⟩
  | .hbm, ⟨2, _⟩ => ⟨S8x1x128, .f32⟩
  | .hbm, ⟨3, _⟩ => ⟨S1x1024, .f32⟩
  | .hbm, ⟨4, _⟩ => ⟨S1x128, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1x1024, .f32⟩
  | .hbm, ⟨9, _⟩ => ⟨S8x1x1024, .i32⟩
  | .hbm, ⟨10, _⟩ => ⟨S_, .i32⟩
  | .hbm, ⟨11, _⟩ => ⟨S8x1x1024, .i32⟩
  | .hbm, ⟨12, _⟩ => ⟨S8x1x1024, .i1⟩
  | .hbm, ⟨13, _⟩ => ⟨S8x1x1024, .f32⟩
  | .hbm, ⟨14, _⟩ => ⟨S8x1x1024, .f32⟩
  | .hbm, ⟨15, _⟩ => ⟨S_, .f32⟩
  | .hbm, ⟨16, _⟩ => ⟨S1x1024, .f32⟩
  | .hbm, ⟨17, _⟩ => ⟨S_, .f32⟩
  | .hbm, ⟨18, _⟩ => ⟨S1x1024, .f32⟩
  | .hbm, ⟨19, _⟩ => ⟨S1x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S_, .f32⟩
  | .hbm, ⟨48, _⟩ => ⟨S1x1024, .f32⟩
  | .hbm, ⟨49, _⟩ => ⟨S1x1024, .f32⟩
  | .hbm, ⟨50, _⟩ => ⟨S1x1x128, .f32⟩
  | .hbm, ⟨51, _⟩ => ⟨S8x1x128, .i32⟩
  | .hbm, ⟨52, _⟩ => ⟨S_, .i32⟩
  | .hbm, ⟨53, _⟩ => ⟨S8x1x128, .i32⟩
  | .hbm, ⟨54, _⟩ => ⟨S8x1x128, .i1⟩
  | .hbm, ⟨55, _⟩ => ⟨S8x1x128, .f32⟩
  | .hbm, ⟨56, _⟩ => ⟨S8x1x128, .f32⟩
  | .hbm, ⟨57, _⟩ => ⟨S_, .f32⟩
  | .hbm, ⟨58, _⟩ => ⟨S1x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamHalf.lean ====
abbrev S1 : Shape := ⟨1, ![1]⟩
abbrev S8x1x512 : Shape := ⟨3, ![8, 1, 512]⟩
abbrev S8x1x128 : Shape := ⟨3, ![8, 1, 128]⟩
abbrev S1x512 : Shape := ⟨2, ![1, 512]⟩
abbrev S1x128 : Shape := ⟨2, ![1, 128]⟩
abbrev S1x1x512 : Shape := ⟨3, ![1, 1, 512]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x512, .f32⟩
  | .hbm, ⟨1, _⟩ => ⟨S8x1x128, .f32⟩
  | .hbm, ⟨2, _⟩ => ⟨S1x512, .f32⟩
  | .hbm, ⟨3, _⟩ => ⟨S1x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x128, .f32⟩
  | .local _ .vmem, ⟨0, _⟩ => ⟨S8x1x512, .f32⟩
  | .local _ .vmem, ⟨1, _⟩ => ⟨S8x1x128, .f32⟩
  | .local _ .vmem, ⟨2, _⟩ => ⟨S1x512, .f32⟩
  | .local _ .vmem, ⟨3, _⟩ => ⟨S1x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x128, .f32⟩
  | .local _ .smem, ⟨0, _⟩ => ⟨S1, .i32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamHalfIdeal.lean ====
abbrev S1 : Shape := ⟨1, ![1]⟩
abbrev S8x1x512 : Shape := ⟨3, ![8, 1, 512]⟩
abbrev S8x1x128 : Shape := ⟨3, ![8, 1, 128]⟩
abbrev S1x512 : Shape := ⟨2, ![1, 512]⟩
abbrev S1x128 : Shape := ⟨2, ![1, 128]⟩
abbrev S1x1x512 : Shape := ⟨3, ![1, 1, 512]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x512, .f32⟩
  | .hbm, ⟨1, _⟩ => ⟨S8x1x128, .f32⟩
  | .hbm, ⟨2, _⟩ => ⟨S1x512, .f32⟩
  | .hbm, ⟨3, _⟩ => ⟨S1x128, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x128, .f32⟩
  | .local _ .vmem, ⟨0, _⟩ => ⟨S8x1x512, .f32⟩
  | .local _ .vmem, ⟨1, _⟩ => ⟨S8x1x128, .f32⟩
  | .local _ .vmem, ⟨2, _⟩ => ⟨S1x512, .f32⟩
  | .local _ .vmem, ⟨3, _⟩ => ⟨S1x128, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x128, .f32⟩
  | .local _ .smem, ⟨0, _⟩ => ⟨S1, .i32⟩
  | _, _ => ⟨S8x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamHalfRefIdeal.lean ====
abbrev S1 : Shape := ⟨1, ![1]⟩
abbrev S8x1x512 : Shape := ⟨3, ![8, 1, 512]⟩
abbrev S8x1x128 : Shape := ⟨3, ![8, 1, 128]⟩
abbrev S1x512 : Shape := ⟨2, ![1, 512]⟩
abbrev S1x128 : Shape := ⟨2, ![1, 128]⟩
abbrev S1x1x512 : Shape := ⟨3, ![1, 1, 512]⟩
abbrev S_ : Shape := ⟨0, ![]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x512, .f32⟩
  | .hbm, ⟨2, _⟩ => ⟨S8x1x128, .f32⟩
  | .hbm, ⟨3, _⟩ => ⟨S1x512, .f32⟩
  | .hbm, ⟨4, _⟩ => ⟨S1x128, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x1x512, .f32⟩
  | .hbm, ⟨9, _⟩ => ⟨S8x1x512, .i32⟩
  | .hbm, ⟨10, _⟩ => ⟨S_, .i32⟩
  | .hbm, ⟨11, _⟩ => ⟨S8x1x512, .i32⟩
  | .hbm, ⟨12, _⟩ => ⟨S8x1x512, .i1⟩
  | .hbm, ⟨13, _⟩ => ⟨S8x1x512, .f32⟩
  | .hbm, ⟨14, _⟩ => ⟨S8x1x512, .f32⟩
  | .hbm, ⟨15, _⟩ => ⟨S_, .f32⟩
  | .hbm, ⟨16, _⟩ => ⟨S1x512, .f32⟩
  | .hbm, ⟨17, _⟩ => ⟨S_, .f32⟩
  | .hbm, ⟨18, _⟩ => ⟨S1x512, .f32⟩
  | .hbm, ⟨19, _⟩ => ⟨S1x512, .f32⟩
  | .hbm, ⟨20, _⟩ => ⟨S_, .f32⟩
  | .hbm, ⟨21, _⟩ => ⟨S1x512, .f32⟩
  | .hbm, ⟨22, _⟩ => ⟨S1x512, .f32⟩
  | .hbm, ⟨23, _⟩ => ⟨S1x512, .f32⟩
  | .hbm, ⟨24, _⟩ => ⟨S_, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S_, .f32⟩
  | .hbm, ⟨29, _⟩ => ⟨S1x512, .f32⟩
  | .hbm, ⟨30, _⟩ => ⟨S1x512, .f32⟩
  | .hbm, ⟨31, _⟩ => ⟨S1x512, .f32⟩
  | .hbm, ⟨32, _⟩ => ⟨S_, .f32⟩
  | .hbm, ⟨33, _⟩ => ⟨S1x512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S1x512, .f32⟩
  | .hbm, ⟨39, _⟩ => ⟨S_, .f32⟩
  | .hbm, ⟨40, _⟩ => ⟨S1x512, .f32⟩
  | .hbm, ⟨41, _⟩ => ⟨S1x512, .f32⟩
  | .hbm, ⟨42, _⟩ => ⟨S1x512, .f32⟩
  | .hbm, ⟨43, _⟩ => ⟨S_, .f32⟩
  | .hbm, ⟨44, _⟩ => ⟨S1x512, .f32⟩
  | .hbm, ⟨45, _⟩ => ⟨S1x512, .f32⟩
  | .hbm, ⟨46, _⟩ => ⟨S1x512, .f32⟩
  | .hbm, ⟨47, _⟩ => ⟨S_, .f32⟩
  | .hbm, ⟨48, _⟩ => ⟨S1x512, .f32⟩
  | .hbm, ⟨49, _⟩ => ⟨S1x512, .f32⟩
  | .hbm, ⟨50, _⟩ => ⟨S1x1x128, .f32⟩
  | .hbm, ⟨51, _⟩ => ⟨S8x1x128, .i32⟩
  | .hbm, ⟨52, _⟩ => ⟨S_, .i32⟩
  | .hbm, ⟨53, _⟩ => ⟨S8x1x128, .i32⟩
  | .hbm, ⟨54, _⟩ => ⟨S8x1x128, .i1⟩
  | .hbm, ⟨55, _⟩ => ⟨S8x1x128, .f32⟩
  | .hbm, ⟨56, _⟩ => ⟨S8x1x128, .f32⟩
  | .hbm, ⟨57, _⟩ => ⟨S_, .f32⟩
  | .hbm, ⟨58, _⟩ => ⟨S1x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamWide.lean ====
abbrev S1 : Shape := ⟨1, ![1]⟩
abbrev S8x1x3072 : Shape := ⟨3, ![8, 1, 3072]⟩
abbrev S8x1x128 : Shape := ⟨3, ![8, 1, 128]⟩
abbrev S1x3072 : Shape := ⟨2, ![1, 3072]⟩
abbrev S1x128 : Shape := ⟨2, ![1, 128]⟩
abbrev S1x1x3072 : Shape := ⟨3, ![1, 1, 3072]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x3072, .f32⟩
  | .hbm, ⟨1, _⟩ => ⟨S8x1x128, .f32⟩
  | .hbm, ⟨2, _⟩ => ⟨S1x3072, .f32⟩
  | .hbm, ⟨3, _⟩ => ⟨S1x128, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S1x128, .f32⟩
  | .local _ .vmem, ⟨0, _⟩ => ⟨S8x1x3072, .f32⟩
  | .local _ .vmem, ⟨1, _⟩ => ⟨S8x1x128, .f32⟩
  | .local _ .vmem, ⟨2, _⟩ => ⟨S1x3072, .f32⟩
  | .local _ .vmem, ⟨3, _⟩ => ⟨S1x128, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S1x128, .f32⟩
  | .local _ .smem, ⟨0, _⟩ => ⟨S1, .i32⟩
  | _, _ => ⟨S8x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamWideIdeal.lean ====
abbrev S1 : Shape := ⟨1, ![1]⟩
abbrev S8x1x3072 : Shape := ⟨3, ![8, 1, 3072]⟩
abbrev S8x1x128 : Shape := ⟨3, ![8, 1, 128]⟩
abbrev S1x3072 : Shape := ⟨2, ![1, 3072]⟩
abbrev S1x128 : Shape := ⟨2, ![1, 128]⟩
abbrev S1x1x3072 : Shape := ⟨3, ![1, 1, 3072]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x3072, .f32⟩
  | .hbm, ⟨1, _⟩ => ⟨S8x1x128, .f32⟩
  | .hbm, ⟨2, _⟩ => ⟨S1x3072, .f32⟩
  | .hbm, ⟨3, _⟩ => ⟨S1x128, .f32⟩
  | .hbm, ⟨4, _⟩ => ⟨S1x3072, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x3072, .f32⟩
  | .hbm, ⟨9, _⟩ => ⟨S1x3072, .f32⟩
  | .hbm, ⟨10, _⟩ => ⟨S1x3072, .f32⟩
  | .hbm, ⟨11, _⟩ => ⟨S1x128, .f32⟩
  | .local _ .vmem, ⟨0, _⟩ => ⟨S8x1x3072, .f32⟩
  | .local _ .vmem, ⟨1, _⟩ => ⟨S8x1x128, .f32⟩
  | .local _ .vmem, ⟨2, _⟩ => ⟨S1x3072, .f32⟩
  | .local _ .vmem, ⟨3, _⟩ => ⟨S1x128, .f32⟩
  | .local _ .vmem, ⟨4, _⟩ => ⟨S1x3072, .f32⟩
  | .local _ .vmem, ⟨5, _⟩ => ⟨S1x3072, .f32⟩
  | .local _ .vmem, ⟨6, _⟩ => ⟨S1x3072, .f32⟩
  | .local _ .vmem, ⟨7, _⟩ => ⟨S1x3072, .f32⟩
  | .local _ .vmem, ⟨8, _⟩ => ⟨S1x3072, .f32⟩
  | .local _ .vmem, ⟨9, _⟩ => ⟨S1x3072, .f32⟩
  | .local _ .vmem, ⟨10, _⟩ => ⟨S1x3072, .f32⟩
  | .local _ .vmem, ⟨11, _⟩ => ⟨S1x128, .f32⟩
  | .local _ .smem, ⟨0, _⟩ => ⟨S1, .i32⟩
  | _, _ => ⟨S8x1x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x3072 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamWideRefIdeal.lean ====
abbrev S1 : Shape := ⟨1, ![1]⟩
abbrev S8x1x3072 : Shape := ⟨3, ![8, 1, 3072]⟩
abbrev S8x1x128 : Shape := ⟨3, ![8, 1, 128]⟩
abbrev S1x3072 : Shape := ⟨2, ![1, 3072]⟩
abbrev S1x128 : Shape := ⟨2, ![1, 128]⟩
abbrev S1x1x3072 : Shape := ⟨3, ![1, 1, 3072]⟩
abbrev S_ : Shape := ⟨0, ![]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x3072, .f32⟩
  | .hbm, ⟨2, _⟩ => ⟨S8x1x128, .f32⟩
  | .hbm, ⟨3, _⟩ => ⟨S1x3072, .f32⟩
  | .hbm, ⟨4, _⟩ => ⟨S1x128, .f32⟩
  | .hbm, ⟨5, _⟩ => ⟨S1x3072, .f32⟩
  | .hbm, ⟨6, _⟩ => ⟨S1x3072, .f32⟩
  | .hbm, ⟨7, _⟩ => ⟨S1x3072, .f32⟩
  | .hbm, ⟨8, _⟩ => ⟨S1x1x3072, .f32⟩
  | .hbm, ⟨9, _⟩ => ⟨S8x1x3072, .i32⟩
  | .hbm, ⟨10, _⟩ => ⟨S_, .i32⟩
  | .hbm, ⟨11, _⟩ => ⟨S8x1x3072, .i32⟩
  | .hbm, ⟨12, _⟩ => ⟨S8x1x3072, .i1⟩
  | .hbm, ⟨13, _⟩ => ⟨S8x1x3072, .f32⟩
  | .hbm, ⟨14, _⟩ => ⟨S8x1x3072, .f32⟩
  | .hbm, ⟨15, _⟩ => ⟨S_, .f32⟩
  | .hbm, ⟨16, _⟩ => ⟨S1x3072, .f32⟩
  | .hbm, ⟨17, _⟩ => ⟨S_, .f32⟩
  | .hbm, ⟨18, _⟩ => ⟨S1x3072, .f32⟩
  | .hbm, ⟨19, _⟩ => ⟨S1x3072, .f32⟩
  | .hbm, ⟨20, _⟩ => ⟨S_, .f32⟩
  | .hbm, ⟨21, _⟩ => ⟨S1x3072, .f32⟩
  | .hbm, ⟨22, _⟩ => ⟨S1x3072, .f32⟩
  | .hbm, ⟨23, _⟩ => ⟨S1x3072, .f32⟩
  | .hbm, ⟨24, _⟩ => ⟨S_, .f32⟩
  | .hbm, ⟨25, _⟩ => ⟨S1x3072, .f32⟩
  | .hbm, ⟨26, _⟩ => ⟨S1x3072, .f32⟩
  | .hbm, ⟨27, _⟩ => ⟨S1x3072, .f32⟩
  | .hbm, ⟨28, _⟩ => ⟨S_, .f32⟩
  | .hbm, ⟨29, _⟩ => ⟨S1x3072, .f32⟩
  | .hbm, ⟨30, _⟩ => ⟨S1x3072, .f32⟩
  | .hbm, ⟨31, _⟩ => ⟨S1x3072, .f32⟩
  | .hbm, ⟨32, _⟩ => ⟨S_, .f32⟩
  | .hbm, ⟨33, _⟩ => ⟨S1x3072, .f32⟩
  | .hbm, ⟨34, _⟩ => ⟨S1x3072, .f32⟩
  | .hbm, ⟨35, _⟩ => ⟨S_, .f32⟩
  | .hbm, ⟨36, _⟩ => ⟨S1x3072, .f32⟩
  | .hbm, ⟨37, _⟩ => ⟨S1x3072, .f32⟩
  | .hbm, ⟨38, _⟩ => ⟨S1x3072, .f32⟩
  | .hbm, ⟨39, _⟩ => ⟨S_, .f32⟩
  | .hbm, ⟨40, _⟩ => ⟨S1x3072, .f32⟩
  | .hbm, ⟨41, _⟩ => ⟨S1x3072, .f32⟩
  | .hbm, ⟨42, _⟩ => ⟨S1x3072, .f32⟩
  | .hbm, ⟨43, _⟩ => ⟨S_, .f32⟩
  | .hbm, ⟨44, _⟩ => ⟨S1x3072, .f32⟩
  | .hbm, ⟨45, _⟩ => ⟨S1x3072, .f32⟩
  | .hbm, ⟨46, _⟩ => ⟨S1x3072, .f32⟩
  | .hbm, ⟨47, _⟩ => ⟨S_, .f32⟩
  | .hbm, ⟨48, _⟩ => ⟨S1x3072, .f32⟩
  | .hbm, ⟨49, _⟩ => ⟨S1x3072, .f32⟩
  | .hbm, ⟨50, _⟩ => ⟨S1x1x128, .f32⟩
  | .hbm, ⟨51, _⟩ => ⟨S8x1x128, .i32⟩
  | .hbm, ⟨52, _⟩ => ⟨S_, .i32⟩
  | .hbm, ⟨53, _⟩ => ⟨S8x1x128, .i32⟩
  | .hbm, ⟨54, _⟩ => ⟨S8x1x128, .i1⟩
  | .hbm, ⟨55, _⟩ => ⟨S8x1x128, .f32⟩
  | .hbm, ⟨56, _⟩ => ⟨S8x1x128, .f32⟩
  | .hbm, ⟨57, _⟩ => ⟨S_, .f32⟩
  | .hbm, ⟨58, _⟩ => ⟨S1x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamGates.lean ====
abbrev S1 : Shape := ⟨1, ![1]⟩
abbrev S8x1x128 : Shape := ⟨3, ![8, 1, 128]⟩
abbrev S1x128 : Shape := ⟨2, ![1, 128]⟩
abbrev S1x8 : Shape := ⟨2, ![1, 8]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x128, .f32⟩
  | .hbm, ⟨1, _⟩ => ⟨S8x1x128, .f32⟩
  | .hbm, ⟨2, _⟩ => ⟨S1x128, .f32⟩
  | .hbm, ⟨3, _⟩ => ⟨S1x128, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S1x128, .f32⟩
  | .local _ .vmem, ⟨0, _⟩ => ⟨S8x1x128, .f32⟩
  | .local _ .vmem, ⟨1, _⟩ => ⟨S8x1x128, .f32⟩
  | .local _ .vmem, ⟨2, _⟩ => ⟨S1x128, .f32⟩
  | .local _ .vmem, ⟨3, _⟩ => ⟨S1x128, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S1x128, .f32⟩
  | .local _ .smem, ⟨0, _⟩ => ⟨S1, .i32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamGatesIdeal.lean ====
abbrev S1 : Shape := ⟨1, ![1]⟩
abbrev S8x1x128 : Shape := ⟨3, ![8, 1, 128]⟩
abbrev S1x128 : Shape := ⟨2, ![1, 128]⟩
abbrev S1x8 : Shape := ⟨2, ![1, 8]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x1x128, .f32⟩
  | .hbm, ⟨1, _⟩ => ⟨S8x1x128, .f32⟩
  | .hbm, ⟨2, _⟩ => ⟨S1x128, .f32⟩
  | .hbm, ⟨3, _⟩ => ⟨S1x128, .f32⟩
  | .hbm, ⟨4, _⟩ => ⟨S1x8, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x8, .f32⟩
  | .hbm, ⟨9, _⟩ => ⟨S1x8, .f32⟩
  | .hbm, ⟨10, _⟩ => ⟨S1x8, .f32⟩
  | .hbm, ⟨11, _⟩ => ⟨S1x128, .f32⟩
  | .local _ .vmem, ⟨0, _⟩ => ⟨S8x1x128, .f32⟩
  | .local _ .vmem, ⟨1, _⟩ => ⟨S8x1x128, .f32⟩
  | .local _ .vmem, ⟨2, _⟩ => ⟨S1x128, .f32⟩
  | .local _ .vmem, ⟨3, _⟩ => ⟨S1x128, .f32⟩
  | .local _ .vmem, ⟨4, _⟩ => ⟨S1x8, .f32⟩
  | .local _ .vmem, ⟨5, _⟩ => ⟨S1x8, .f32⟩
  | .local _ .vmem, ⟨6, _⟩ => ⟨S1x8, .f32⟩
  | .local _ .vmem, ⟨7, _⟩ => ⟨S1x8, .f32⟩
  | .local _ .vmem, ⟨8, _⟩ => ⟨S1x8, .f32⟩
  | .local _ .vmem, ⟨9, _⟩ => ⟨S1x8, .f32⟩
  | .local _ .vmem, ⟨10, _⟩ => ⟨S1x8, .f32⟩
  | .local _ .vmem, ⟨11, _⟩ => ⟨S1x128, .f32⟩
  | .local _ .smem, ⟨0, _⟩ => ⟨S1, .i32⟩
  | _, _ => ⟨S8x1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x8 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamGatesRefIdeal.lean ====
abbrev S1 : Shape := ⟨1, ![1]⟩
abbrev S8x1x128 : Shape := ⟨3, ![8, 1, 128]⟩
abbrev S1x128 : Shape := ⟨2, ![1, 128]⟩
abbrev S1x8 : Shape := ⟨2, ![1, 8]⟩
abbrev S1x1x128 : Shape := ⟨3, ![1, 1, 128]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x1x128, .f32⟩
  | .hbm, ⟨2, _⟩ => ⟨S8x1x128, .f32⟩
  | .hbm, ⟨3, _⟩ => ⟨S1x128, .f32⟩
  | .hbm, ⟨4, _⟩ => ⟨S1x128, .f32⟩
  | .hbm, ⟨5, _⟩ => ⟨S1x8, .f32⟩
  | .hbm, ⟨6, _⟩ => ⟨S1x8, .f32⟩
  | .hbm, ⟨7, _⟩ => ⟨S1x8, .f32⟩
  | .hbm, ⟨8, _⟩ => ⟨S1x1x128, .f32⟩
  | .hbm, ⟨9, _⟩ => ⟨S8x1x128, .i32⟩
  | .hbm, ⟨10, _⟩ => ⟨S_, .i32⟩
  | .hbm, ⟨11, _⟩ => ⟨S8x1x128, .i32⟩
  | .hbm, ⟨12, _⟩ => ⟨S8x1x128, .i1⟩
  | .hbm, ⟨13, _⟩ => ⟨S8x1x128, .f32⟩
  | .hbm, ⟨14, _⟩ => ⟨S8x1x128, .f32⟩
  | .hbm, ⟨15, _⟩ => ⟨S_, .f32⟩
  | .hbm, ⟨16, _⟩ => ⟨S1x128, .f32⟩
  | .hbm, ⟨17, _⟩ => ⟨S1x8, .f32⟩
  | .hbm, ⟨18, _⟩ => ⟨S_, .f32⟩
  | .hbm, ⟨19, _⟩ => ⟨S1x8, .f32⟩
  | .hbm, ⟨20, _⟩ => ⟨S1x8, .f32⟩
  | .hbm, ⟨21, _⟩ => ⟨S_, .f32⟩
  | .hbm, ⟨22, _⟩ => ⟨S1x8, .f32⟩
  | .hbm, ⟨23, _⟩ => ⟨S1x8, .f32⟩
  | .hbm, ⟨24, _⟩ => ⟨S1x8, .f32⟩
  | .hbm, ⟨25, _⟩ => ⟨S_, .f32⟩
  | .hbm, ⟨26, _⟩ => ⟨S1x8, .f32⟩
  | .hbm, ⟨27, _⟩ => ⟨S1x8, .f32⟩
  | .hbm, ⟨28, _⟩ => ⟨S1x8, .f32⟩
  | .hbm, ⟨29, _⟩ => ⟨S_, .f32⟩
  | .hbm, ⟨30, _⟩ => ⟨S1x8, .f32⟩
  | .hbm, ⟨31, _⟩ => ⟨S1x8, .f32⟩
  | .hbm, ⟨32, _⟩ => ⟨S1x8, .f32⟩
  | .hbm, ⟨33, _⟩ => ⟨S_, .f32⟩
  | .hbm, ⟨34, _⟩ => ⟨S1x8, .f32⟩
  | .hbm, ⟨35, _⟩ => ⟨S1x8, .f32⟩
  | .hbm, ⟨36, _⟩ => ⟨S_, .f32⟩
  | .hbm, ⟨37, _⟩ => ⟨S1x8, .f32⟩
  | .hbm, ⟨38, _⟩ => ⟨S1x8, .f32⟩
  | .hbm, ⟨39, _⟩ => ⟨S1x8, .f32⟩
  | .hbm, ⟨40, _⟩ => ⟨S_, .f32⟩
  | .hbm, ⟨41, _⟩ => ⟨S1x8, .f32⟩
  | .hbm, ⟨42, _⟩ => ⟨S1x8, .f32⟩
  | .hbm, ⟨43, _⟩ => ⟨S1x8, .f32⟩
  | .hbm, ⟨44, _⟩ => ⟨S_, .f32⟩
  | .hbm, ⟨45, _⟩ => ⟨S1x8, .f32⟩
  | .hbm, ⟨46, _⟩ => ⟨S1x8, .f32⟩
  | .hbm, ⟨47, _⟩ => ⟨S1x8, .f32⟩
  | .hbm, ⟨48, _⟩ => ⟨S_, .f32⟩
  | .hbm, ⟨49, _⟩ => ⟨S1x8, .f32⟩
  | .hbm, ⟨50, _⟩ => ⟨S1x8, .f32⟩
  | .hbm, ⟨51, _⟩ => ⟨S1x1x128, .f32⟩
  | .hbm, ⟨52, _⟩ => ⟨S8x1x128, .i32⟩
  | .hbm, ⟨53, _⟩ => ⟨S_, .i32⟩
  | .hbm, ⟨54, _⟩ => ⟨S8x1x128, .i32⟩
  | .hbm, ⟨55, _⟩ => ⟨S8x1x128, .i1⟩
  | .hbm, ⟨56, _⟩ => ⟨S8x1x128, .f32⟩
  | .hbm, ⟨57, _⟩ => ⟨S8x1x128, .f32⟩
  | .hbm, ⟨58, _⟩ => ⟨S_, .f32⟩
  | .hbm, ⟨59, _⟩ => ⟨S1x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_6 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== AdamPool.lean ====
abbrev S1 : Shape := ⟨1, ![1]⟩
abbrev S8x4x128x128 : Shape := ⟨4, ![8, 4, 128, 128]⟩
abbrev S8x1x128 : Shape := ⟨3, ![8, 1, 128]⟩
abbrev S4x128x128 : Shape := ⟨3, ![4, 128, 128]⟩
abbrev S1x128 : Shape := ⟨2, ![1, 128]⟩
abbrev S1x4x128x128 : Shape := ⟨4, ![1, 4, 128, 128]⟩
abbrev S1x1x128 : Shape := ⟨3, ![1, 1, 128]⟩

abbrev nBuf : Space → Nat
  | .hbm => 12
  | .vmem => 12
  | .smem => 1
  | _ => 0

abbrev bufTy : (tb : Table) → Fin (tcTables nBuf tb) → BufTy
  | .hbm, ⟨0, _⟩ => ⟨S8x4x128x128, .f32⟩
  | .hbm, ⟨1, _⟩ => ⟨S8x1x128, .f32⟩
  | .hbm, ⟨2, _⟩ => ⟨S4x128x128, .f32⟩
  | .hbm, ⟨3, _⟩ => ⟨S1x128, .f32⟩
  | .hbm, ⟨4, _⟩ => ⟨S4x128x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S4x128x128, .f32⟩
  | .hbm, ⟨9, _⟩ => ⟨S4x128x128, .f32⟩
  | .hbm, ⟨10, _⟩ => ⟨S4x128x128, .f32⟩
  | .hbm, ⟨11, _⟩ => ⟨S1x128, .f32⟩
  | .local _ .vmem, ⟨0, _⟩ => ⟨S8x4x128x128, .f32⟩
  | .local _ .vmem, ⟨1, _⟩ => ⟨S8x1x128, .f32⟩
  | .local _ .vmem, ⟨2, _⟩ => ⟨S4x128x128, .f32⟩
  | .local _ .vmem, ⟨3, _⟩ => ⟨S1x128, .f32⟩
  | .local _ .vmem, ⟨4, _⟩ => ⟨S4x128x128, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S4x128x128, .f32⟩
  | .local _ .vmem, ⟨10, _⟩ => ⟨S4x128x128, .f32⟩
  | .local _ .vmem, ⟨11, _⟩ => ⟨S1x128, .f32⟩
  | .local _ .smem, ⟨0, _⟩ => ⟨S1, .i32⟩
  | _, _ => ⟨S8x4x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x4x128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== AdamPoolRefIdeal.lean ====
abbrev S1 : Shape := ⟨1, ![1]⟩
abbrev S8x4x128x128 : Shape := ⟨4, ![8, 4, 128, 128]⟩
abbrev S8x1x128 : Shape := ⟨3, ![8, 1, 128]⟩
abbrev S4x128x128 : Shape := ⟨3, ![4, 128, 128]⟩
abbrev S1x128 : Shape := ⟨2, ![1, 128]⟩
abbrev S1x4x128x128 : Shape := ⟨4, ![1, 4, 128, 128]⟩
abbrev S_ : Shape := ⟨0, ![]⟩
abbrev S1x1x128 : Shape := ⟨3, ![1, 1, 128]⟩

abbrev nBuf : Space → Nat
  | .hbm => 59
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x4x128x128, .f32⟩
  | .hbm, ⟨2, _⟩ => ⟨S8x1x128, .f32⟩
  | .hbm, ⟨3, _⟩ => ⟨S4x128x128, .f32⟩
  | .hbm, ⟨4, _⟩ => ⟨S1x128, .f32⟩
  | .hbm, ⟨5, _⟩ => ⟨S4x128x128, .f32⟩
  | .hbm, ⟨6, _⟩ => ⟨S4x128x128, .f32⟩
  | .hbm, ⟨7, _⟩ => ⟨S4x128x128, .f32⟩
  | .hbm, ⟨8, _⟩ => ⟨S1x4x128x128, .f32⟩
  | .hbm, ⟨9, _⟩ => ⟨S8x4x128x128, .i32⟩
  | .hbm, ⟨10, _⟩ => ⟨S_, .i32⟩
  | .hbm, ⟨11, _⟩ => ⟨S8x4x128x128, .i32⟩
  | .hbm, ⟨12, _⟩ => ⟨S8x4x128x128, .i1⟩
  | .hbm, ⟨13, _⟩ => ⟨S8x4x128x128, .f32⟩
  | .hbm, ⟨14, _⟩ => ⟨S8x4x128x128, .f32⟩
  | .hbm, ⟨15, _⟩ => ⟨S_, .f32⟩
  | .hbm, ⟨16, _⟩ => ⟨S4x128x128, .f32⟩
  | .hbm, ⟨17, _⟩ => ⟨S_, .f32⟩
  | .hbm, ⟨18, _⟩ => ⟨S4x128x128, .f32⟩
  | .hbm, ⟨19, _⟩ => ⟨S4x128x128, .f32⟩
  | .hbm, ⟨20, _⟩ => ⟨S_, .f32⟩
  | .hbm, ⟨21, _⟩ => ⟨S4x128x128, .f32⟩
  | .hbm, ⟨22, _⟩ => ⟨S4x128x128, .f32⟩
  | .hbm, ⟨23, _⟩ => ⟨S4x128x128, .f32⟩
  | .hbm, ⟨24, _⟩ => ⟨S_, .f32⟩
  | .hbm, ⟨25, _⟩ => ⟨S4x128x128, .f32⟩
  | .hbm, ⟨26, _⟩ => ⟨S4x128x128, .f32⟩
  | .hbm, ⟨27, _⟩ => ⟨S4x128x128, .f32⟩
  | .hbm, ⟨28, _⟩ => ⟨S_, .f32⟩
  | .hbm, ⟨29, _⟩ => ⟨S4x128x128, .f32⟩
  | .hbm, ⟨30, _⟩ => ⟨S4x128x128, .f32⟩
  | .hbm, ⟨31, _⟩ => ⟨S4x128x128, .f32⟩
  | .hbm, ⟨32, _⟩ => ⟨S_, .f32⟩
  | .hbm, ⟨33, _⟩ => ⟨S4x128x128, .f32⟩
  | .hbm, ⟨34, _⟩ => ⟨S4x128x128, .f32⟩
  | .hbm, ⟨35, _⟩ => ⟨S_, .f32⟩
  | .hbm, ⟨36, _⟩ => ⟨S4x128x128, .f32⟩
  | .hbm, ⟨37, _⟩ => ⟨S4x128x128, .f32⟩
  | .hbm, ⟨38, _⟩ => ⟨S4x128x128, .f32⟩
  | .hbm, ⟨39, _⟩ => ⟨S_, .f32⟩
  | .hbm, ⟨40, _⟩ => ⟨S4x128x128, .f32⟩
  | .hbm, ⟨41, _⟩ => ⟨S4x128x128, .f32⟩
  | .hbm, ⟨42, _⟩ => ⟨S4x128x128, .f32⟩
  | .hbm, ⟨43, _⟩ => ⟨S_, .f32⟩
  | .hbm, ⟨44, _⟩ => ⟨S4x128x128, .f32⟩
  | .hbm, ⟨45, _⟩ => ⟨S4x128x128, .f32⟩
  | .hbm, ⟨46, _⟩ => ⟨S4x128x128, .f32⟩
  | .hbm, ⟨47, _⟩ => ⟨S_, .f32⟩
  | .hbm, ⟨48, _⟩ => ⟨S4x128x128, .f32⟩
  | .hbm, ⟨49, _⟩ => ⟨S4x128x128, .f32⟩
  | .hbm, ⟨50, _⟩ => ⟨S1x1x128, .f32⟩
  | .hbm, ⟨51, _⟩ => ⟨S8x1x128, .i32⟩
  | .hbm, ⟨52, _⟩ => ⟨S_, .i32⟩
  | .hbm, ⟨53, _⟩ => ⟨S8x1x128, .i32⟩
  | .hbm, ⟨54, _⟩ => ⟨S8x1x128, .i1⟩
  | .hbm, ⟨55, _⟩ => ⟨S8x1x128, .f32⟩
  | .hbm, ⟨56, _⟩ => ⟨S8x1x128, .f32⟩
  | .hbm, ⟨57, _⟩ => ⟨S_, .f32⟩
  | .hbm, ⟨58, _⟩ => ⟨S1x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_v0 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_call1_v0 : Ref sig .tc := ⟨.hbm, 55, rfl⟩
abbrev main_v36 : Ref sig .tc := ⟨.hbm, 56, rfl⟩
abbrev main_cst_9 : Ref sig .tc := ⟨.hbm, 57, rfl⟩
abbrev main_v37 : Ref sig .tc := ⟨.hbm, 58, rfl⟩

abbrev nD : Nat := 1
abbrev τ : Topo := Topo.v7x

variable {F : FTy → Type} [FloatOps F]
-- ==== AdamIn.lean ====
abbrev S1 : Shape := ⟨1, ![1]⟩
abbrev S8x449x1024 : Shape := ⟨3, ![8, 449, 1024]⟩
abbrev S449x1024 : Shape := ⟨2, ![449, 1024]⟩
abbrev S8x449x256 : Shape := ⟨3, ![8, 449, 256]⟩
abbrev S1x449x256 : Shape := ⟨3, ![1, 449, 256]⟩
abbrev S449x256 : Shape := ⟨2, ![449, 256]⟩

abbrev nBuf : Space → Nat
  | .hbm => 9
  | .vmem => 18
  | .smem => 1
  | _ => 0

abbrev bufTy : (tb : Table) → Fin (tcTables nBuf tb) → BufTy
  | .hbm, ⟨0, _⟩ => ⟨S8x449x1024, .bf16⟩
  | .hbm, ⟨1, _⟩ => ⟨S8x449x1024, .bf16⟩
  | .hbm, ⟨2, _⟩ => ⟨S449x1024, .f32⟩
  | .hbm, ⟨3, _⟩ => ⟨S449x1024, .f32⟩
  | .hbm, ⟨4, _⟩ => ⟨S449x1024, .f32⟩
  | .hbm, ⟨5, _⟩ => ⟨S449x1024, .f32⟩
  | .hbm, ⟨6, _⟩ => ⟨S449x1024, .f32⟩
  | .hbm, ⟨7, _⟩ => ⟨S449x1024, .f32⟩
  | .hbm, ⟨8, _⟩ => ⟨S449x1024, .f32⟩
  | .local _ .vmem, ⟨0, _⟩ => ⟨S8x449x256, .bf16⟩
  | .local _ .vmem, ⟨1, _⟩ => ⟨S8x449x256, .bf16⟩
  | .local _ .vmem, ⟨2, _⟩ => ⟨S1x449x256, .bf16⟩
  | .local _ .vmem, ⟨3, _⟩ => ⟨S1x449x256, .bf16⟩
  | .local _ .vmem, ⟨4, _⟩ => ⟨S449x256, .f32⟩
  | .local _ .vmem, ⟨5, _⟩ => ⟨S449x256, .f32⟩
  | .local _ .vmem, ⟨6, _⟩ => ⟨S449x256, .f32⟩
  | .local _ .vmem, ⟨7, _⟩ => ⟨S449x256, .f32⟩
  | .local _ .vmem, ⟨8, _⟩ => ⟨S449x256, .f32⟩
  | .local _ .vmem, ⟨9, _⟩ => ⟨S449x256, .f32⟩
  | .local _ .vmem, ⟨10, _⟩ => ⟨S449x256, .f32⟩
  | .local _ .vmem, ⟨11, _⟩ => ⟨S449x256, .f32⟩
  | .local _ .vmem, ⟨12, _⟩ => ⟨S449x256, .f32⟩
  | .local _ .vmem, ⟨13, _⟩ => ⟨S449x256, .f32⟩
  | .local _ .vmem, ⟨14, _⟩ => ⟨S449x256, .f32⟩
  | .local _ .vmem, ⟨15, _⟩ => ⟨S449x256, .f32⟩
  | .local _ .vmem, ⟨16, _⟩ => ⟨S449x256, .f32⟩
  | .local _ .vmem, ⟨17, _⟩ => ⟨S449x256, .f32⟩
  | .local _ .smem, ⟨0, _⟩ => ⟨S1, .i32⟩
  | _, _ => ⟨S8x449x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x449x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x449x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S449x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S449x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S449x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S449x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S449x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S449x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S449x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1 : Shape := ⟨1, ![1]⟩
abbrev S8x449x1024 : Shape := ⟨3, ![8, 449, 1024]⟩
abbrev S449x1024 : Shape := ⟨2, ![449, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x449x1024, .bf16⟩
  | .hbm, ⟨2, _⟩ => ⟨S8x449x1024, .bf16⟩
  | .hbm, ⟨3, _⟩ => ⟨S449x1024, .f32⟩
  | .hbm, ⟨4, _⟩ => ⟨S449x1024, .f32⟩
  | .hbm, ⟨5, _⟩ => ⟨S449x1024, .f32⟩
  | .hbm, ⟨6, _⟩ => ⟨S8x449x1024, .f32⟩
  | .hbm, ⟨7, _⟩ => ⟨S8x449x1024, .f32⟩
  | .hbm, ⟨8, _⟩ => ⟨S8x449x1024, .i32⟩
  | .hbm, ⟨9, _⟩ => ⟨S_, .i32⟩
  | .hbm, ⟨10, _⟩ => ⟨S8x449x1024, .i32⟩
  | .hbm, ⟨11, _⟩ => ⟨S8x449x1024, .i1⟩
  | .hbm, ⟨12, _⟩ => ⟨S8x449x1024, .f32⟩
  | .hbm, ⟨13, _⟩ => ⟨S_, .f32⟩
  | .hbm, ⟨14, _⟩ => ⟨S449x1024, .f32⟩
  | .hbm, ⟨15, _⟩ => ⟨S_, .f32⟩
  | .hbm, ⟨16, _⟩ => ⟨S449x1024, .f32⟩
  | .hbm, ⟨17, _⟩ => ⟨S449x1024, .f32⟩
  | .hbm, ⟨18, _⟩ => ⟨S_, .f32⟩
  | .hbm, ⟨19, _⟩ => ⟨S449x1024, .f32⟩
  | .hbm, ⟨20, _⟩ => ⟨S449x1024, .f32⟩
  | .hbm, ⟨21, _⟩ => ⟨S449x1024, .f32⟩
  | .hbm, ⟨22, _⟩ => ⟨S_, .f32⟩
  | .hbm, ⟨23, _⟩ => ⟨S449x1024, .f32⟩
  | .hbm, ⟨24, _⟩ => ⟨S449x1024, .f32⟩
  | .hbm, ⟨25, _⟩ => ⟨S449x1024, .f32⟩
  | .hbm, ⟨26, _⟩ => ⟨S_, .f32⟩
  | .hbm, ⟨27, _⟩ => ⟨S449x1024, .f32⟩
  | .hbm, ⟨28, _⟩ => ⟨S449x1024, .f32⟩
  | .hbm, ⟨29, _⟩ => ⟨S449x1024, .f32⟩
  | .hbm, ⟨30, _⟩ => ⟨S_, .f32⟩
  | .hbm, ⟨31, _⟩ => ⟨S449x1024, .f32⟩
  | .hbm, ⟨32, _⟩ => ⟨S449x1024, .f32⟩
  | .hbm, ⟨33, _⟩ => ⟨S_, .f32⟩
  | .hbm, ⟨34, _⟩ => ⟨S449x1024, .f32⟩
  | .hbm, ⟨35, _⟩ => ⟨S449x1024, .f32⟩
  | .hbm, ⟨36, _⟩ => ⟨S449x1024, .f32⟩
  | .hbm, ⟨37, _⟩ => ⟨S_, .f32⟩
  | .hbm, ⟨38, _⟩ => ⟨S449x1024, .f32⟩
  | .hbm, ⟨39, _⟩ => ⟨S449x1024, .f32⟩
  | .hbm, ⟨40, _⟩ => ⟨S449x1024, .f32⟩
  | .hbm, ⟨41, _⟩ => ⟨S_, .f32⟩
  | .hbm, ⟨42, _⟩ => ⟨S449x1024, .f32⟩
  | .hbm, ⟨43, _⟩ => ⟨S449x1024, .f32⟩
  | .hbm, ⟨44, _⟩ => ⟨S449x1024, .f32⟩
  | .hbm, ⟨45, _⟩ => ⟨S_, .f32⟩
  | .hbm, ⟨46, _⟩ => ⟨S449x1024, .f32⟩
  | .hbm, ⟨47, _⟩ => ⟨S449x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== AdamOut.lean ====
abbrev S1 : Shape := ⟨1, ![1]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S1x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamOutRefIdeal.lean ====
abbrev S1 : Shape := ⟨1, ![1]⟩
abbrev S8x128x1024 : Shape := ⟨3, ![8, 128, 1024]⟩
abbrev S128x1024 : Shape := ⟨2, ![128, 1024]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S8x128x1024, .bf16⟩
  | .hbm, ⟨2, _⟩ => ⟨S8x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S8x128x1024, .f32⟩
  | .hbm, ⟨7, _⟩ => ⟨S8x128x1024, .f32⟩
  | .hbm, ⟨8, _⟩ => ⟨S8x128x1024, .i32⟩
  | .hbm, ⟨9, _⟩ => ⟨S_, .i32⟩
  | .hbm, ⟨10, _⟩ => ⟨S8x128x1024, .i32⟩
  | .hbm, ⟨11, _⟩ => ⟨S8x128x1024, .i1⟩
  | .hbm, ⟨12, _⟩ => ⟨S8x128x1024, .f32⟩
  | .hbm, ⟨13, _⟩ => ⟨S_, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.RealNorm.lean ====
module

public import Idealize.ShloMosaic.Lib.Pipeline.ValueKit
public import Idealize.ShloMosaic.Lib.Pointwise

@[expose] public section

noncomputable section

/-!
Arithmetic of finite extended reals, and the gradient of the root mean square norm.

Two backward calls write the gradient of the norm `x ↦ x / √(mean x² + ε)` in the form
`r · (d − x r · mean (d · x r))`, where differentiating the plain definition gives the sum of the three
products of the chain rule.  The two agree for all extended reals: a row with an infinite entry has `r = 0`,
and on the others `r` is a positive real, which every sum admits as a factor.  A factor that may be negative
goes into a sum only when the entries are finite (`sum_mul`).
-/

namespace Cert.RealNorm

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨x, rfl⟩ := ha
  obtain ⟨y, rfl⟩ := hb
  exact ⟨x * y, by norm_cast⟩

theorem IsReal.add {a b : EReal} (ha : IsReal a) (hb : IsReal b) : IsReal (a + b) := by
  obtain ⟨x, rfl⟩ := ha
  obtain ⟨y, rfl⟩ := hb
  exact ⟨x + y, by norm_cast⟩

theorem isReal_one : IsReal 1 := ⟨1, by norm_cast⟩

/-- The cast of the reals into the extended reals, of a finite sum. -/
theorem coe_sum {ι : Type} (S : Finset ι) (f : ι → ℝ) :
    ((∑ i ∈ S, f i : ℝ) : EReal) = ∑ i ∈ S, (f i : EReal) := by
  classical
  induction S using Finset.induction_on with
  | empty => simp
  | insert a S h ih => rw [Finset.sum_insert h, Finset.sum_insert h, EReal.coe_add, ih]

theorem IsReal.sum {n : ℕ} {f : Fin n → EReal} (h : ∀ i, IsReal (f i)) : IsReal (∑ i, f i) := by
  choose g hg using h
  exact ⟨∑ i, g i, by simp only [hg, coe_sum]⟩

/-- A finite factor goes into a sum of finite entries. -/
theorem sum_mul {n : ℕ} {f : Fin n → EReal} {c : EReal} (h : ∀ i, IsReal (f i)) (hc : IsReal c) :
    (∑ i, f i) * c = ∑ i, f i * c := by
  choose g hg using h
  obtain ⟨r, rfl⟩ := hc
  simp only [hg, ← EReal.coe_mul, ← coe_sum, Finset.sum_mul]

/-- A value whose magnitude is below infinity is a real number. -/
theorem isReal_of_abs_lt {a : EReal} (h : max a (-a) < ⊤) : IsReal a := by
  induction a with
  | bot => simp at h
  | top => simp at h
  | coe r => exact ⟨r, rfl⟩

theorem ofBits_inf : Ideal.ofBits .f32 0x7F800000#32 = (⊤ : EReal) := by
  simp [Ideal.ofBits, Ideal.ieee]

/-- The length of a row. -/
theorem ofBits_len : Ideal.ofBits .f32 0x44800000#32 = ((1024 : ℝ) : EReal) := by
  simp [Ideal.ofBits, Ideal.ieee, -EReal.coe_mul]; norm_num

/-- One half. -/
theorem ofBits_half : Ideal.ofBits .f32 0x3F000000#32 = ((1 / 2 : ℝ) : EReal) := by
  simp [Ideal.ofBits, Ideal.ieee, -EReal.coe_mul]; norm_num

/-- Two. -/
theorem ofBits_two : Ideal.ofBits .f32 0x40000000#32 = ((2 : ℝ) : EReal) := by
  simp [Ideal.ofBits, Ideal.ieee, -EReal.coe_mul]; norm_num

/-- Minus one half. -/
theorem ofBits_neg_half : Ideal.ofBits .f32 0xBF000000#32 = ((-1 / 2 : ℝ) : EReal) := by
  simp [Ideal.ofBits, Ideal.ieee, -EReal.coe_mul, -EReal.coe_neg]; norm_num

/-- The number added below the root is positive. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- The mean of the squares of a row, plus the small constant. -/
def var (X : Fin 1024 → EReal) : EReal :=
  Ideal.div (∑ k, X k * X k) (Ideal.ofBits .f32 0x44800000#32) + Ideal.ofBits .f32 0x358637BD#32

/-- It is a positive real on a finite row. -/
theorem var_real {x : Fin 1024 → ℝ} : ∃ v : ℝ, 0 < v ∧ var (fun k => (x k : EReal)) = (v : EReal) := by
  obtain ⟨e, he, hb⟩ := ofBits_eps
  refine ⟨(∑ k, x k * x k) * (1 / 1024) + e, ?_, ?_⟩
  · have : 0 ≤ ∑ k, x k * x k := Finset.sum_nonneg fun k _ => mul_self_nonneg (x k)
    positivity
  · rw [var, hb, ofBits_len, Ideal.div_coe (by norm_num)]
    simp only [← EReal.coe_mul, ← coe_sum, ← EReal.coe_add]

theorem rsqrt_pos {v : ℝ} (h : 0 < v) : Ideal.rsqrt (v : EReal) = (((Real.sqrt v)⁻¹ : ℝ) : EReal) := by
  rw [Ideal.rsqrt_coe, if_neg (not_lt.mpr h.le), if_neg h.ne']

/-- A positive finite factor goes into any sum. -/
theorem sum_mul_pos {n : ℕ} (f : Fin n → EReal) {c : ℝ} (hc : 0 ≤ c) : (∑ i, f i) * (c : EReal) = ∑ i, f i * (c : EReal) := by
  have h : ∀ S : Finset (Fin n), (∑ i ∈ S, f i) * (c : EReal) = ∑ i ∈ S, f i * (c : EReal) := by
    intro S
    induction S using Finset.induction_on with
    | empty => simp
    | insert a S h ih =>
      rw [Finset.sum_insert h, Finset.sum_insert h, EReal.right_distrib_of_nonneg_of_ne_top (by exact_mod_cast hc)
        (EReal.coe_ne_top c), ih]
  exact h Finset.univ

/-- A square is not negative. -/
theorem mul_self_nonneg' (a : EReal) : 0 ≤ a * a := by
  rcases le_total 0 a with h | h
  · exact EReal.mul_nonneg h h
  · rw [← neg_mul_neg]
    exact EReal.mul_nonneg (by simpa using h) (by simpa using h)

/-- A row with an infinite entry has an infinite mean square. -/
theorem var_top {X : Fin 1024 → EReal} (h : ¬∀ k, IsReal (X k)) : var X = ⊤ := by
  obtain ⟨e, he, hb⟩ := ofBits_eps
  obtain ⟨k, hk⟩ := not_forall.mp h
  have hs : X k * X k = ⊤ := by
    generalize X k = a at hk
    induction a with
    | bot => rfl
    | top => rfl
    | coe r => exact absurd ⟨r, rfl⟩ hk
  have ht : ∑ k, X k * X k = (⊤ : EReal) :=
    top_le_iff.mp (hs ▸ Finset.single_le_sum (f := fun k => X k * X k) (fun i _ => mul_self_nonneg' (X i)) (Finset.mem_univ k))
  rw [var, ht, hb, ofBits_len, Ideal.div_coe (by norm_num), EReal.top_mul_coe_of_pos (by norm_num), EReal.top_add_coe]

/-- Such a row is normalised to zero. -/
theorem rsqrt_top : Ideal.rsqrt (⊤ : EReal) = 0 := rfl

/-- A normalised entry is finite whatever the row holds. -/
theorem isReal_mul_rsqrt (X : Fin 1024 → EReal) (l : Fin 1024) : IsReal (X l * Ideal.rsqrt (var X)) := by
  by_cases hX : ∀ k, IsReal (X k)
  · refine (hX l).mul ?_
    choose x hx using hX
    obtain rfl : X = fun k => (x k : EReal) := funext hx
    obtain ⟨v, hv, e⟩ := var_real (x := x)
    exact ⟨_, by rw [e, rsqrt_pos hv]⟩
  · rw [var_top hX, rsqrt_top, mul_zero]
    exact ⟨0, rfl⟩

/-- The factor of `2 x` in the gradient of the mean of the squares. -/
def pull (X D : Fin 1024 → EReal) : EReal :=
  Ideal.div ((∑ k, X k * D k) * (Ideal.ofBits .f32 0xBF000000#32
    * Ideal.div (Ideal.rsqrt (var X)) (var X))) (Ideal.ofBits .f32 0x44800000#32)

/-- The gradient of the norm in the form of one difference equals the sum the chain rule gives, for all rows. -/
theorem rms_grad (X D : Fin 1024 → EReal) (l : Fin 1024) :
    Ideal.rsqrt (var X) * (D l - X l * Ideal.rsqrt (var X)
      * Ideal.div (∑ k, D k * (X k * Ideal.rsqrt (var X))) (Ideal.ofBits .f32 0x44800000#32))
      = D l * Ideal.rsqrt (var X) + X l * pull X D + pull X D * X l := by
  have hn : (1024 : ℝ) ≠ 0 := by norm_num
  by_cases hX : ∀ k, IsReal (X k)
  · choose x hx using hX
    obtain rfl : X = fun k => (x k : EReal) := funext hx
    obtain ⟨v, hv, e⟩ := var_real (x := x)
    have hr : (Real.sqrt v)⁻¹ * (Real.sqrt v)⁻¹ = 1 / v := by
      rw [← mul_inv, Real.mul_self_sqrt hv.le, one_div]
    have hr0 : 0 ≤ (Real.sqrt v)⁻¹ := inv_nonneg.mpr (Real.sqrt_nonneg v)
    simp only [pull, e, rsqrt_pos hv, ofBits_len, ofBits_neg_half, Ideal.div_coe hv.ne', Ideal.div_coe hn]
    generalize (Real.sqrt v)⁻¹ = r at hr hr0
    have hsum : ∑ k, D k * ((x k : EReal) * (r : EReal)) = (∑ k, (x k : EReal) * D k) * (r : EReal) := by
      rw [sum_mul_pos _ hr0]
      exact Finset.sum_congr rfl fun k _ => by rw [← mul_assoc, mul_comm (D k)]
    rw [hsum]
    generalize (∑ k, (x k : EReal) * D k) = S
    have hc : ∀ a b : EReal, (r : EReal) * (a - b) = a * r + b * ((-r : ℝ) : EReal) := fun a b => by
      rw [sub_eq_add_neg, EReal.left_distrib_of_nonneg_of_ne_top (by exact_mod_cast hr0) (EReal.coe_ne_top r),
        mul_comm _ a, mul_neg, mul_comm _ b, EReal.coe_neg, mul_neg]
    rw [hc, add_assoc]
    refine congrArg₂ (· + ·) rfl ?_
    have two : ∀ a : EReal, a + a = a * ((2 : ℝ) : EReal) := fun a => by
      rw [show (2 : ℝ) = 1 + 1 by norm_num, EReal.coe_add, EReal.left_distrib_of_nonneg (by simp) (by simp)] <;> simp
    rw [mul_comm _ (x l : EReal), two]
    have h1 : (x l : EReal) * (r : EReal) * (S * (r : EReal) * ((1 / 1024 : ℝ) : EReal)) * ((-r : ℝ) : EReal)
        = (x l : EReal) * S * ((r : EReal) * (r : EReal) * ((1 / 1024 : ℝ) : EReal) * ((-r : ℝ) : EReal)) := by ac_rfl
    have h2 : (x l : EReal) * (S * (((-1 / 2 : ℝ) : EReal) * ((r : EReal) * ((1 / v : ℝ) : EReal))) * ((1 / 1024 : ℝ) : EReal))
          * ((2 : ℝ) : EReal)
        = (x l : EReal) * S * (((-1 / 2 : ℝ) : EReal) * ((r : EReal) * ((1 / v : ℝ) : EReal)) * ((1 / 1024 : ℝ) : EReal)
          * ((2 : ℝ) : EReal)) := by ac_rfl
    rw [h1, h2]
    refine congrArg _ ?_
    simp only [← EReal.coe_mul]
    refine congrArg _ ?_
    rw [← hr]
    ring
  · have h0 : Ideal.div 0 (⊤ : EReal) = 0 := by simp [Ideal.div]
    simp only [pull, var_top hX, rsqrt_top, h0, ofBits_len, Ideal.div_coe hn, mul_zero, zero_mul, add_zero]

/-- A sum over the rows of an array, point by point: each of the `N` points takes `C = 2 B` rows, in two halves. -/
theorem sum_rows {N : ℕ} (B C R : ℕ) (hC : C = B + B) (hR : R = N * C) (f : Fin R → EReal)
    (h₁ : ∀ (p : Fin N) (a : Fin B), C * p.val + a.val < R) (h₂ : ∀ (p : Fin N) (a : Fin B), C * p.val + (B + a.val) < R) :
    ∑ p : Fin N, ((∑ a : Fin B, f ⟨C * p.val + a.val, h₁ p a⟩)
      + ∑ a : Fin B, f ⟨C * p.val + (B + a.val), h₂ p a⟩) = ∑ r : Fin R, f r := by
  subst hC
  have h (t : Fin N) (k : Fin (B + B)) : (B + B) * t.val + k.val < R := by
    have := t.isLt; have := k.isLt; rw [hR]; nlinarith
  have e : ∑ t : Fin N, ∑ k : Fin (B + B), f ⟨(B + B) * t.val + k.val, h t k⟩ = ∑ r : Fin R, f r := by
    refine (Fin.sum_points_lanes_congr (A := 1) (L := R) N (g := fun _ r => f r) (fun t k ha hl => ?_)
      (by omega) hR).trans (Fin.sum_univ_one _)
    congr 2
    rw [Nat.mod_eq_of_lt t.isLt, Nat.mul_comm]
  rw [← e]
  exact Finset.sum_congr rfl fun p _ =>
    (Fin.sum_univ_add fun k : Fin (B + B) => f ⟨(B + B) * p.val + k.val, h p k⟩).symm

end Cert.RealNorm

end
-- ==== Proof.BwdInValue.lean ====
module

public import proofs.«01_k».proof.Proof.Gen.BwdInIdeal.Value
public import proofs.«01_k».proof.Proof.Gen.BwdInRefIdeal.Read
public import proofs.«01_k».proof.Proof.RealNorm

/-! The gradient of the input projection and of the modulated norm before it: the four result arrays of the kernel
are the reference's terms.  The gradients of the input and of the shift are so over all extended reals.  Those of
the scale and of the norm's weight take a factor out of a sum, and ask that the gradient `dproj`, the weight and
the factor are finite. -/

@[expose] public section

set_option maxRecDepth 16384

noncomputable section

namespace Cert.BwdInIdeal.Final

open Idealize.ShloMosaic Idealize.ShloMosaic.TcCoe Idealize.SL.Sem
open Idealize.ShloMosaic.Pipeline (Dat)
open Cert.BwdInIdeal Cert.BwdInIdeal.Gen Cert.RealNorm

variable (m : (ℓ : Loc nD τ sig) → Buf (Elt Ideal) ℓ)

/-- The gradient that reaches the modulated norm's output. -/
def dh (d : FVec Ideal S8192x3840 .bf16) (w : FVec Ideal S3840x1024 .bf16) (r : Fin 8192) (l : Fin 1024) : EReal :=
  ∑ k : Fin 3840, d (ix2 r k) * w (ix2 k l)

/-- The reciprocal root mean square of a row. -/
def rr (x : FVec Ideal S8192x1024 .f32) (r : Fin 8192) : EReal :=
  Ideal.rsqrt (var fun k => x (ix2 r k))

theorem REF7_apply (d : FVec Ideal S8192x3840 .bf16) (w : FVec Ideal S3840x1024 .bf16) (i : S1x1024.Idx) :
    Cert.BwdInRefIdeal.Read.val_main_v28 (F := Ideal) d w i = ∑ r, dh d w r (i 1) := by
  simp only [← Cert.BwdInRefIdeal.Read.val_main_v28_eq]
  pointwise [dh]

theorem REF8_apply (d : FVec Ideal S8192x3840 .bf16) (w : FVec Ideal S3840x1024 .bf16) (x : FVec Ideal S8192x1024 .f32)
    (g : FVec Ideal S1x1024 .f32) (i : S1x1024.Idx) :
    Cert.BwdInRefIdeal.Read.val_main_v31 (F := Ideal) d w x g i
      = ∑ r, x (ix2 r (i 1)) * rr x r * g (ix2 0 (i 1)) * dh d w r (i 1) := by
  simp only [← Cert.BwdInRefIdeal.Read.val_main_v31_eq]
  pointwise [dh, rr, var]

theorem REF9_apply (d : FVec Ideal S8192x3840 .bf16) (w : FVec Ideal S3840x1024 .bf16) (x : FVec Ideal S8192x1024 .f32)
    (s : FVec Ideal S1x1024 .f32) (i : S1x1024.Idx) :
    Cert.BwdInRefIdeal.Read.val_main_v36 (F := Ideal) d w x s i
      = ∑ r, x (ix2 r (i 1)) * rr x r * (dh d w r (i 1) * (1 + s (ix2 0 (i 1)))) := by
  simp only [← Cert.BwdInRefIdeal.Read.val_main_v36_eq]
  pointwise [dh, rr, var]

open Cert.BwdInRefIdeal.Read in
theorem REF6_apply (d : FVec Ideal S8192x3840 .bf16) (w : FVec Ideal S3840x1024 .bf16) (x x2 : FVec Ideal S8192x1024 .f32)
    (g s : FVec Ideal S1x1024 .f32) (i : S8192x1024.Idx) :
    Cert.BwdInRefIdeal.Read.val_main_v53 (F := Ideal) d w x x2 g s i
      = dh d w (i 0) (i 1) * (1 + s (ix2 0 (i 1))) * g (ix2 0 (i 1)) * rr x (i 0)
        + x i * pull (fun k => x (ix2 (i 0) k)) (fun k => dh d w (i 0) k * (1 + s (ix2 0 k)) * g (ix2 0 k))
        + pull (fun k => x (ix2 (i 0) k)) (fun k => dh d w (i 0) k * (1 + s (ix2 0 k)) * g (ix2 0 k)) * x i + x2 i := by
  pointwise [dh, rr, var, pull,
    val_main_v53, val_main_v52, val_main_v51, val_main_v50, val_main_v49, val_main_v48, val_main_v47, val_main_cst_10,
    val_main_v46, val_main_v45, val_main_cst_9, val_main_v44, val_main_v43, val_main_v42, val_main_v41, val_main_v40,
    val_main_cst_8, val_main_v39, val_main_v38, val_main_v37, val_main_v36, val_main_v35, val_main_cst_7, val_main_v34,
    val_main_v33, val_main_v32, val_main_v31, val_main_v30, val_main_cst_6, val_main_v29, val_main_v28, val_main_v27,
    val_main_cst_5, val_main_v26, val_main_v25, val_main_v24, val_main_v23, val_main_v22, val_main_v21, val_main_v20,
    val_main_v19, val_main_v18, val_main_v17, val_main_v16, val_main_cst_4, val_main_v15, val_main_v14, val_main_v13,
    val_main_v12, val_main_v11, val_main_v10, val_main_cst_3, val_main_v9, val_main_v8, val_main_v7, val_main_v6,
    val_main_cst_2, val_main_v5, val_main_v4, val_main_cst_1, val_main_v3, val_main_v2, val_main_cst_0, val_main_v1,
    val_main_v0, val_main_cst]
  simp only [Fin.sum_univ_one]

theorem pay1 (j : S1x1024.Idx) : k0_pay1 (F := Ideal) j = 0 := by pointwise [k0_pay1]
theorem pay2 (j : S1x1024.Idx) : k0_pay2 (F := Ideal) j = 0 := by pointwise [k0_pay2]
theorem pay3 (j : S1x1024.Idx) : k0_pay3 (F := Ideal) j = 0 := by pointwise [k0_pay3]

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] ∧ win0_6.index t = ![t.val, 0] :=
  (by decide +kernel : ∀ t : Fin grid0.N, _)

theorem row_lt (t : Fin cfg0.N) (a : ℕ) (h : a < 512) : 512 * t.val + a < 8192 := by
  have := t.isLt
  have : cfg0.N = 16 := N_0
  omega

/-! What a point reads of the arguments. -/

theorem rd0 (c : Dev nD) (t : Fin cfg0.N) : iblk m c 0 t
    = fun i : S512x3840.Idx => m ((c : Thread nD τ).loc main_arg0) (ix2 ⟨512 * t.val + (i 0).val, row_lt t _ (i 0).isLt⟩ (i 1)) := by
  funext i
  blk_point [iblk, V, idx t]

theorem rd1 (c : Dev nD) (t : Fin cfg0.N) : iblk m c 1 t = m ((c : Thread nD τ).loc main_arg1) := by
  funext i
  blk_point [iblk, V, idx t]

theorem rd2 (c : Dev nD) (t : Fin cfg0.N) : iblk m c 2 t
    = fun i : S512x1024.Idx => m ((c : Thread nD τ).loc main_arg2) (ix2 ⟨512 * t.val + (i 0).val, row_lt t _ (i 0).isLt⟩ (i 1)) := by
  funext i
  blk_point [iblk, V, idx t]

theorem rd3 (c : Dev nD) (t : Fin cfg0.N) : iblk m c 3 t
    = fun i : S512x1024.Idx => m ((c : Thread nD τ).loc main_arg3) (ix2 ⟨512 * t.val + (i 0).val, row_lt t _ (i 0).isLt⟩ (i 1)) := by
  funext i
  blk_point [iblk, V, idx t]

theorem rd4 (c : Dev nD) (t : Fin cfg0.N) : iblk m c 4 t = m ((c : Thread nD τ).loc main_arg4) := by
  funext i
  blk_point [iblk, V, idx t]

theorem rd5 (c : Dev nD) (t : Fin cfg0.N) : iblk m c 5 t = m ((c : Thread nD τ).loc main_arg5) := by
  funext i
  blk_point [iblk, V, idx t]

/-- What one point adds: the sums over the first and the second half of its rows. -/
def term (f : Fin 8192 → Fin 1024 → EReal) (t : Fin cfg0.N) (i : S1x1024.Idx) : EReal :=
  (∑ a : Fin 256, f ⟨512 * t.val + a.val, row_lt t _ (by omega)⟩ (i 1))
    + ∑ a : Fin 256, f ⟨512 * t.val + (256 + a.val), row_lt t _ (by omega)⟩ (i 1)

theorem sum_term (f : Fin 8192 → Fin 1024 → EReal) (i : S1x1024.Idx) : ∑ t : Fin cfg0.N, term f t i = ∑ r, f r (i 1) :=
  sum_rows 256 512 8192 rfl (by rw [show cfg0.N = 16 from N_0]) (fun r => f r (i 1)) _ _

theorem final7 (c : Dev nD) : (dats m 0 c).arrAt 7 (cfgs 0).N
    = Cert.BwdInRefIdeal.Read.val_main_v28 (F := Ideal) (m ((c : Thread nD τ).loc main_arg0)) (m ((c : Thread nD τ).loc main_arg1)) := by
  refine (dats m 0 c).arrAt_eq_of_after_last 7 t0_15 (by decide +kernel) _ fun j => ?_
  rw [after0_7, REF7_apply, ← sum_term, ← zero_add (Finset.sum _ _)]
  refine Pipeline.eq_sum_fin_of_reset_step_apply_last (fun n h => (outsAt0 m c n h).2.1) 16 (fun _ => (0 : EReal))
    (term (dh (m ((c : Thread nD τ).loc main_arg0)) (m ((c : Thread nD τ).loc main_arg1))))
    (fun t ht i => ?_) (fun t ht i => ?_) (le_of_eq N_0) t0_15 rfl j
  · simp only [outsAt0_A m c t ht, rd0, rd1]
    frame_out
    pointwise [k0_pay17, k0_pay6, k0_pay9, k0_pay5, k0_pay1]
    rfl
  · simp only [outsAt0_B m c t ht, rd0, rd1]
    frame_out
    pointwise [k0_pay17, k0_pay6, k0_pay9, k0_pay5]
    exact add_assoc (G := EReal) _ _ _

section
variable (d : FVec Ideal S8192x3840 .bf16) (w : FVec Ideal S3840x1024 .bf16) (x x2 : FVec Ideal S8192x1024 .f32)
    (g s : FVec Ideal S1x1024 .f32)

theorem isReal_dh (hd : ∀ i, IsReal (d i)) (hw : ∀ i, IsReal (w i)) (r : Fin 8192) (l : Fin 1024) : IsReal (dh d w r l) :=
  IsReal.sum fun k => (hd _).mul (hw _)

theorem isReal_norm (r : Fin 8192) (l : Fin 1024) : IsReal (x (ix2 r l) * rr x r) := isReal_mul_rsqrt (fun k => x (ix2 r k)) l

/-- What row `r` adds to the gradient of the scale. -/
def scale (r : Fin 8192) (l : Fin 1024) : EReal := x (ix2 r l) * rr x r * g (ix2 0 l) * dh d w r l

/-- What row `r` adds to the gradient of the norm's weight. -/
def weight (r : Fin 8192) (l : Fin 1024) : EReal := x (ix2 r l) * rr x r * (dh d w r l * (1 + s (ix2 0 l)))

/-- A part of the rows, with the factor taken out. -/
theorem scale_sum (hd : ∀ i, IsReal (d i)) (hw : ∀ i, IsReal (w i)) (hg : ∀ i, IsReal (g i)) {n : ℕ}
    (f : Fin n → Fin 8192) (l : Fin 1024) :
    (∑ a, dh d w (f a) l * (x (ix2 (f a) l) * rr x (f a))) * g (ix2 0 l) = ∑ a, scale d w x g (f a) l := by
  rw [sum_mul (fun a => (isReal_dh d w hd hw _ _).mul (isReal_norm x _ _)) (hg _)]
  refine Finset.sum_congr rfl fun a _ => ?_
  unfold scale
  ac_rfl

theorem weight_sum (hd : ∀ i, IsReal (d i)) (hw : ∀ i, IsReal (w i)) (hs : ∀ i, IsReal (s i)) {n : ℕ}
    (f : Fin n → Fin 8192) (l : Fin 1024) :
    (∑ a, dh d w (f a) l * (x (ix2 (f a) l) * rr x (f a))) * (1 + s (ix2 0 l)) = ∑ a, weight d w x s (f a) l := by
  rw [sum_mul (fun a => (isReal_dh d w hd hw _ _).mul (isReal_norm x _ _)) (isReal_one.add (hs _))]
  refine Finset.sum_congr rfl fun a _ => ?_
  unfold weight
  ac_rfl

/-- The gradient of the input in the kernel's form is the reference's. -/
theorem gx (r : Fin 8192) (l : Fin 1024) :
    rr x r * (dh d w r l * (g (ix2 0 l) * (1 + s (ix2 0 l))) - x (ix2 r l) * rr x r
      * Ideal.div (∑ k, dh d w r k * (g (ix2 0 k) * (1 + s (ix2 0 k))) * (x (ix2 r k) * rr x r))
        (Ideal.ofBits .f32 0x44800000#32)) + x2 (ix2 r l)
      = Cert.BwdInRefIdeal.Read.val_main_v53 (F := Ideal) d w x x2 g s (ix2 r l) := by
  have e : ∀ k, dh d w r k * (1 + s (ix2 0 k)) * g (ix2 0 k) = dh d w r k * (g (ix2 0 k) * (1 + s (ix2 0 k))) :=
    fun k => by ac_rfl
  refine Eq.trans (congrArg (· + x2 (ix2 r l)) (rms_grad (fun k => x (ix2 r k))
    (fun k => dh d w r k * (g (ix2 0 k) * (1 + s (ix2 0 k)))) l)) ?_
  simp only [← e]
  exact (REF6_apply d w x x2 g s (ix2 r l)).symm

end

theorem one_row (i : S1x1024.Idx) : ∃ l : Fin 1024, i = ix2 0 l := ⟨i 1, by blk_ext⟩

theorem final8 (c : Dev nD) (h0 : ∀ i, IsReal (m ((c : Thread nD τ).loc main_arg0) i)) (h1 : ∀ i, IsReal (m ((c : Thread nD τ).loc main_arg1) i))
    (h4 : ∀ i, IsReal (m ((c : Thread nD τ).loc main_arg4) i)) :
    (dats m 0 c).arrAt 8 (cfgs 0).N
    = Cert.BwdInRefIdeal.Read.val_main_v31 (F := Ideal) (m ((c : Thread nD τ).loc main_arg0)) (m ((c : Thread nD τ).loc main_arg1))
      (m ((c : Thread nD τ).loc main_arg2)) (m ((c : Thread nD τ).loc main_arg4)) := by
  refine (dats m 0 c).arrAt_eq_of_after_last 8 t0_15 (by decide +kernel) _ fun j => ?_
  rw [after0_8, REF8_apply]
  refine Eq.trans ?_ (sum_term (scale (m ((c : Thread nD τ).loc main_arg0)) (m ((c : Thread nD τ).loc main_arg1))
    (m ((c : Thread nD τ).loc main_arg2)) (m ((c : Thread nD τ).loc main_arg4))) j)
  rw [← zero_add (Finset.sum _ _)]
  have part (n : ℕ) := scale_sum _ _ (m ((c : Thread nD τ).loc main_arg2)) _ h0 h1 h4 (n := n)
  clear h0 h1 h4
  refine Pipeline.eq_sum_fin_of_reset_step_apply_last (fun n h => (outsAt0 m c n h).2.2.1) 16 (fun _ => (0 : EReal)) (term _)
    (fun t ht i => ?_) (fun t ht i => ?_) (le_of_eq N_0) t0_15 rfl j
  · obtain ⟨l, rfl⟩ := one_row i
    simp only [outsAt0_A m c t ht, rd0, rd1, rd2, rd4, rd5]
    frame_out
    pointwise [k0_pay19, k0_pay11, k0_pay2, k0_pay18, k0_pay16, k0_pay15, k0_pay14, k0_pay10, k0_pay8, k0_pay7, k0_pay6, k0_pay5]
    exact congrArg₂ (· + ·) (part 256 _ l) (part 256 _ l)
  · obtain ⟨l, rfl⟩ := one_row i
    simp only [outsAt0_B m c t ht, rd0, rd1, rd2, rd4, rd5]
    frame_out
    pointwise [k0_pay19, k0_pay11, k0_pay2, k0_pay18, k0_pay16, k0_pay15, k0_pay14, k0_pay10, k0_pay8, k0_pay7, k0_pay6, k0_pay5]
    exact (add_assoc (G := EReal) _ _ _).trans (congrArg₂ (· + ·) rfl (congrArg₂ (· + ·) (part 256 _ l) (part 256 _ l)))

theorem final9 (c : Dev nD) (h0 : ∀ i, IsReal (m ((c : Thread nD τ).loc main_arg0) i)) (h1 : ∀ i, IsReal (m ((c : Thread nD τ).loc main_arg1) i))
    (h5 : ∀ i, IsReal (m ((c : Thread nD τ).loc main_arg5) i)) :
    (dats m 0 c).arrAt 9 (cfgs 0).N
    = Cert.BwdInRefIdeal.Read.val_main_v36 (F := Ideal) (m ((c : Thread nD τ).loc main_arg0)) (m ((c : Thread nD τ).loc main_arg1))
      (m ((c : Thread nD τ).loc main_arg2)) (m ((c : Thread nD τ).loc main_arg5)) := by
  refine (dats m 0 c).arrAt_eq_of_after_last 9 t0_15 (by decide +kernel) _ fun j => ?_
  rw [after0_9, REF9_apply]
  refine Eq.trans ?_ (sum_term (weight (m ((c : Thread nD τ).loc main_arg0)) (m ((c : Thread nD τ).loc main_arg1))
    (m ((c : Thread nD τ).loc main_arg2)) (m ((c : Thread nD τ).loc main_arg5))) j)
  rw [← zero_add (Finset.sum _ _)]
  have part (n : ℕ) := weight_sum _ _ (m ((c : Thread nD τ).loc main_arg2)) _ h0 h1 h5 (n := n)
  clear h0 h1 h5
  refine Pipeline.eq_sum_fin_of_reset_step_apply_last (fun n h => (outsAt0 m c n h).2.2.2) 16 (fun _ => (0 : EReal)) (term _)
    (fun t ht i => ?_) (fun t ht i => ?_) (le_of_eq N_0) t0_15 rfl j
  · obtain ⟨l, rfl⟩ := one_row i
    simp only [outsAt0_A m c t ht, rd0, rd1, rd2, rd4, rd5]
    frame_out
    pointwise [k0_pay20, k0_pay12, k0_pay4, k0_pay3, k0_pay18, k0_pay16, k0_pay15, k0_pay14, k0_pay10, k0_pay8, k0_pay7, k0_pay6, k0_pay5]
    exact congrArg₂ (· + ·) (part 256 _ l) (part 256 _ l)
  · obtain ⟨l, rfl⟩ := one_row i
    simp only [outsAt0_B m c t ht, rd0, rd1, rd2, rd4, rd5]
    frame_out
    pointwise [k0_pay20, k0_pay12, k0_pay4, k0_pay3, k0_pay18, k0_pay16, k0_pay15, k0_pay14, k0_pay10, k0_pay8, k0_pay7, k0_pay6, k0_pay5]
    exact (add_assoc (G := EReal) _ _ _).trans (congrArg₂ (· + ·) rfl (congrArg₂ (· + ·) (part 256 _ l) (part 256 _ l)))

theorem final6 (c : Dev nD) :
    (dats m 0 c).arrAt 6 (cfgs 0).N
    = Cert.BwdInRefIdeal.Read.val_main_v53 (F := Ideal) (m ((c : Thread nD τ).loc main_arg0)) (m ((c : Thread nD τ).loc main_arg1))
      (m ((c : Thread nD τ).loc main_arg2)) (m ((c : Thread nD τ).loc main_arg3))
      (m ((c : Thread nD τ).loc main_arg4)) (m ((c : Thread nD τ).loc main_arg5)) := by
  refine (dats m 0 c).arrAt_eq_of_covers 6 _ (by decide +kernel) fun t hf y => ?_
  blk_simp
  have core := gx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
  rw [after0_6]
  by_cases ht : t.val % 16 = 0
  · simp only [outsAt0_A m c t ht, rd0, rd1, rd2, rd3, rd4, rd5]
    frame_out
    canon_tiles x h
    · pointwise [k0_pay21, k0_pay4, k0_pay16, k0_pay15, k0_pay14, k0_pay6]
      refine (core ⟨512 * t.val + (256 + (x 0).val), row_lt t _ (by omega)⟩ (x 1)).trans (congrArg _ ?_)
      blk_ext [idx t]
    · pointwise [k0_pay13, k0_pay4, k0_pay8, k0_pay7, k0_pay5]
      refine (core ⟨512 * t.val + (x 0).val, row_lt t _ (by omega)⟩ (x 1)).trans (congrArg _ ?_)
      blk_ext [idx t]
  · simp only [outsAt0_B m c t ht, rd0, rd1, rd2, rd3, rd4, rd5]
    frame_out
    canon_tiles x h
    · pointwise [k0_pay21, k0_pay4, k0_pay16, k0_pay15, k0_pay14, k0_pay6]
      refine (core ⟨512 * t.val + (256 + (x 0).val), row_lt t _ (by omega)⟩ (x 1)).trans (congrArg _ ?_)
      blk_ext [idx t]
    · pointwise [k0_pay13, k0_pay4, k0_pay8, k0_pay7, k0_pay5]
      refine (core ⟨512 * t.val + (x 0).val, row_lt t _ (by omega)⟩ (x 1)).trans (congrArg _ ?_)
      blk_ext [idx t]

end Cert.BwdInIdeal.Final

end
-- ==== Proof.BwdInClaim.lean ====
module

public import proofs.«01_k».proof.Defs
public import proofs.«01_k».proof.Proof.Gen.Pre_finite
public import proofs.«01_k».proof.Proof.BwdInValue
public import proofs.«01_k».proof.Proof.Gen.BwdInRefIdeal.Run
public import Idealize.ShloMosaic.Lib.Claim

/-! The gradient of the input projection and of the norm before it: kernel and reference leave the same four arrays. -/

@[expose] public section

set_option maxRecDepth 16384

noncomputable section

namespace Cert.BwdInRefIdeal.Stages

open Idealize.ShloMosaic Idealize.SL.Sem Cert.BwdInRefIdeal Cert.BwdInRefIdeal.Gen Cert.BwdInRefIdeal.Read

/-- The reference's run: each result is its named stage of the arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v28) = val_main_v28 (F := Ideal) (m ((c.tc : Thread nD τ).loc main_arg0)) (m ((c.tc : Thread nD τ).loc main_arg1))
      ∧ r.2.mem ((c.tc : Thread nD τ).loc main_v31) = val_main_v31 (F := Ideal) (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v36) = val_main_v36 (F := Ideal) (m ((c.tc : Thread nD τ).loc main_arg0)) (m ((c.tc : Thread nD τ).loc main_arg1)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v53_eq m c),
      (h c).2.1.trans (val_main_v28_eq _ _),
      (h c).2.2.1.trans (val_main_v31_eq _ _ _ _),
      (h c).2.2.2.1.trans (val_main_v36_eq _ _ _ _),
      (h c).2.2.2.2⟩)
    (Cert.BwdInRefIdeal.Value.run m ρ)

end Cert.BwdInRefIdeal.Stages

namespace Cert.Proof

open Idealize.ShloMosaic Idealize.SL.Sem
open Cert.RealNorm

variable {m : (ℓ : Loc Cert.BwdInIdeal.nD Cert.BwdInIdeal.τ Cert.BwdInIdeal.sig) → Buf (Elt Ideal) ℓ}

/-- A word whose magnitude compares below the infinity's word is finite. -/
theorem isReal_of_mask {a : EReal}
    (h : BitVec.ofBool (decide (max a (-a) < Ideal.ofBits .f32 0x7F800000#32)) = 1#1) : IsReal a := by
  refine isReal_of_abs_lt ?_
  rw [← ofBits_inf]
  by_contra hn
  rw [decide_eq_false hn] at h
  exact absurd h (by decide)

/-- Under the precondition the gradient of the projection is finite. -/
theorem finite_dproj (hpre : Cert.Pre_BwdInIdeal_finite m) (c : Dev Cert.BwdInIdeal.nD) (i : Cert.BwdInIdeal.S8192x3840.Idx) :
    IsReal (m ((c.tc : Thread Cert.BwdInIdeal.nD Cert.BwdInIdeal.τ).loc Cert.BwdInIdeal.main_arg0) i) := by
  have h := congrFun (hpre c).1 i
  dsimp only [Cert.Pre_finite.fn] at h
  pointwise at h
  exact isReal_of_mask h

/-- Under the precondition the projection's weight is finite. -/
theorem finite_w (hpre : Cert.Pre_BwdInIdeal_finite m) (c : Dev Cert.BwdInIdeal.nD) (i : Cert.BwdInIdeal.S3840x1024.Idx) :
    IsReal (m ((c.tc : Thread Cert.BwdInIdeal.nD Cert.BwdInIdeal.τ).loc Cert.BwdInIdeal.main_arg1) i) := by
  have h := congrFun (hpre c).2.1 i
  dsimp only [Cert.Pre_finite.fn] at h
  pointwise at h
  exact isReal_of_mask h

/-- Under the precondition the norm's weight is finite. -/
theorem finite_norm_g (hpre : Cert.Pre_BwdInIdeal_finite m) (c : Dev Cert.BwdInIdeal.nD) (i : Cert.BwdInIdeal.S1x1024.Idx) :
    IsReal (m ((c.tc : Thread Cert.BwdInIdeal.nD Cert.BwdInIdeal.τ).loc Cert.BwdInIdeal.main_arg4) i) := by
  have h := congrFun (hpre c).2.2.1 i
  dsimp only [Cert.Pre_finite.fn] at h
  pointwise at h
  exact isReal_of_mask h

/-- Under the precondition the scale is finite. -/
theorem finite_scale (hpre : Cert.Pre_BwdInIdeal_finite m) (c : Dev Cert.BwdInIdeal.nD) (i : Cert.BwdInIdeal.S1x1024.Idx) :
    IsReal (m ((c.tc : Thread Cert.BwdInIdeal.nD Cert.BwdInIdeal.τ).loc Cert.BwdInIdeal.main_arg5) i) := by
  have h := congrFun (hpre c).2.2.2 i
  dsimp only [Cert.Pre_finite.fn] at h
  pointwise at h
  exact isReal_of_mask h

set_option maxHeartbeats 1600000 in
/-- The gradient of the input projection and of the norm before it: kernel and reference leave the same four arrays. -/
theorem algebraic_BwdIn : Cert.algebraic_BwdInIdeal_BwdInRefIdeal_pre_finite := by
  pair_intro
  · run_from Cert.BwdInIdeal.Gen.run_main m g
  · refine (θ_run _ _ _).mono (fun r h c => ?_) (Cert.BwdInRefIdeal.Stages.run m' g')
    obtain ⟨e0, e1, e2, e3, e4, e5⟩ := hagree c
    exact ⟨(h c).1.trans (by simp only [e0, e1, e2, e3, e4, e5]; exact (Cert.BwdInIdeal.Final.final6 m c).symm),
      (h c).2.1.trans (by simp only [e0, e1, e2, e3, e4, e5]; exact (Cert.BwdInIdeal.Final.final7 m c).symm),
      (h c).2.2.1.trans (by simp only [e0, e1, e2, e3, e4, e5]; exact (Cert.BwdInIdeal.Final.final8 m c (finite_dproj hpre c) (finite_w hpre c) (finite_norm_g hpre c)).symm),
      (h c).2.2.2.1.trans (by simp only [e0, e1, e2, e3, e4, e5]; exact (Cert.BwdInIdeal.Final.final9 m c (finite_dproj hpre c) (finite_w hpre c) (finite_scale hpre c)).symm),
      (h c).2.2.2.2⟩

end Cert.Proof

end
-- ==== Proof.DwInValue.lean ====
module

public import proofs.«01_k».proof.Proof.Gen.DwInIdeal.Value
public import proofs.«01_k».proof.Proof.Gen.DwInRefIdeal.Read
public import Idealize.ShloMosaic.Lib.Pipeline.ValueKit
public import Idealize.ShloMosaic.Lib.Pointwise

/-! The weight gradient of the input projection, `dw = dprojᵀ · h`: the kernel's result array is the reference's term. -/

@[expose] public section

set_option maxRecDepth 16384

noncomputable section

namespace Cert.DwInIdeal.Final

open Idealize.ShloMosaic Idealize.ShloMosaic.TcCoe Idealize.SL.Sem
open Idealize.ShloMosaic.Pipeline (Dat)
open Cert.DwInIdeal Cert.DwInIdeal.Gen

variable (m : (ℓ : Loc nD τ sig) → Buf (Elt Ideal) ℓ)

/-- The reference's result over its two arguments. -/
def REF (X : FVec Ideal S8192x1024 .bf16) (D : FVec Ideal S8192x3840 .bf16) : FVec Ideal S3840x1024 .bf16 :=
  Cert.DwInRefIdeal.Read.val_main_v8 (F := Ideal) X D

theorem REF_apply (X : FVec Ideal S8192x1024 .bf16) (D : FVec Ideal S8192x3840 .bf16) (i : S3840x1024.Idx) :
    REF X D i = ∑ k : Fin 8192, D (ix2 k (i 0)) * X (ix2 k (i 1)) := by
  unfold REF
  simp only [← Cert.DwInRefIdeal.Read.val_main_v8_eq]
  pointwise

theorem pay1 (j : S768x1024.Idx) : k0_pay1 (F := Ideal) j = 0 := by pointwise [k0_pay1]

theorem pay2 (acc : FVec Ideal S768x1024 .f32) (d : FVec Ideal S4096x768 .bf16) (x : FVec Ideal S4096x1024 .bf16)
    (j : S768x1024.Idx) :
    k0_pay2 (F := Ideal) acc d x j = acc j + ∑ k : Fin 4096, d (ix2 k (j 0)) * x (ix2 k (j 1)) := by
  pointwise [k0_pay2]

theorem idx : ∀ t : Fin cfg0.N, win0_0.index t = ![t.val % 2, 0] ∧ win0_1.index t = ![t.val % 2, t.val / 2]
    ∧ win0_2.index t = ![t.val / 2, 0] := (by decide +kernel : ∀ t : Fin grid0.N, _)

theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  blk_simp
  rw [after0_2, outsAt0_B m c t (by omega) ht]
  frame_out
  have e : (View.whole cc0_scratch0).read (Elt Ideal) ((Memref.isWhole_whole cc0_scratch0).unread
      (outsAt0 m c (t.val - 1) (lt_of_le_of_lt (Nat.sub_le ..) t.isLt)).2)
      = (outsAt0 m c (t.val - 1) (lt_of_le_of_lt (Nat.sub_le ..) t.isLt)).2 := Memref.IsWhole.read_unread _ _
  rw [e, outsAt0_A m c ⟨t.val - 1, lt_of_le_of_lt (Nat.sub_le ..) t.isLt⟩ (by show (t.val - 1) % 2 = 0; omega)
    (by show ¬(t.val - 1) % 2 = 1; omega)]
  frame_out
  pointwise [k0_pay3]
  rw [pay2, pay2, pay1, REF_apply, zero_add]
  have hI := idx t
  have hI' := idx ⟨t.val - 1, lt_of_le_of_lt (Nat.sub_le ..) t.isLt⟩
  have e1 : (t.val - 1) % 2 = 0 := by omega
  have e2 : (t.val - 1) / 2 = t.val / 2 := by omega
  simp only [e1, e2] at hI'
  simp only [ht] at hI
  show (_ : EReal) = _
  refine Eq.trans ?_ (Fin.sum_univ_two_halves 4096 4096 rfl _).symm
  blk_point [iblk, V, hI, hI']

end Cert.DwInIdeal.Final

end
-- ==== Proof.DwInClaim.lean ====
module

public import proofs.«01_k».proof.Defs
public import proofs.«01_k».proof.Proof.DwInValue
public import proofs.«01_k».proof.Proof.Gen.DwInRefIdeal.Run
public import Idealize.ShloMosaic.Lib.Claim

/-! The weight gradient of the input projection: kernel and reference leave the same array. -/

@[expose] public section

set_option maxRecDepth 16384

noncomputable section

namespace Cert.Proof

open Idealize.ShloMosaic Idealize.SL.Sem

set_option maxHeartbeats 1600000 in
/-- The weight gradient of the input projection: kernel and reference leave the same array. -/
theorem algebraic_DwIn : Cert.algebraic_DwInIdeal_DwInRefIdeal := by
  pair_intro
  · run_from Cert.DwInIdeal.Gen.run_main m g
  · run_from Cert.DwInRefIdeal.Value.run m' g'
    · exact (Cert.DwInIdeal.Final.final m c).symm

end Cert.Proof

end
-- ==== Proof.OutValue.lean ====
module

public import proofs.«01_k».proof.Proof.Gen.OutIdeal.Value
public import proofs.«01_k».proof.Proof.Gen.OutRefIdeal.Read
public import proofs.«01_k».proof.Proof.RealNorm

/-! The output projection, the loss and their gradients: the six result arrays of the kernel are the reference's
terms, over all extended reals. -/

@[expose] public section

set_option maxRecDepth 16384

noncomputable section

namespace Cert.OutIdeal.Final

open Idealize.ShloMosaic Idealize.ShloMosaic.TcCoe Idealize.SL.Sem
open Idealize.ShloMosaic.Pipeline (Dat)
open Cert.OutIdeal Cert.OutIdeal.Gen Cert.RealNorm

section
variable (a : FVec Ideal S8192x1024 .bf16) (x tgt : FVec Ideal S8192x1024 .f32) (w : FVec Ideal S1024x1024 .bf16)
    (gt fg : FVec Ideal S1x1024 .f32)

/-- The output projection. -/
def prj (r : Fin 8192) (l : Fin 1024) : EReal := ∑ k : Fin 1024, a (ix2 r k) * w (ix2 k l)

/-- The residual stream after the block. -/
def res (r : Fin 8192) (l : Fin 1024) : EReal := x (ix2 r l) + gt (ix2 0 l) * prj a w r l

/-- The reciprocal root mean square of a row of it. -/
def rr (r : Fin 8192) : EReal := Ideal.rsqrt (var (res a x w gt r))

/-- The error of the normalised row. -/
def err (r : Fin 8192) (l : Fin 1024) : EReal := res a x w gt r l * rr a x w gt r * fg (ix2 0 l) - tgt (ix2 r l)

/-- The error's share in the gradient. -/
def de (r : Fin 8192) (l : Fin 1024) : EReal := Ideal.div (err a x tgt w gt fg r l) (Ideal.ofBits .f32 0x44800000#32)

/-- The gradient of the residual stream, in the form of one difference. -/
def dy (r : Fin 8192) (l : Fin 1024) : EReal :=
  rr a x w gt r * (de a x tgt w gt fg r l * fg (ix2 0 l) - res a x w gt r l * rr a x w gt r
    * Ideal.div (∑ k, de a x tgt w gt fg r k * fg (ix2 0 k) * (res a x w gt r k * rr a x w gt r)) (Ideal.ofBits .f32 0x44800000#32))

/-- The error's share in the gradient as differentiating the square gives it. -/
def de' (r : Fin 8192) (l : Fin 1024) : EReal :=
  Ideal.div (Ideal.ofBits .f32 0x3F000000#32) (Ideal.ofBits .f32 0x44800000#32)
    * (Ideal.ofBits .f32 0x40000000#32 * err a x tgt w gt fg r l)

/-- The gradient of the residual stream as the chain rule gives it. -/
def dy' (r : Fin 8192) (l : Fin 1024) : EReal :=
  de' a x tgt w gt fg r l * fg (ix2 0 l) * rr a x w gt r
    + res a x w gt r l * pull (res a x w gt r) (fun k => de' a x tgt w gt fg r k * fg (ix2 0 k))
    + pull (res a x w gt r) (fun k => de' a x tgt w gt fg r k * fg (ix2 0 k)) * res a x w gt r l

theorem de'_eq (r : Fin 8192) (l : Fin 1024) : de' a x tgt w gt fg r l = de a x tgt w gt fg r l := by
  unfold de' de
  rw [ofBits_len, ofBits_half, ofBits_two, Ideal.div_coe (by norm_num), Ideal.div_coe (by norm_num), ← mul_assoc, mul_comm _ (err _ _ _ _ _ _ _ _),
    ← EReal.coe_mul, ← EReal.coe_mul]
  norm_num

theorem dy'_eq (r : Fin 8192) (l : Fin 1024) : dy' a x tgt w gt fg r l = dy a x tgt w gt fg r l := by
  unfold dy' dy
  simp only [de'_eq]
  exact (rms_grad (res a x w gt r) (fun k => de a x tgt w gt fg r k * fg (ix2 0 k)) l).symm

open Cert.OutRefIdeal.Read in
theorem REF54_apply (i : S8192x1024.Idx) : Cert.OutRefIdeal.Read.val_main_v54 (F := Ideal) a x tgt w gt fg i = dy' a x tgt w gt fg (i 0) (i 1) := by
  pointwise [dy', de', err, rr, res, prj, var, pull,
    val_main_v54, val_main_v53, val_main_v52, val_main_v51, val_main_v50, val_main_v49, val_main_cst_14, val_main_v48,
    val_main_v47, val_main_cst_13, val_main_v46, val_main_v45, val_main_v44, val_main_v43, val_main_v42, val_main_cst_12,
    val_main_v41, val_main_v40, val_main_v39, val_main_v35, val_main_v34, val_main_v33, val_main_v32, val_main_cst_10,
    val_main_v31, val_main_v30, val_main_cst_9, val_main_cst_8, val_main_v24, val_main_v23, val_main_cst_3,
    val_main_v21, val_main_v20, val_main_v19, val_main_v18, val_main_v17, val_main_v16, val_main_v15, val_main_cst_2,
    val_main_v14, val_main_v13, val_main_v12, val_main_v11, val_main_cst_1, val_main_v10, val_main_v9, val_main_cst_0,
    val_main_v8, val_main_v7, val_main_cst, val_main_v6, val_main_v5, val_main_v4, val_main_v3, val_main_v2,
    val_main_v1, val_main_v0]
  simp only [Fin.sum_univ_one]

open Cert.OutRefIdeal.Read in
theorem REF62_apply (i : S8192x1024.Idx) : Cert.OutRefIdeal.Read.val_main_v62 (F := Ideal) a x tgt w gt fg i = ∑ k : Fin 1024, gt (ix2 0 k) * dy' a x tgt w gt fg (i 0) k * w (ix2 (i 1) k) := by
  pointwise [dy', de', err, rr, res, prj, var, pull,
    val_main_v62, val_main_v56, val_main_v55, val_main_v54, val_main_v53, val_main_v52, val_main_v51, val_main_v50,
    val_main_v49, val_main_cst_14, val_main_v48, val_main_v47, val_main_cst_13, val_main_v46, val_main_v45,
    val_main_v44, val_main_v43, val_main_v42, val_main_cst_12, val_main_v41, val_main_v40, val_main_v39, val_main_v35,
    val_main_v34, val_main_v33, val_main_v32, val_main_cst_10, val_main_v31, val_main_v30, val_main_cst_9,
    val_main_cst_8, val_main_v24, val_main_v23, val_main_cst_3, val_main_v21, val_main_v20, val_main_v19, val_main_v18,
    val_main_v17, val_main_v16, val_main_v15, val_main_cst_2, val_main_v14, val_main_v13, val_main_v12, val_main_v11,
    val_main_cst_1, val_main_v10, val_main_v9, val_main_cst_0, val_main_v8, val_main_v7, val_main_cst, val_main_v6,
    val_main_v5, val_main_v4, val_main_v3, val_main_v2, val_main_v1, val_main_v0]
  simp only [Fin.sum_univ_one]

open Cert.OutRefIdeal.Read in
theorem REF63_apply (i : S1024x1024.Idx) : Cert.OutRefIdeal.Read.val_main_v63 (F := Ideal) a x tgt w gt fg i = ∑ r : Fin 8192, gt (ix2 0 (i 1)) * dy' a x tgt w gt fg r (i 1) * a (ix2 r (i 0)) := by
  pointwise [dy', de', err, rr, res, prj, var, pull,
    val_main_v63, val_main_v61, val_main_v60, val_main_v56, val_main_v55, val_main_v54, val_main_v53, val_main_v52,
    val_main_v51, val_main_v50, val_main_v49, val_main_cst_14, val_main_v48, val_main_v47, val_main_cst_13,
    val_main_v46, val_main_v45, val_main_v44, val_main_v43, val_main_v42, val_main_cst_12, val_main_v41, val_main_v40,
    val_main_v39, val_main_v35, val_main_v34, val_main_v33, val_main_v32, val_main_cst_10, val_main_v31, val_main_v30,
    val_main_cst_9, val_main_cst_8, val_main_v24, val_main_v23, val_main_cst_3, val_main_v21, val_main_v20,
    val_main_v19, val_main_v18, val_main_v17, val_main_v16, val_main_v15, val_main_cst_2, val_main_v14, val_main_v13,
    val_main_v12, val_main_v11, val_main_cst_1, val_main_v10, val_main_v9, val_main_cst_0, val_main_v8, val_main_v7,
    val_main_cst, val_main_v6, val_main_v5, val_main_v4, val_main_v3, val_main_v2, val_main_v1, val_main_v0]
  simp only [Fin.sum_univ_one]

open Cert.OutRefIdeal.Read in
theorem REF59_apply (i : S1x1024.Idx) : Cert.OutRefIdeal.Read.val_main_v59 (F := Ideal) a x tgt w gt fg i = ∑ r : Fin 8192, dy' a x tgt w gt fg r (i 1) * prj a w r (i 1) := by
  pointwise [dy', de', err, rr, res, prj, var, pull,
    val_main_v59, val_main_v58, val_main_cst_15, val_main_v57, val_main_v54, val_main_v53, val_main_v52, val_main_v51,
    val_main_v50, val_main_v49, val_main_cst_14, val_main_v48, val_main_v47, val_main_cst_13, val_main_v46,
    val_main_v45, val_main_v44, val_main_v43, val_main_v42, val_main_cst_12, val_main_v41, val_main_v40, val_main_v39,
    val_main_v35, val_main_v34, val_main_v33, val_main_v32, val_main_cst_10, val_main_v31, val_main_v30, val_main_cst_9,
    val_main_cst_8, val_main_v24, val_main_v23, val_main_cst_3, val_main_v21, val_main_v20, val_main_v19, val_main_v18,
    val_main_v17, val_main_v16, val_main_v15, val_main_cst_2, val_main_v14, val_main_v13, val_main_v12, val_main_v11,
    val_main_cst_1, val_main_v10, val_main_v9, val_main_cst_0, val_main_v8, val_main_v7, val_main_cst, val_main_v6,
    val_main_v5, val_main_v4, val_main_v3, val_main_v2, val_main_v1, val_main_v0]
  simp only [Fin.sum_univ_one]

open Cert.OutRefIdeal.Read in
theorem REF38_apply (i : S1x1024.Idx) : Cert.OutRefIdeal.Read.val_main_v38 (F := Ideal) a x tgt w gt fg i = ∑ r : Fin 8192, res a x w gt r (i 1) * rr a x w gt r * de' a x tgt w gt fg r (i 1) := by
  pointwise [dy', de', err, rr, res, prj, var, pull,
    val_main_v38, val_main_v37, val_main_cst_11, val_main_v36, val_main_v35, val_main_v34, val_main_v33, val_main_v32,
    val_main_cst_10, val_main_v31, val_main_v30, val_main_cst_9, val_main_cst_8, val_main_v24, val_main_v23,
    val_main_cst_3, val_main_v21, val_main_v20, val_main_v19, val_main_v18, val_main_v17, val_main_v13, val_main_v12,
    val_main_v11, val_main_cst_1, val_main_v10, val_main_v9, val_main_cst_0, val_main_v8, val_main_v7, val_main_cst,
    val_main_v6, val_main_v5, val_main_v4, val_main_v3, val_main_v2, val_main_v1, val_main_v0]

open Cert.OutRefIdeal.Read in
theorem REF64_apply (i : S1x128.Idx) : Cert.OutRefIdeal.Read.val_main_v64 (F := Ideal) a x tgt w gt fg i = Ideal.ofBits .f32 0x3F000000#32 * ∑ r : Fin 8192, Ideal.div (∑ l : Fin 1024, err a x tgt w gt fg r l * err a x tgt w gt fg r l) (Ideal.ofBits .f32 0x44800000#32) := by
  pointwise [dy', de', err, rr, res, prj, var, pull,
    val_main_v64, val_main_v29, val_main_cst_7, val_main_v28, val_main_cst_6, val_main_v27, val_main_v26, val_main_cst_5,
    val_main_v25, val_main_cst_4, val_main_v22, val_main_v21, val_main_v20, val_main_v19, val_main_v18, val_main_v17,
    val_main_v13, val_main_v12, val_main_v11, val_main_cst_1, val_main_v10, val_main_v9, val_main_cst_0, val_main_v8,
    val_main_v7, val_main_cst, val_main_v6, val_main_v5, val_main_v4, val_main_v3, val_main_v2, val_main_v1,
    val_main_v0]

theorem de'_fun : de' a x tgt w gt fg = de a x tgt w gt fg := by
  funext r l
  exact de'_eq a x tgt w gt fg r l

theorem dy'_fun : dy' a x tgt w gt fg = dy a x tgt w gt fg := by
  funext r l
  exact dy'_eq a x tgt w gt fg r l

/-- The kernel's form of each result is the reference's. -/
theorem dx_eq (r : Fin 8192) (l : Fin 1024) : dy a x tgt w gt fg r l
    = Cert.OutRefIdeal.Read.val_main_v54 (F := Ideal) a x tgt w gt fg (ix2 r l) := by
  rw [REF54_apply, dy'_fun]
  rfl

theorem dmix_eq (r : Fin 8192) (l : Fin 1024) : ∑ k : Fin 1024, dy a x tgt w gt fg r k * gt (ix2 0 k) * w (ix2 l k)
    = Cert.OutRefIdeal.Read.val_main_v62 (F := Ideal) a x tgt w gt fg (ix2 r l) := by
  rw [REF62_apply]
  simp only [dy'_fun]
  exact Finset.sum_congr rfl fun k _ => congrArg (· * _) (mul_comm (G := EReal) _ _)

/-- What row `r` adds to the gradient of the output weight, of the gate and of the last norm's weight, and to the loss. -/
def dwTerm (i : S1024x1024.Idx) (r : Fin 8192) : EReal :=
  a (ix2 r (i 0)) * (dy a x tgt w gt fg r (i 1) * gt (ix2 0 (i 1)))
def gateTerm (l : Fin 1024) (r : Fin 8192) : EReal := dy a x tgt w gt fg r l * prj a w r l
def normTerm (l : Fin 1024) (r : Fin 8192) : EReal := de a x tgt w gt fg r l * (res a x w gt r l * rr a x w gt r)
def sq (r : Fin 8192) : EReal := ∑ l : Fin 1024, err a x tgt w gt fg r l * err a x tgt w gt fg r l

theorem dw_eq (i : S1024x1024.Idx) : Cert.OutRefIdeal.Read.val_main_v63 (F := Ideal) a x tgt w gt fg i
    = ∑ r, dwTerm a x tgt w gt fg i r := by
  rw [REF63_apply]
  simp only [dy'_fun]
  exact Finset.sum_congr rfl fun r _ => (mul_comm (G := EReal) _ _).trans (congrArg (_ * ·) (mul_comm (G := EReal) _ _))

theorem gate_eq (i : S1x1024.Idx) : Cert.OutRefIdeal.Read.val_main_v59 (F := Ideal) a x tgt w gt fg i
    = ∑ r, gateTerm a x tgt w gt fg (i 1) r := by
  simp only [REF59_apply, dy'_fun, gateTerm]

theorem norm_eq (i : S1x1024.Idx) : Cert.OutRefIdeal.Read.val_main_v38 (F := Ideal) a x tgt w gt fg i
    = ∑ r, normTerm a x tgt w gt fg (i 1) r := by
  rw [REF38_apply]
  simp only [de'_fun]
  exact Finset.sum_congr rfl fun r _ => mul_comm (G := EReal) _ _

theorem sq_nonneg (r : Fin 8192) : 0 ≤ sq a x tgt w gt fg r := Finset.sum_nonneg fun _ _ => mul_self_nonneg' _

/-- The loss of some rows, the division and the half taken out of the sum. -/
theorem loss_part {n : ℕ} (f : Fin n → Fin 8192) :
    Ideal.div (Ideal.ofBits .f32 0x3F000000#32 * ∑ b, sq a x tgt w gt fg (f b)) (Ideal.ofBits .f32 0x44800000#32)
      = ∑ b, Ideal.ofBits .f32 0x3F000000#32 * Ideal.div (sq a x tgt w gt fg (f b)) (Ideal.ofBits .f32 0x44800000#32) := by
  rw [ofBits_len, ofBits_half, Ideal.div_coe (by norm_num), mul_right_comm, ← EReal.coe_mul, mul_comm, sum_mul_pos _ (by norm_num)]
  refine Finset.sum_congr rfl fun b _ => ?_
  rw [Ideal.div_coe (by norm_num), EReal.coe_mul]
  ac_rfl

theorem loss_eq (i : S1x128.Idx) : Cert.OutRefIdeal.Read.val_main_v64 (F := Ideal) a x tgt w gt fg i
    = ∑ r, Ideal.ofBits .f32 0x3F000000#32 * Ideal.div (sq a x tgt w gt fg r) (Ideal.ofBits .f32 0x44800000#32) := by
  rw [REF64_apply, ofBits_len, ofBits_half, mul_comm, sum_mul_pos _ (by norm_num)]
  exact Finset.sum_congr rfl fun b _ => mul_comm _ _

/-! ## The kernel's payloads on 256 rows -/

/-- The rows of an array that the map `f` names. -/
def rowsB (v : FVec Ideal S8192x1024 .bf16) (f : Fin 256 → Fin 8192) : Vec Ideal S256x1024 .bf16 := fun i => v (ix2 (f (i 0)) (i 1))
def rowsF (v : FVec Ideal S8192x1024 .f32) (f : Fin 256 → Fin 8192) : Vec Ideal S256x1024 .f32 := fun i => v (ix2 (f (i 0)) (i 1))

variable (f : Fin 256 → Fin 8192)

/-- The quantities above on these rows. -/
def prjF : FVec Ideal S256x1024 .f32 := fun i => prj a w (f (i 0)) (i 1)
def rrF : FVec Ideal S256x1 .f32 := fun i => rr a x w gt (f (i 0))
def normF : FVec Ideal S256x1024 .f32 := fun i => res a x w gt (f (i 0)) (i 1) * rr a x w gt (f (i 0))
def errF : FVec Ideal S256x1024 .f32 := fun i => err a x tgt w gt fg (f (i 0)) (i 1)
def dyF : FVec Ideal S256x1024 .f32 := fun i => dy a x tgt w gt fg (f (i 0)) (i 1)
def doF : FVec Ideal S256x1024 .bf16 := fun i => dy a x tgt w gt fg (f (i 0)) (i 1) * gt (ix2 0 (i 1))
def dmixF : FVec Ideal S256x1024 .f32 := fun i => ∑ k : Fin 1024, dy a x tgt w gt fg (f (i 0)) k * gt (ix2 0 k) * w (ix2 (i 1) k)

theorem pay7 : k0_pay7 (F := Ideal) w (rowsB a f) = prjF a w f := by
  funext i
  pointwise [k0_pay7, rowsB, prjF, prj]

theorem pay8 : k0_pay8 (F := Ideal) w (rowsB a f) = prjF a w f := by
  funext i
  pointwise [k0_pay8, rowsB, prjF, prj]

theorem pay10 : k0_pay10 (F := Ideal) w gt (rowsB a f) (rowsF x f) = rrF a x w gt f := by
  funext i
  pointwise [k0_pay10, k0_pay9, k0_pay7, rowsB, rowsF, rrF, rr, res, prj, var]

theorem pay11 : k0_pay11 (F := Ideal) w gt (rowsB a f) (rowsF x f) = normF a x w gt f := by
  funext i
  pointwise [k0_pay11, k0_pay10, k0_pay9, k0_pay7, rowsB, rowsF, normF, rr, res, prj, var]

theorem pay12 : k0_pay12 (F := Ideal) w gt fg (rowsB a f) (rowsF x f) (rowsF tgt f) = errF a x tgt w gt fg f := by
  funext i
  unfold k0_pay12
  simp only [pay11]
  pointwise [normF, errF, rowsF, err]

theorem pay13 : k0_pay13 (F := Ideal) w gt fg (rowsB a f) (rowsF x f) (rowsF tgt f) = fun _ => ∑ b, sq a x tgt w gt fg (f b) := by
  funext i
  unfold k0_pay13
  simp only [pay12]
  pointwise [errF, sq]

theorem pay23 : k0_pay23 (F := Ideal) gt (prjF a w f) (rowsF x f) = rrF a x w gt f := by
  funext i
  pointwise [k0_pay23, k0_pay22, rowsF, prjF, rrF, rr, res, var]

theorem pay24 : k0_pay24 (F := Ideal) gt (prjF a w f) (rowsF x f) = normF a x w gt f := by
  funext i
  pointwise [k0_pay24, k0_pay23, k0_pay22, rowsF, prjF, normF, rr, res, var]

theorem pay25 : k0_pay25 (F := Ideal) gt fg (prjF a w f) (rowsF x f) (rowsF tgt f) = errF a x tgt w gt fg f := by
  funext i
  unfold k0_pay25
  simp only [pay24]
  pointwise [normF, errF, rowsF, err]

/-- The loss of these rows. -/
def lossF : EReal :=
  ∑ b, Ideal.ofBits .f32 0x3F000000#32 * Ideal.div (sq a x tgt w gt fg (f b)) (Ideal.ofBits .f32 0x44800000#32)

theorem pay15 (p : Vec Ideal S1x128 .f32) : k0_pay15 (F := Ideal) (fun _ => ∑ b, sq a x tgt w gt fg (f b)) k0_pay14 p
    = fun i => p i + lossF a x tgt w gt fg f := by
  funext i
  pointwise [k0_pay15, k0_pay14]
  exact congrArg (p i + ·) (loss_part a x tgt w gt fg f)

theorem pay26 (p : Vec Ideal S1x128 .f32) : k0_pay26 (F := Ideal) gt fg (prjF a w f) (rowsF x f) (rowsF tgt f) p
    = fun i => p i + lossF a x tgt w gt fg f := by
  funext i
  unfold k0_pay26
  simp only [pay25]
  pointwise [errF]
  exact congrArg (p i + ·) (loss_part a x tgt w gt fg f)

theorem pay17 (p : Vec Ideal S1x1024 .f32) : k0_pay17 (F := Ideal) (normF a x w gt f) (errF a x tgt w gt fg f) p
    = fun i => p i + ∑ b, normTerm a x tgt w gt fg (i 1) (f b) := by
  funext i
  pointwise [k0_pay17, k0_pay16, normF, errF, normTerm, de]

theorem pay28 (p : Vec Ideal S1x1024 .f32) : k0_pay28 (F := Ideal) (normF a x w gt f) (errF a x tgt w gt fg f) p
    = fun i => p i + ∑ b, normTerm a x tgt w gt fg (i 1) (f b) := by
  funext i
  pointwise [k0_pay28, k0_pay27, normF, errF, normTerm, de]

theorem pay18 : k0_pay18 (F := Ideal) fg (rrF a x w gt f) (normF a x w gt f) (errF a x tgt w gt fg f) = dyF a x tgt w gt fg f := by
  funext i
  pointwise [k0_pay18, k0_pay16, rrF, normF, errF, dyF, dy, de]

theorem pay29 : k0_pay29 (F := Ideal) fg (rrF a x w gt f) (normF a x w gt f) (errF a x tgt w gt fg f) = dyF a x tgt w gt fg f := by
  funext i
  pointwise [k0_pay29, k0_pay27, rrF, normF, errF, dyF, dy, de]

theorem pay19 (p : Vec Ideal S1x1024 .f32) :
    k0_pay19 (F := Ideal) fg (prjF a w f) (rrF a x w gt f) (normF a x w gt f) (errF a x tgt w gt fg f) p
    = fun i => p i + ∑ b, gateTerm a x tgt w gt fg (i 1) (f b) := by
  funext i
  unfold k0_pay19
  simp only [pay18]
  pointwise [dyF, prjF, gateTerm]

theorem pay30 (p : Vec Ideal S1x1024 .f32) :
    k0_pay30 (F := Ideal) fg (prjF a w f) (rrF a x w gt f) (normF a x w gt f) (errF a x tgt w gt fg f) p
    = fun i => p i + ∑ b, gateTerm a x tgt w gt fg (i 1) (f b) := by
  funext i
  unfold k0_pay30
  simp only [pay29]
  pointwise [dyF, prjF, gateTerm]

theorem pay20 : k0_pay20 (F := Ideal) gt (dyF a x tgt w gt fg f) = doF a x tgt w gt fg f := by
  funext i
  pointwise [k0_pay20, dyF, doF]

theorem pay31 : k0_pay31 (F := Ideal) gt fg (rrF a x w gt f) (normF a x w gt f) (errF a x tgt w gt fg f) = doF a x tgt w gt fg f := by
  funext i
  unfold k0_pay31
  simp only [pay29]
  pointwise [dyF, doF]

theorem pay21 : k0_pay21 (F := Ideal) w gt (dyF a x tgt w gt fg f) = dmixF a x tgt w gt fg f := by
  funext i
  unfold k0_pay21
  simp only [pay20]
  pointwise [dmixF, doF]

theorem pay32 : k0_pay32 (F := Ideal) w gt fg (rrF a x w gt f) (normF a x w gt f) (errF a x tgt w gt fg f) = dmixF a x tgt w gt fg f := by
  funext i
  unfold k0_pay32
  simp only [pay31]
  pointwise [dmixF, doF]

/-! ## The rows of a point -/

theorem row_lt (t : Fin cfg0.N) (a : ℕ) (h : a < 512) : 512 * t.val + a < 8192 := by
  have := t.isLt
  have : cfg0.N = 16 := N_0
  omega

/-- The rows of a point's first and second half. -/
def lo (t : Fin cfg0.N) (b : Fin 256) : Fin 8192 := ⟨512 * t.val + b.val, row_lt t _ (by omega)⟩
def hi (t : Fin cfg0.N) (b : Fin 256) : Fin 8192 := ⟨512 * t.val + (256 + b.val), row_lt t _ (by omega)⟩

/-- A point's block of rows. -/
def blkB (v : FVec Ideal S8192x1024 .bf16) (t : Fin cfg0.N) : Vec Ideal S512x1024 .bf16 :=
  fun i => v (ix2 ⟨512 * t.val + (i 0).val, row_lt t _ (i 0).isLt⟩ (i 1))
def blkF (v : FVec Ideal S8192x1024 .f32) (t : Fin cfg0.N) : Vec Ideal S512x1024 .f32 :=
  fun i => v (ix2 ⟨512 * t.val + (i 0).val, row_lt t _ (i 0).isLt⟩ (i 1))

theorem ldB_lo (v : FVec Ideal S8192x1024 .bf16) (t : Fin cfg0.N) :
    View.ld (Val := Elt Ideal) (blkB v t) (Rect.unit (s := S512x1024) ![0, 0] ![256, 1024] inb_S512x1024_S256x1024_0_0) = rowsB v (lo t) := by
  funext i
  pointwise [blkB, rowsB, lo]

theorem ldB_hi (v : FVec Ideal S8192x1024 .bf16) (t : Fin cfg0.N) :
    View.ld (Val := Elt Ideal) (blkB v t) (Rect.unit (s := S512x1024) ![256, 0] ![256, 1024] inb_S512x1024_S256x1024_256_0) = rowsB v (hi t) := by
  funext i
  pointwise [blkB, rowsB, hi]

theorem ldF_lo (v : FVec Ideal S8192x1024 .f32) (t : Fin cfg0.N) :
    View.ld (Val := Elt Ideal) (blkF v t) (Rect.unit (s := S512x1024) ![0, 0] ![256, 1024] inb_S512x1024_S256x1024_0_0) = rowsF v (lo t) := by
  funext i
  pointwise [blkF, rowsF, lo]

theorem ldF_hi (v : FVec Ideal S8192x1024 .f32) (t : Fin cfg0.N) :
    View.ld (Val := Elt Ideal) (blkF v t) (Rect.unit (s := S512x1024) ![256, 0] ![256, 1024] inb_S512x1024_S256x1024_256_0) = rowsF v (hi t) := by
  funext i
  pointwise [blkF, rowsF, hi]

/-- What one point adds to a sum over the rows. -/
def term (g : Fin 8192 → EReal) (t : Fin cfg0.N) : EReal := (∑ b, g (lo t b)) + ∑ b, g (hi t b)

theorem sum_term (g : Fin 8192 → EReal) : ∑ t : Fin cfg0.N, term g t = ∑ r, g r :=
  sum_rows 256 512 8192 rfl (by rw [show cfg0.N = 16 from N_0]) g _ _

theorem pay1 (p : Vec Ideal S1024x1024 .f32) (t : Fin cfg0.N) :
    k0_pay1 (F := Ideal) (doF a x tgt w gt fg (lo t)) (doF a x tgt w gt fg (hi t)) p (blkB a t)
    = fun i => p i + term (dwTerm a x tgt w gt fg i) t := by
  funext i
  pointwise [k0_pay1, doF, blkB]
  rfl

theorem pay2 (p : Vec Ideal S1024x1024 .f32) : k0_pay2 (F := Ideal) p = p := by
  funext i
  pointwise [k0_pay2]

end

theorem pay3 : k0_pay3 (F := Ideal) = fun _ => (0 : EReal) := by
  funext i
  pointwise [k0_pay3]

theorem pay4 : k0_pay4 (F := Ideal) = fun _ => (0 : EReal) := by
  funext i
  pointwise [k0_pay4]

theorem pay5 : k0_pay5 (F := Ideal) = fun _ => (0 : EReal) := by
  funext i
  pointwise [k0_pay5]

theorem pay6 : k0_pay6 (F := Ideal) = fun _ => (0 : EReal) := by
  funext i
  pointwise [k0_pay6]

variable (m : (ℓ : Loc nD τ sig) → Buf (Elt Ideal) ℓ)

theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] :=
  (by decide +kernel : ∀ t : Fin grid0.N, _)

/-! What a point reads of the arguments. -/

theorem rd0 (c : Dev nD) (t : Fin cfg0.N) : iblk m c 0 t = blkB (m ((c : Thread nD τ).loc main_arg0)) t := by
  funext i
  blk_point [iblk, V, idx t, blkB]

theorem rd1 (c : Dev nD) (t : Fin cfg0.N) : iblk m c 1 t = blkF (m ((c : Thread nD τ).loc main_arg1)) t := by
  funext i
  blk_point [iblk, V, idx t, blkF]

theorem rd2 (c : Dev nD) (t : Fin cfg0.N) : iblk m c 2 t = blkF (m ((c : Thread nD τ).loc main_arg2)) t := by
  funext i
  blk_point [iblk, V, idx t, blkF]

theorem rd3 (c : Dev nD) (t : Fin cfg0.N) : iblk m c 3 t = m ((c : Thread nD τ).loc main_arg3) := by
  funext i
  blk_point [iblk, V, idx t]

theorem rd4 (c : Dev nD) (t : Fin cfg0.N) : iblk m c 4 t = m ((c : Thread nD τ).loc main_arg4) := by
  funext i
  blk_point [iblk, V, idx t]

theorem rd5 (c : Dev nD) (t : Fin cfg0.N) : iblk m c 5 t = m ((c : Thread nD τ).loc main_arg5) := by
  funext i
  blk_point [iblk, V, idx t]

theorem final6 (c : Dev nD) : (dats m 0 c).arrAt 6 (cfgs 0).N
    = Cert.OutRefIdeal.Read.val_main_v54 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  have core := dx_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  rw [after0_6]
  rcases (by omega : t.val % 16 = 0 ∨ (¬t.val % 16 = 0 ∧ ¬t.val % 16 = 15) ∨ t.val % 16 = 15) with e | e | e
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dyF]
      refine (core (hi t (x 0)) (x 1)).trans (congrArg _ ?_)
      blk_ext [idx t, hi]
    · pointwise [dyF]
      refine (core (lo t (x 0)) (x 1)).trans (congrArg _ ?_)
      blk_ext [idx t, lo]
  · simp only [outsAt0_B m c t e.1 e.2, rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dyF]
      refine (core (hi t (x 0)) (x 1)).trans (congrArg _ ?_)
      blk_ext [idx t, hi]
    · pointwise [dyF]
      refine (core (lo t (x 0)) (x 1)).trans (congrArg _ ?_)
      blk_ext [idx t, lo]
  · simp only [outsAt0_C m c t (by omega) e, rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dyF]
      refine (core (hi t (x 0)) (x 1)).trans (congrArg _ ?_)
      blk_ext [idx t, hi]
    · pointwise [dyF]
      refine (core (lo t (x 0)) (x 1)).trans (congrArg _ ?_)
      blk_ext [idx t, lo]

theorem final7 (c : Dev nD) : (dats m 0 c).arrAt 7 (cfgs 0).N
    = Cert.OutRefIdeal.Read.val_main_v62 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  have core := dmix_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
  rw [after0_7]
  rcases (by omega : t.val % 16 = 0 ∨ (¬t.val % 16 = 0 ∧ ¬t.val % 16 = 15) ∨ t.val % 16 = 15) with e | e | e
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dmixF]
      refine (core (hi t (x 0)) (x 1)).trans (congrArg _ ?_)
      blk_ext [idx t, hi]
    · pointwise [dmixF]
      refine (core (lo t (x 0)) (x 1)).trans (congrArg _ ?_)
      blk_ext [idx t, lo]
  · simp only [outsAt0_B m c t e.1 e.2, rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dmixF]
      refine (core (hi t (x 0)) (x 1)).trans (congrArg _ ?_)
      blk_ext [idx t, hi]
    · pointwise [dmixF]
      refine (core (lo t (x 0)) (x 1)).trans (congrArg _ ?_)
      blk_ext [idx t, lo]
  · simp only [outsAt0_C m c t (by omega) e, rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    canon_tiles x h
    · pointwise [dmixF]
      refine (core (hi t (x 0)) (x 1)).trans (congrArg _ ?_)
      blk_ext [idx t, hi]
    · pointwise [dmixF]
      refine (core (lo t (x 0)) (x 1)).trans (congrArg _ ?_)
      blk_ext [idx t, lo]

theorem final9 (c : Dev nD) : (dats m 0 c).arrAt 9 (cfgs 0).N
    = Cert.OutRefIdeal.Read.val_main_v59 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  rw [after0_9, gate_eq, ← sum_term, ← zero_add (Finset.sum _ _)]
  refine Pipeline.eq_sum_fin_of_reset_step_apply_last (fun n h => (outsAt0 m c n h).2.2.2.1) 16 (fun _ => (0 : EReal))
    (fun t i => term (gateTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 1)) t)
    (fun t e i => ?_) (fun t e i => ?_) (le_of_eq N_0) t0_15 rfl j
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    exact add_assoc (G := EReal) _ _ _
  · by_cases e' : t.val % 16 = 15
    · simp only [outsAt0_C m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _
    · simp only [outsAt0_B m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _

theorem final10 (c : Dev nD) : (dats m 0 c).arrAt 10 (cfgs 0).N
    = Cert.OutRefIdeal.Read.val_main_v38 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 10 t0_15 (by decide +kernel) _ fun j => ?_
  rw [after0_10, norm_eq, ← sum_term, ← zero_add (Finset.sum _ _)]
  refine Pipeline.eq_sum_fin_of_reset_step_apply_last (fun n h => (outsAt0 m c n h).2.2.2.2.1) 16 (fun _ => (0 : EReal))
    (fun t i => term (normTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 1)) t)
    (fun t e i => ?_) (fun t e i => ?_) (le_of_eq N_0) t0_15 rfl j
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    exact add_assoc (G := EReal) _ _ _
  · by_cases e' : t.val % 16 = 15
    · simp only [outsAt0_C m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _
    · simp only [outsAt0_B m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _

theorem final11 (c : Dev nD) : (dats m 0 c).arrAt 11 (cfgs 0).N
    = Cert.OutRefIdeal.Read.val_main_v64 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 11 t0_15 (by decide +kernel) _ fun j => ?_
  rw [after0_11, loss_eq, ← sum_term, ← zero_add (Finset.sum _ _)]
  refine Pipeline.eq_sum_fin_of_reset_step_apply_last (fun n h => (outsAt0 m c n h).2.2.2.2.2.1) 16 (fun _ => (0 : EReal))
    (fun t i => term (fun r => Ideal.ofBits .f32 0x3F000000#32 * Ideal.div (sq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r)
      (Ideal.ofBits .f32 0x44800000#32)) t)
    (fun t e i => ?_) (fun t e i => ?_) (le_of_eq N_0) t0_15 rfl j
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    exact add_assoc (G := EReal) _ _ _
  · by_cases e' : t.val % 16 = 15
    · simp only [outsAt0_C m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _
    · simp only [outsAt0_B m c t e e', rd0, rd1, rd2, rd3, rd4, rd5]
      frame_out
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
      exact add_assoc (G := EReal) _ _ _

/-- What a point reads of the carried sum is what the point before left. -/
theorem carried (c : Dev nD) (t : Fin cfg0.N) (h : t.val - 1 < cfg0.N) :
    (View.whole cc0_scratch0).read (Elt Ideal) ((Memref.isWhole_whole cc0_scratch0).unread (outsAt0 m c (t.val - 1) h).2.2.2.2.2.2)
      = (outsAt0 m c (t.val - 1) h).2.2.2.2.2.2 := Memref.IsWhole.read_unread _ _

/-- The output weight's gradient is the carried sum after the last point. -/
theorem out8 (c : Dev nD) : (outsAt0 m c t0_15.val t0_15.isLt).2.2.1 = (outsAt0 m c t0_15.val t0_15.isLt).2.2.2.2.2.2 := by
  simp only [outsAt0_C m c t0_15 (by decide) (by decide)]
  frame_out
  funext i
  pointwise [k0_pay2]

theorem final8 (c : Dev nD) : (dats m 0 c).arrAt 8 (cfgs 0).N
    = Cert.OutRefIdeal.Read.val_main_v63 (F := Ideal)
      (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  refine (dats m 0 c).arrAt_eq_of_after_last 8 t0_15 (by decide +kernel) _ fun j => ?_
  rw [after0_8, out8, dw_eq, ← sum_term, ← zero_add (Finset.sum _ _)]
  refine Pipeline.eq_sum_fin_of_reset_step_apply_last (fun n h => (outsAt0 m c n h).2.2.2.2.2.2) 16 (fun _ => (0 : EReal))
    (fun t i => term (dwTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i) t)
    (fun t e i => ?_) (fun t e i => ?_) (le_of_eq N_0) t0_15 rfl j
  · simp only [outsAt0_A m c t e (by omega), rd0, rd1, rd2, rd3, rd4, rd5]
    frame_out
    simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
  · by_cases e' : t.val % 16 = 15
    · simp only [outsAt0_C m c t e e', rd0, rd1, rd2, rd3, rd4, rd5]
      frame_out
      rw [carried]
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]
    · simp only [outsAt0_B m c t e e', rd0, rd1, rd2, rd3, rd4, rd5]
      frame_out
      rw [carried]
      simp only [ldB_lo, ldB_hi, ldF_lo, ldF_hi, pay1, pay2, pay3, pay4, pay5, pay6, pay7, pay8, pay10, pay11, pay12, pay13, pay15,
      pay17, pay18, pay19, pay20, pay21, pay23, pay24, pay25, pay26, pay28, pay29, pay30, pay31, pay32]

end Cert.OutIdeal.Final

end
-- ==== Proof.OutClaim.lean ====
module

public import proofs.«01_k».proof.Defs
public import proofs.«01_k».proof.Proof.OutValue
public import proofs.«01_k».proof.Proof.Gen.OutRefIdeal.Run
public import Idealize.ShloMosaic.Lib.Claim

/-! The output projection, the loss and their gradients: kernel and reference leave the same six arrays. -/

@[expose] public section

set_option maxRecDepth 16384

noncomputable section

namespace Cert.OutRefIdeal.Stages

open Idealize.ShloMosaic Idealize.SL.Sem Cert.OutRefIdeal Cert.OutRefIdeal.Gen Cert.OutRefIdeal.Read

/-- The reference's run: each result is its named stage of the arguments, and the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v62) = val_main_v62 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v63) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v59) = val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v38) = val_main_v38 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (val_main_v54_eq m c),
      (h c).2.1.trans (val_main_v62_eq m c),
      (h c).2.2.1.trans (val_main_v63_eq m c),
      (h c).2.2.2.1.trans (val_main_v59_eq m c),
      (h c).2.2.2.2.1.trans (val_main_v38_eq _ _ _ _ _ _),
      (h c).2.2.2.2.2.1.trans (val_main_v64_eq _ _ _ _ _ _),
      (h c).2.2.2.2.2.2⟩)
    (Cert.OutRefIdeal.Value.run m ρ)

end Cert.OutRefIdeal.Stages

namespace Cert.Proof

open Idealize.ShloMosaic Idealize.SL.Sem

set_option maxHeartbeats 1600000 in
/-- The output projection, the loss and their gradients: kernel and reference leave the same six arrays. -/
theorem algebraic_Out : Cert.algebraic_OutIdeal_OutRefIdeal := by
  pair_intro
  · run_from Cert.OutIdeal.Gen.run_main m g
  · refine (θ_run _ _ _).mono (fun r h c => ?_) (Cert.OutRefIdeal.Stages.run m' g')
    obtain ⟨e0, e1, e2, e3, e4, e5⟩ := hagree c
    exact ⟨(h c).1.trans (by simp only [e0, e1, e2, e3, e4, e5]; exact (Cert.OutIdeal.Final.final6 m c).symm),
      (h c).2.1.trans (by simp only [e0, e1, e2, e3, e4, e5]; exact (Cert.OutIdeal.Final.final7 m c).symm),
      (h c).2.2.1.trans (by simp only [e0, e1, e2, e3, e4, e5]; exact (Cert.OutIdeal.Final.final8 m c).symm),
      (h c).2.2.2.1.trans (by simp only [e0, e1, e2, e3, e4, e5]; exact (Cert.OutIdeal.Final.final9 m c).symm),
      (h c).2.2.2.2.1.trans (by simp only [e0, e1, e2, e3, e4, e5]; exact (Cert.OutIdeal.Final.final10 m c).symm),
      (h c).2.2.2.2.2.1.trans (by simp only [e0, e1, e2, e3, e4, e5]; exact (Cert.OutIdeal.Final.final11 m c).symm),
      (h c).2.2.2.2.2.2⟩

end Cert.Proof

end
-- ==== Proof.FwdValue.lean ====
module

public import proofs.«01_k».proof.Proof.Gen.FwdIdeal.Value
public import proofs.«01_k».proof.Proof.Gen.FwdRefIdeal.Read
public import Idealize.ShloMosaic.Lib.Pipeline.ValueKit
public import Idealize.ShloMosaic.Lib.Pointwise

/-! The adaptive norm and the input projection: the kernel's three result arrays are the reference's terms. -/

@[expose] public section

set_option maxRecDepth 16384

noncomputable section

namespace Cert.FwdIdeal.Final

open Idealize.ShloMosaic Idealize.ShloMosaic.TcCoe Idealize.SL.Sem
open Idealize.ShloMosaic.Pipeline (Dat)
open Cert.FwdIdeal Cert.FwdIdeal.Gen

variable (m : (ℓ : Loc nD τ sig) → Buf (Elt Ideal) ℓ)

/-- One entry of the normed, scaled and shifted row. -/
def hv (row g s b : Fin 1024 → EReal) (l : Fin 1024) : EReal :=
  row l * Ideal.rsqrt (Ideal.div (∑ k, row k * row k) (Ideal.ofBits .f32 0x44800000#32) + Ideal.ofBits .f32 0x358637BD#32)
    * g l * (1 + s l) + b l

/-- The block of normed rows. -/
def H (x : FVec Ideal S8192x1024 .f32) (g s b : FVec Ideal S1x1024 .f32) (i : Fin 8192) (l : Fin 1024) : EReal :=
  hv (fun k => x (ix2 i k)) (fun k => g (ix2 0 k)) (fun k => s (ix2 0 k)) (fun k => b (ix2 0 k)) l

def REF7 (x : FVec Ideal S8192x1024 .f32) (g s b : FVec Ideal S1x1024 .f32) : FVec Ideal S8192x1024 .bf16 :=
  Cert.FwdRefIdeal.Read.val_main_v23 (F := Ideal) x g s b

theorem REF7_apply (x : FVec Ideal S8192x1024 .f32) (g s b : FVec Ideal S1x1024 .f32) (i : S8192x1024.Idx) :
    REF7 x g s b i = H x g s b (i 0) (i 1) := by
  unfold REF7
  simp only [← Cert.FwdRefIdeal.Read.val_main_v23_eq]
  pointwise [H, hv]

def REF5 (x : FVec Ideal S8192x1024 .f32) (g s b : FVec Ideal S1x1024 .f32) (w : FVec Ideal S3840x1024 .bf16) :
    FVec Ideal S8192x3584 .f32 :=
  Cert.FwdRefIdeal.Read.val_main_v21 (F := Ideal) x g s b w

theorem REF5_apply (x : FVec Ideal S8192x1024 .f32) (g s b : FVec Ideal S1x1024 .f32) (w : FVec Ideal S3840x1024 .bf16)
    (i : S8192x3584.Idx) :
    REF5 x g s b w i = ∑ k : Fin 1024, H x g s b (i 0) k * w (ix2 ⟨(i 1).val, lt_trans (i 1).isLt (by decide)⟩ k) := by
  unfold REF5
  simp only [← Cert.FwdRefIdeal.Read.val_main_v21_eq]
  pointwise [H, hv]

def REF6 (x : FVec Ideal S8192x1024 .f32) (g s b : FVec Ideal S1x1024 .f32) (w : FVec Ideal S3840x1024 .bf16) :
    FVec Ideal S8192x128 .f32 :=
  Cert.FwdRefIdeal.Read.val_main_v22 (F := Ideal) x g s b w

theorem REF6_apply (x : FVec Ideal S8192x1024 .f32) (g s b : FVec Ideal S1x1024 .f32) (w : FVec Ideal S3840x1024 .bf16)
    (i : S8192x128.Idx) :
    REF6 x g s b w i = ∑ k : Fin 1024, H x g s b (i 0) k
      * w (ix2 ⟨3584 + (i 1).val, by have : (i 1).val < 128 := (i 1).isLt; omega⟩ k) := by
  unfold REF6
  simp only [← Cert.FwdRefIdeal.Read.val_main_v22_eq]
  pointwise [H, hv]

theorem pay6 (x : FVec Ideal S256x1024 .f32) (g s b : FVec Ideal S1x1024 .f32) (j : S256x1024.Idx) :
    k0_pay6 (F := Ideal) x g s b j
      = hv (fun k => x (ix2 (j 0) k)) (fun k => g (ix2 0 k)) (fun k => s (ix2 0 k)) (fun k => b (ix2 0 k)) (j 1) := by
  pointwise [k0_pay6, hv]

theorem pay16 (x : FVec Ideal S256x1024 .f32) (g s b : FVec Ideal S1x1024 .f32) (j : S256x1024.Idx) :
    k0_pay16 (F := Ideal) x (k0_pay15 (F := Ideal) x) (Scalar.ofBits .f32 0x44800000#32) g s b j
      = hv (fun k => x (ix2 (j 0) k)) (fun k => g (ix2 0 k)) (fun k => s (ix2 0 k)) (fun k => b (ix2 0 k)) (j 1) := by
  pointwise [k0_pay16, k0_pay15, hv]

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := (by decide +kernel : ∀ t : Fin grid0.N, _)

/-- The upper half of a block of normed rows. -/
theorem upper (c : Dev nD) (t : Fin cfg0.N) (j : S256x1024.Idx) (r : Fin 8192) (hr : r.val = t.val * 512 + (j 0).val)
    (l : Fin 1024) (hl : l.val = (j 1).val) :
    k0_pay6 (F := Ideal) (View.ld (iblk m c 0 t) r0_0) (View.ld (iblk m c 1 t) r0_1) (View.ld (iblk m c 2 t) r0_1)
      (View.ld (iblk m c 3 t) r0_1) j
    = H (m ((c : Thread nD τ).loc main_arg0)) (m ((c : Thread nD τ).loc main_arg1)) (m ((c : Thread nD τ).loc main_arg2))
      (m ((c : Thread nD τ).loc main_arg3)) r l := by
  obtain rfl : l = j 1 := Fin.ext hl
  refine (pay6 _ _ _ _ j).trans ?_
  unfold H hv
  pointwise
  blk_point [iblk, V, idx t]

/-- The lower half. -/
theorem lower (c : Dev nD) (t : Fin cfg0.N) (j : S256x1024.Idx) (r : Fin 8192) (hr : r.val = t.val * 512 + (256 + (j 0).val))
    (l : Fin 1024) (hl : l.val = (j 1).val) :
    k0_pay16 (F := Ideal) (View.ld (iblk m c 0 t) r0_18) (k0_pay15 (F := Ideal) (View.ld (iblk m c 0 t) r0_18))
      (Scalar.ofBits .f32 0x44800000#32) (View.ld (iblk m c 1 t) r0_1) (View.ld (iblk m c 2 t) r0_1)
      (View.ld (iblk m c 3 t) r0_1) j
    = H (m ((c : Thread nD τ).loc main_arg0)) (m ((c : Thread nD τ).loc main_arg1)) (m ((c : Thread nD τ).loc main_arg2))
      (m ((c : Thread nD τ).loc main_arg3)) r l := by
  obtain rfl : l = j 1 := Fin.ext hl
  refine (pay16 _ _ _ _ j).trans ?_
  unfold H hv
  pointwise
  blk_point [iblk, V, idx t]

theorem final7 (c : Dev nD) : (dats m 0 c).arrAt 7 (cfgs 0).N
    = REF7 (m ((c : Thread nD τ).loc main_arg0)) (m ((c : Thread nD τ).loc main_arg1)) (m ((c : Thread nD τ).loc main_arg2))
      (m ((c : Thread nD τ).loc main_arg3)) := by
  refine (dats m 0 c).arrAt_eq_of_covers 7 _ (by decide +kernel) fun t hf y => ?_
  blk_simp
  rw [after0_7, REF7_apply]
  unfold out0_7
  canon_tiles x h
  · unfold k0_pay21
    exact lower m c t x _ (by blk_simp [idx t]; omega) _ (by blk_simp [idx t]; omega)
  · exact upper m c t x _ (by blk_simp [idx t]; omega) _ (by blk_simp [idx t]; omega)

/-- A product of a block of normed rows with rows of the weights, against the whole product. -/
theorem prod_upper (c : Dev nD) (t : Fin cfg0.N) (a : Fin 256) (r : Fin 8192) (hr : r.val = t.val * 512 + a.val)
    (u w : Fin 1024 → EReal) (hw : ∀ k, u k = w k) :
    ∑ k : Fin 1024, k0_pay6 (F := Ideal) (View.ld (iblk m c 0 t) r0_0) (View.ld (iblk m c 1 t) r0_1)
      (View.ld (iblk m c 2 t) r0_1) (View.ld (iblk m c 3 t) r0_1) (ix2 a k) * u k
    = ∑ k : Fin 1024, H (m ((c : Thread nD τ).loc main_arg0)) (m ((c : Thread nD τ).loc main_arg1)) (m ((c : Thread nD τ).loc main_arg2))
      (m ((c : Thread nD τ).loc main_arg3)) r k * w k :=
  Finset.sum_congr rfl fun k _ => by rw [hw k]; exact Ideal.mul_congr (upper m c t (ix2 a k) r hr k rfl) rfl

theorem prod_lower (c : Dev nD) (t : Fin cfg0.N) (a : Fin 256) (r : Fin 8192) (hr : r.val = t.val * 512 + (256 + a.val))
    (u w : Fin 1024 → EReal) (hw : ∀ k, u k = w k) :
    ∑ k : Fin 1024, k0_pay16 (F := Ideal) (View.ld (iblk m c 0 t) r0_18) (k0_pay15 (F := Ideal) (View.ld (iblk m c 0 t) r0_18))
      (Scalar.ofBits .f32 0x44800000#32) (View.ld (iblk m c 1 t) r0_1) (View.ld (iblk m c 2 t) r0_1)
      (View.ld (iblk m c 3 t) r0_1) (ix2 a k) * u k
    = ∑ k : Fin 1024, H (m ((c : Thread nD τ).loc main_arg0)) (m ((c : Thread nD τ).loc main_arg1)) (m ((c : Thread nD τ).loc main_arg2))
      (m ((c : Thread nD τ).loc main_arg3)) r k * w k :=
  Finset.sum_congr rfl fun k _ => by rw [hw k]; exact Ideal.mul_congr (lower m c t (ix2 a k) r hr k rfl) rfl

theorem pay1 (h : FVec Ideal S256x1024 .bf16) (w : FVec Ideal S512x1024 .bf16) (j : S256x512.Idx) :
    k0_pay1 (F := Ideal) h w j = ∑ k : Fin 1024, h (ix2 (j 0) k) * w (ix2 (j 1) k) := by pointwise [k0_pay1]

theorem pay2 (h : FVec Ideal S256x1024 .bf16) (w : FVec Ideal S512x1024 .bf16) (j : S256x512.Idx) :
    k0_pay2 (F := Ideal) h w j = ∑ k : Fin 1024, h (ix2 (j 0) k) * w (ix2 (j 1) k) := by pointwise [k0_pay2]

theorem pay3 (h : FVec Ideal S256x1024 .bf16) (w : FVec Ideal S512x1024 .bf16) (j : S256x512.Idx) :
    k0_pay3 (F := Ideal) h w j = ∑ k : Fin 1024, h (ix2 (j 0) k) * w (ix2 (j 1) k) := by pointwise [k0_pay3]

theorem pay4 (h : FVec Ideal S256x1024 .bf16) (w : FVec Ideal S512x1024 .bf16) (j : S256x512.Idx) :
    k0_pay4 (F := Ideal) h w j = ∑ k : Fin 1024, h (ix2 (j 0) k) * w (ix2 (j 1) k) := by pointwise [k0_pay4]

theorem pay5 (h : FVec Ideal S256x1024 .bf16) (w : FVec Ideal S512x1024 .bf16) (j : S256x512.Idx) :
    k0_pay5 (F := Ideal) h w j = ∑ k : Fin 1024, h (ix2 (j 0) k) * w (ix2 (j 1) k) := by pointwise [k0_pay5]

theorem pay9 (h : FVec Ideal S256x1024 .bf16) (w : FVec Ideal S512x1024 .bf16) (j : S256x512.Idx) :
    k0_pay9 (F := Ideal) h w j = ∑ k : Fin 1024, h (ix2 (j 0) k) * w (ix2 (j 1) k) := by pointwise [k0_pay9]

theorem pay10 (h : FVec Ideal S256x1024 .bf16) (w : FVec Ideal S512x1024 .bf16) (j : S256x512.Idx) :
    k0_pay10 (F := Ideal) h w j = ∑ k : Fin 1024, h (ix2 (j 0) k) * w (ix2 (j 1) k) := by pointwise [k0_pay10]

theorem pay11 (h : FVec Ideal S256x1024 .bf16) (w : FVec Ideal S512x1024 .bf16) (j : S256x512.Idx) :
    k0_pay11 (F := Ideal) h w j = ∑ k : Fin 1024, h (ix2 (j 0) k) * w (ix2 (j 1) k) := by pointwise [k0_pay11]

theorem pay12 (h : FVec Ideal S256x1024 .bf16) (w : FVec Ideal S512x1024 .bf16) (j : S256x512.Idx) :
    k0_pay12 (F := Ideal) h w j = ∑ k : Fin 1024, h (ix2 (j 0) k) * w (ix2 (j 1) k) := by pointwise [k0_pay12]

theorem pay13 (h : FVec Ideal S256x1024 .bf16) (w : FVec Ideal S512x1024 .bf16) (j : S256x512.Idx) :
    k0_pay13 (F := Ideal) h w j = ∑ k : Fin 1024, h (ix2 (j 0) k) * w (ix2 (j 1) k) := by pointwise [k0_pay13]

theorem pay14 (h : FVec Ideal S256x1024 .bf16) (w : FVec Ideal S512x1024 .bf16) (j : S256x512.Idx) :
    k0_pay14 (F := Ideal) h w j = ∑ k : Fin 1024, h (ix2 (j 0) k) * w (ix2 (j 1) k) := by pointwise [k0_pay14]

theorem pay7 (x : FVec Ideal S256x1024 .f32) (g s b : FVec Ideal S1x1024 .f32) (w : FVec Ideal S128x1024 .bf16) (j : S256x128.Idx) :
    k0_pay7 (F := Ideal) x g s b w j = ∑ k : Fin 1024, k0_pay6 (F := Ideal) x g s b (ix2 (j 0) k) * w (ix2 (j 1) k) := by
  pointwise [k0_pay7]

theorem pay8 (x : FVec Ideal S256x1024 .f32) (g s b : FVec Ideal S1x1024 .f32) (w : FVec Ideal S512x1024 .bf16) (j : S256x512.Idx) :
    k0_pay8 (F := Ideal) x g s b w j = ∑ k : Fin 1024, k0_pay6 (F := Ideal) x g s b (ix2 (j 0) k) * w (ix2 (j 1) k) := by
  pointwise [k0_pay8]

theorem pay17 (x : FVec Ideal S256x1024 .f32) (v : FVec Ideal S256x1 .f32) (q : EReal) (g s b : FVec Ideal S1x1024 .f32)
    (w : FVec Ideal S128x1024 .bf16) (j : S256x128.Idx) :
    k0_pay17 (F := Ideal) x v q g s b w j
      = ∑ k : Fin 1024, k0_pay16 (F := Ideal) x v q g s b (ix2 (j 0) k) * w (ix2 (j 1) k) := by
  pointwise [k0_pay17]

theorem pay18 (x : FVec Ideal S256x1024 .f32) (v : FVec Ideal S256x1 .f32) (q : EReal) (g s b : FVec Ideal S1x1024 .f32)
    (w : FVec Ideal S512x1024 .bf16) (j : S256x512.Idx) :
    k0_pay18 (F := Ideal) x v q g s b w j
      = ∑ k : Fin 1024, k0_pay16 (F := Ideal) x v q g s b (ix2 (j 0) k) * w (ix2 (j 1) k) := by
  pointwise [k0_pay18]

theorem pay19 (x : FVec Ideal S256x1024 .f32) (v : FVec Ideal S256x1 .f32) (q : EReal) (g s b : FVec Ideal S1x1024 .f32)
    (w : FVec Ideal S512x1024 .bf16) (j : S256x512.Idx) :
    k0_pay19 (F := Ideal) x v q g s b w j
      = ∑ k : Fin 1024, k0_pay16 (F := Ideal) x v q g s b (ix2 (j 0) k) * w (ix2 (j 1) k) := by
  pointwise [k0_pay19]

theorem final6 (c : Dev nD) : (dats m 0 c).arrAt 6 (cfgs 0).N
    = REF6 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6, REF6_apply]
  unfold out0_6
  canon_tiles x h
  · unfold k0_pay21
    refine (pay17 _ _ _ _ _ _ _ x).trans (prod_lower m c t (x 0) _ (by blk_simp [idx t]; omega) _ _ fun k => ?_)
    pointwise
    blk_point [iblk, V, idx t]
  · refine (pay7 _ _ _ _ _ x).trans (prod_upper m c t (x 0) _ (by blk_simp [idx t]; omega) _ _ fun k => ?_)
    pointwise
    blk_point [iblk, V, idx t]

theorem final5 (c : Dev nD) : (dats m 0 c).arrAt 5 (cfgs 0).N
    = REF5 (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5, REF5_apply]
  unfold out0_5 k0_pay22 k0_pay21 k0_pay20
  canon_tiles x h
  · refine (pay5 _ _ x).trans (prod_lower m c t (x 0) _ (by blk_simp [idx t]; omega) _ _ fun k => ?_)
    pointwise
    blk_point [iblk, V, idx t]
  · refine (pay4 _ _ x).trans (prod_lower m c t (x 0) _ (by blk_simp [idx t]; omega) _ _ fun k => ?_)
    pointwise
    blk_point [iblk, V, idx t]
  · refine (pay3 _ _ x).trans (prod_lower m c t (x 0) _ (by blk_simp [idx t]; omega) _ _ fun k => ?_)
    pointwise
    blk_point [iblk, V, idx t]
  · refine (pay2 _ _ x).trans (prod_lower m c t (x 0) _ (by blk_simp [idx t]; omega) _ _ fun k => ?_)
    pointwise
    blk_point [iblk, V, idx t]
  · refine (pay1 _ _ x).trans (prod_lower m c t (x 0) _ (by blk_simp [idx t]; omega) _ _ fun k => ?_)
    pointwise
    blk_point [iblk, V, idx t]
  · refine (pay19 _ _ _ _ _ _ _ x).trans (prod_lower m c t (x 0) _ (by blk_simp [idx t]; omega) _ _ fun k => ?_)
    pointwise
    blk_point [iblk, V, idx t]
  · refine (pay18 _ _ _ _ _ _ _ x).trans (prod_lower m c t (x 0) _ (by blk_simp [idx t]; omega) _ _ fun k => ?_)
    pointwise
    blk_point [iblk, V, idx t]
  · refine (pay14 _ _ x).trans (prod_upper m c t (x 0) _ (by blk_simp [idx t]; omega) _ _ fun k => ?_)
    pointwise
    blk_point [iblk, V, idx t]
  · refine (pay13 _ _ x).trans (prod_upper m c t (x 0) _ (by blk_simp [idx t]; omega) _ _ fun k => ?_)
    pointwise
    blk_point [iblk, V, idx t]
  · refine (pay12 _ _ x).trans (prod_upper m c t (x 0) _ (by blk_simp [idx t]; omega) _ _ fun k => ?_)
    pointwise
    blk_point [iblk, V, idx t]
  · refine (pay11 _ _ x).trans (prod_upper m c t (x 0) _ (by blk_simp [idx t]; omega) _ _ fun k => ?_)
    pointwise
    blk_point [iblk, V, idx t]
  · refine (pay10 _ _ x).trans (prod_upper m c t (x 0) _ (by blk_simp [idx t]; omega) _ _ fun k => ?_)
    pointwise
    blk_point [iblk, V, idx t]
  · refine (pay9 _ _ x).trans (prod_upper m c t (x 0) _ (by blk_simp [idx t]; omega) _ _ fun k => ?_)
    pointwise
    blk_point [iblk, V, idx t]
  · refine (pay8 _ _ _ _ _ x).trans (prod_upper m c t (x 0) _ (by blk_simp [idx t]; omega) _ _ fun k => ?_)
    pointwise
    blk_point [iblk, V, idx t]

end Cert.FwdIdeal.Final

end
-- ==== Proof.FwdClaim.lean ====
module

public import proofs.«01_k».proof.Defs
public import proofs.«01_k».proof.Proof.FwdValue
public import proofs.«01_k».proof.Proof.Gen.FwdRefIdeal.Run
public import Idealize.ShloMosaic.Lib.Claim

/-! The adaptive norm and the input projection: kernel and reference leave the same three arrays. -/

@[expose] public section

set_option maxRecDepth 16384

noncomputable section

namespace Cert.Proof

open Idealize.ShloMosaic Idealize.SL.Sem

set_option maxHeartbeats 1600000 in
/-- The adaptive norm and the input projection: kernel and reference leave the same three arrays. -/
theorem algebraic_Fwd : Cert.algebraic_FwdIdeal_FwdRefIdeal := by
  pair_intro
  · run_from Cert.FwdIdeal.Gen.run_main m g
  · run_from Cert.FwdRefIdeal.Value.run m' g'
    · exact (Cert.FwdIdeal.Final.final5 m c).symm
    · exact (Cert.FwdIdeal.Final.final6 m c).symm
    · exact (Cert.FwdIdeal.Final.final7 m c).symm

end Cert.Proof

end
-- ==== Proof.AdamStep.lean ====
module

public import Idealize.ShloMosaic.Lib.Pipeline.ValueKit
public import Idealize.ShloMosaic.Lib.Pointwise

/-! One entry of an AdamW step, over the extended reals: the new moments and the change of the weight. -/

@[expose] public section

noncomputable section

namespace Cert.AdamStep

open Idealize.ShloMosaic

/-- The new first moment. -/
def moment1 (g m : EReal) : EReal :=
  Ideal.ofBits .f32 0x3F666666#32 * m + Ideal.ofBits .f32 0x3DCCCCCD#32 * g

/-- The new second moment. -/
def moment2 (g v : EReal) : EReal :=
  Ideal.ofBits .f32 0x3F7FBE77#32 * v + Ideal.ofBits .f32 0x3A83126F#32 * (g * g)

/-- The change of the weight. -/
def delta (g w m v : EReal) : EReal :=
  Ideal.ofBits .f32 0xBA83126F#32
    * (Ideal.div (Ideal.div (moment1 g m) (Ideal.ofBits .f32 0x3F26BD02#32))
        (Ideal.sqrt (Ideal.div (moment2 g v) (Ideal.ofBits .f32 0x3C231ACC#32)) + Ideal.ofBits .f32 0x322BCC77#32)
      + Ideal.ofBits .f32 0x3C23D70A#32 * w)

/-- An entry summed over the devices; the term of the device `d` is its own. -/
def whole (d : BitVec 32) (own : EReal) (parts : Fin 8 → EReal) : EReal :=
  ∑ k : Fin 8, Scalar.select (IntOp.cmpi .eq (BitVec.ofNat 32 k.val) d) own (parts k)

/-- One entry of the loss, summed over the devices. -/
def loss (d : BitVec 32) (parts : FVec Ideal ⟨3, ![8, 1, 128]⟩ .f32) (own : FVec Ideal ⟨2, ![1, 128]⟩ .f32)
    (i : (⟨2, ![1, 128]⟩ : Shape).Idx) : EReal :=
  whole d (own i) fun k => parts (ix3 k 0 (i 1))

/-- An entry of a row is named by its column. -/
theorem row_eq {n : ℕ} (y : (⟨2, ![1, n]⟩ : Shape).Idx) : ix2 (0 : Fin 1) (y 1) = y :=
  funext fun a => match a with
    | ⟨0, _⟩ => Subsingleton.elim (α := Fin 1) _ _
    | ⟨1, _⟩ => rfl

/-- In a block that starts at the origin, an entry sits where it sits in the array. -/
theorem at_origin {start size x : ℕ} (h : start = 0) : start * size + 1 * x = x := by
  rw [h]
  omega

/-- The sum of eight devices' terms, in the order of the devices. -/
theorem sum_eight (p : Fin 8 → EReal) :
    p 0 + p 1 + p 2 + p 3 + p 4 + p 5 + p 6 + p 7 = ∑ k, p k := (Fin.sum_univ_eight p).symm

/-- Equality of two words does not depend on their order. -/
theorem cmpi_comm (d k : BitVec 32) : Scalar.cmpi .eq d k = IntOp.cmpi .eq k d := by
  show BitVec.ofBool (d == k) = BitVec.ofBool (k == d)
  rw [BEq.comm]

/-- Where the device's own term is chosen, it may be named by the term's number. -/
theorem select_own (k d : BitVec 32) {a b : EReal} (c : EReal) (h : d = k → a = b) :
    Scalar.select (IntOp.cmpi .eq k d) a c = Scalar.select (IntOp.cmpi .eq k d) b c := by
  by_cases e : d = k
  · rw [h e]
  · have : IntOp.cmpi .eq k d = 0#1 := by
      simp [IntOp.cmpi, beq_eq_false_iff_ne.2 (show k ≠ d from fun e' => e e'.symm)]
    rw [this]
    rfl

/-- A word that is at least 0 and below 8 as a signed number is below 8 as a natural one. -/
theorem device_lt {d : BitVec 32} (h : IntOp.andi (IntOp.cmpi .sge d 0#32) (IntOp.cmpi .slt d 8#32) = 1#1) : d.toNat < 8 := by
  have b : ∀ p q : Bool, BitVec.ofBool p &&& BitVec.ofBool q = 1#1 → p = true ∧ q = true := by decide
  obtain ⟨h0, h8⟩ := b _ _ h
  have h0 : (0#32).toInt ≤ d.toInt := by simpa [BitVec.sle] using h0
  have h8 : d.toInt < (8#32).toInt := by simpa [BitVec.slt] using h8
  have e := BitVec.toInt_eq_toNat_cond d
  have z : (0#32).toInt = 0 := rfl
  have w : (8#32).toInt = 8 := rfl
  have l := d.isLt
  split at e <;> omega

end Cert.AdamStep

end
-- ==== Proof.AdamConvValue.lean ====
module

public import proofs.«01_k».proof.Proof.Gen.AdamConvIdeal.Value
public import proofs.«01_k».proof.Proof.Gen.AdamConvRefIdeal.Read
public import proofs.«01_k».proof.Proof.AdamStep

/-! The AdamW step of the convolution's weight: the kernel's four result arrays are the reference's terms. -/

@[expose] public section

set_option maxRecDepth 16384

noncomputable section

namespace Cert.AdamConvIdeal.Final

open Idealize.ShloMosaic Idealize.ShloMosaic.TcCoe Idealize.SL.Sem
open Idealize.ShloMosaic.Pipeline (Dat)
open Cert.AdamConvIdeal Cert.AdamConvIdeal.Gen Cert.AdamStep

/-- One entry of the gradient: the sum of the devices' terms. -/
def grad (p : FVec Ideal S8x4x128 .f32) (i : S4x128.Idx) : EReal := ∑ k : Fin 8, p (ix3 k (i 0) (i 1))

theorem ref4 (p : FVec Ideal S8x4x128 .f32) (i : S4x128.Idx) :
    Cert.AdamConvRefIdeal.Read.val_main_v0 (F := Ideal) p i = grad p i := by
  simp only [← Cert.AdamConvRefIdeal.Read.val_main_v0_eq]
  pointwise [grad]

theorem ref6 (p : FVec Ideal S8x4x128 .f32) (m : FVec Ideal S4x128 .f32) (i : S4x128.Idx) :
    Cert.AdamConvRefIdeal.Read.val_main_v5 (F := Ideal) p m i = moment1 (grad p i) (m i) := by
  simp only [← Cert.AdamConvRefIdeal.Read.val_main_v5_eq]
  pointwise [grad, moment1]

theorem ref7 (p : FVec Ideal S8x4x128 .f32) (v : FVec Ideal S4x128 .f32) (i : S4x128.Idx) :
    Cert.AdamConvRefIdeal.Read.val_main_v11 (F := Ideal) p v i = moment2 (grad p i) (v i) := by
  simp only [← Cert.AdamConvRefIdeal.Read.val_main_v11_eq]
  pointwise [grad, moment2]

theorem ref5 (p : FVec Ideal S8x4x128 .f32) (w m v : FVec Ideal S4x128 .f32) (i : S4x128.Idx) :
    Cert.AdamConvRefIdeal.Read.val_main_v24 (F := Ideal) p w m v i = delta (grad p i) (w i) (m i) (v i) := by
  simp only [← Cert.AdamConvRefIdeal.Read.val_main_v24_eq]
  pointwise [grad, delta, moment1, moment2]

theorem gkernel (p : FVec Ideal S8x4x128 .f32) (w m v : FVec Ideal S4x128 .f32) (i : S4x128.Idx) :
    k0_pay6 (F := Ideal) p w m v i = grad p i := by
  unfold grad
  rw [← sum_eight]
  pointwise [k0_pay6, k0_pay4]

theorem kernel6 (g m : FVec Ideal S4x128 .f32) (i : S4x128.Idx) :
    k0_pay1 (F := Ideal) g m (k0_pay5 (F := Ideal)) i = moment1 (g i) (m i) := by
  pointwise [k0_pay1, k0_pay5, moment1]

theorem kernel7 (g v : FVec Ideal S4x128 .f32) (i : S4x128.Idx) :
    k0_pay2 (F := Ideal) g v i = moment2 (g i) (v i) := by
  pointwise [k0_pay2, moment2]

theorem kernel5 (g w m v : FVec Ideal S4x128 .f32) (i : S4x128.Idx) :
    k0_pay3 (F := Ideal) g w m v (k0_pay5 (F := Ideal)) i = delta (g i) (w i) (m i) (v i) := by
  pointwise [k0_pay3, k0_pay1, k0_pay2, k0_pay5, delta, moment1, moment2]

variable (m : (ℓ : Loc nD τ sig) → Buf (Elt Ideal) ℓ)

theorem final4 (c : Dev nD) : (dats m 0 c).arrAt 4 (cfgs 0).N
    = Cert.AdamConvRefIdeal.Read.val_main_v0 (F := Ideal) (m ((c : Thread nD τ).loc main_arg0)) :=
  (Value.final4 m c).trans (funext fun i => (gkernel _ _ _ _ i).trans (ref4 _ i).symm)

theorem final5 (c : Dev nD) : (dats m 0 c).arrAt 5 (cfgs 0).N
    = Cert.AdamConvRefIdeal.Read.val_main_v24 (F := Ideal) (m ((c : Thread nD τ).loc main_arg0))
        (m ((c : Thread nD τ).loc main_arg1)) (m ((c : Thread nD τ).loc main_arg2)) (m ((c : Thread nD τ).loc main_arg3)) :=
  (Value.final5 m c).trans (funext fun i => (kernel5 _ _ _ _ i).trans (by rw [gkernel, ref5]))

theorem final6 (c : Dev nD) : (dats m 0 c).arrAt 6 (cfgs 0).N
    = Cert.AdamConvRefIdeal.Read.val_main_v5 (F := Ideal) (m ((c : Thread nD τ).loc main_arg0))
        (m ((c : Thread nD τ).loc main_arg2)) :=
  (Value.final6 m c).trans (funext fun i => (kernel6 _ _ i).trans (by rw [gkernel, ref6]))

theorem final7 (c : Dev nD) : (dats m 0 c).arrAt 7 (cfgs 0).N
    = Cert.AdamConvRefIdeal.Read.val_main_v11 (F := Ideal) (m ((c : Thread nD τ).loc main_arg0))
        (m ((c : Thread nD τ).loc main_arg3)) :=
  (Value.final7 m c).trans (funext fun i => (kernel7 _ _ i).trans (by rw [gkernel, ref7]))

end Cert.AdamConvIdeal.Final

end
-- ==== Proof.AdamConvClaim.lean ====
module

public import proofs.«01_k».proof.Defs
public import proofs.«01_k».proof.Proof.AdamConvValue
public import proofs.«01_k».proof.Proof.Gen.AdamConvRefIdeal.Run
public import Idealize.ShloMosaic.Lib.Claim

/-! The AdamW step of the convolution's weight: kernel and reference leave the same four arrays. -/

@[expose] public section

set_option maxRecDepth 16384

noncomputable section

namespace Cert.Proof

open Idealize.ShloMosaic Idealize.SL.Sem

set_option maxHeartbeats 1600000 in
/-- The AdamW step of the convolution's weight: kernel and reference leave the same four arrays. -/
theorem algebraic_AdamConv : Cert.algebraic_AdamConvIdeal_AdamConvRefIdeal := by
  pair_intro
  · run_from Cert.AdamConvIdeal.Gen.run_main m g
  · run_from Cert.AdamConvRefIdeal.Value.run m' g'
    · exact (Cert.AdamConvIdeal.Final.final4 m c).symm
    · exact (Cert.AdamConvIdeal.Final.final5 m c).symm
    · exact (Cert.AdamConvIdeal.Final.final6 m c).symm
    · exact (Cert.AdamConvIdeal.Final.final7 m c).symm

end Cert.Proof

end
-- ==== Proof.AdamAdaValue.lean ====
module

public import proofs.«01_k».proof.Proof.Gen.AdamAdaIdeal.Value
public import proofs.«01_k».proof.Proof.Gen.AdamAdaRefIdeal.Read
public import proofs.«01_k».proof.Proof.AdamStep

/-! The AdamW step of the modulation's weight: the kernel's four result arrays are the reference's terms. -/

@[expose] public section

set_option maxRecDepth 16384

noncomputable section

namespace Cert.AdamAdaIdeal.Final

open Idealize.ShloMosaic Idealize.ShloMosaic.TcCoe Idealize.SL.Sem
open Idealize.ShloMosaic.Pipeline (Dat)
open Cert.AdamAdaIdeal Cert.AdamAdaIdeal.Gen Cert.AdamStep

/-- One entry of the gradient: the product summed over the batch's sequences. -/
def grad (s : FVec Ideal S16x1024 .f32) (d : FVec Ideal S16x384 .f32) (i : S1024x384.Idx) : EReal :=
  ∑ k : Fin 16, s (ix2 k (i 0)) * d (ix2 k (i 1))

theorem ref5 (s : FVec Ideal S16x1024 .f32) (d : FVec Ideal S16x384 .f32) (i : S1024x384.Idx) :
    Cert.AdamAdaRefIdeal.Read.val_main_v1 (F := Ideal) s d i = grad s d i := by
  simp only [← Cert.AdamAdaRefIdeal.Read.val_main_v1_eq]
  pointwise [grad]

theorem ref7 (s : FVec Ideal S16x1024 .f32) (d : FVec Ideal S16x384 .f32) (m : FVec Ideal S1024x384 .f32) (i : S1024x384.Idx) :
    Cert.AdamAdaRefIdeal.Read.val_main_v6 (F := Ideal) s d m i = moment1 (grad s d i) (m i) := by
  simp only [← Cert.AdamAdaRefIdeal.Read.val_main_v6_eq]
  pointwise [grad, moment1]

theorem ref8 (s : FVec Ideal S16x1024 .f32) (d : FVec Ideal S16x384 .f32) (v : FVec Ideal S1024x384 .f32) (i : S1024x384.Idx) :
    Cert.AdamAdaRefIdeal.Read.val_main_v12 (F := Ideal) s d v i = moment2 (grad s d i) (v i) := by
  simp only [← Cert.AdamAdaRefIdeal.Read.val_main_v12_eq]
  pointwise [grad, moment2]

theorem ref6 (s : FVec Ideal S16x1024 .f32) (d : FVec Ideal S16x384 .f32) (w m v : FVec Ideal S1024x384 .f32) (i : S1024x384.Idx) :
    Cert.AdamAdaRefIdeal.Read.val_main_v25 (F := Ideal) s d w m v i = delta (grad s d i) (w i) (m i) (v i) := by
  simp only [← Cert.AdamAdaRefIdeal.Read.val_main_v25_eq]
  pointwise [grad, delta, moment1, moment2]

theorem kernel5 (s : FVec Ideal S16x1024 .f32) (d : FVec Ideal S16x384 .f32) (i : S1024x384.Idx) :
    k0_pay1 (F := Ideal) s d i = grad s d i := by
  pointwise [k0_pay1, grad]

theorem kernel7 (s : FVec Ideal S16x1024 .f32) (d : FVec Ideal S16x384 .f32) (m : FVec Ideal S1024x384 .f32) (i : S1024x384.Idx) :
    k0_pay2 (F := Ideal) s d m i = moment1 (grad s d i) (m i) := by
  rw [← kernel5]
  pointwise [k0_pay2, moment1]

theorem kernel8 (s : FVec Ideal S16x1024 .f32) (d : FVec Ideal S16x384 .f32) (v : FVec Ideal S1024x384 .f32) (i : S1024x384.Idx) :
    k0_pay3 (F := Ideal) s d v i = moment2 (grad s d i) (v i) := by
  rw [← kernel5]
  pointwise [k0_pay3, moment2]

theorem kernel6 (s : FVec Ideal S16x1024 .f32) (d : FVec Ideal S16x384 .f32) (w m v : FVec Ideal S1024x384 .f32) (i : S1024x384.Idx) :
    k0_pay4 (F := Ideal) s d w m v i = delta (grad s d i) (w i) (m i) (v i) := by
  unfold delta
  rw [← kernel7, ← kernel8]
  pointwise [k0_pay4]

variable (m : (ℓ : Loc nD τ sig) → Buf (Elt Ideal) ℓ)

theorem final5 (c : Dev nD) : (dats m 0 c).arrAt 5 (cfgs 0).N
    = Cert.AdamAdaRefIdeal.Read.val_main_v1 (F := Ideal) (m ((c : Thread nD τ).loc main_arg0))
        (m ((c : Thread nD τ).loc main_arg1)) :=
  (Value.final5 m c).trans (funext fun i => (kernel5 _ _ i).trans (ref5 _ _ i).symm)

theorem final6 (c : Dev nD) : (dats m 0 c).arrAt 6 (cfgs 0).N
    = Cert.AdamAdaRefIdeal.Read.val_main_v25 (F := Ideal) (m ((c : Thread nD τ).loc main_arg0))
        (m ((c : Thread nD τ).loc main_arg1))
        (m ((c : Thread nD τ).loc main_arg2))
        (m ((c : Thread nD τ).loc main_arg3))
        (m ((c : Thread nD τ).loc main_arg4)) :=
  (Value.final6 m c).trans (funext fun i => (kernel6 _ _ _ _ _ i).trans (ref6 _ _ _ _ _ i).symm)

theorem final7 (c : Dev nD) : (dats m 0 c).arrAt 7 (cfgs 0).N
    = Cert.AdamAdaRefIdeal.Read.val_main_v6 (F := Ideal) (m ((c : Thread nD τ).loc main_arg0))
        (m ((c : Thread nD τ).loc main_arg1))
        (m ((c : Thread nD τ).loc main_arg3)) :=
  (Value.final7 m c).trans (funext fun i => (kernel7 _ _ _ i).trans (ref7 _ _ _ i).symm)

theorem final8 (c : Dev nD) : (dats m 0 c).arrAt 8 (cfgs 0).N
    = Cert.AdamAdaRefIdeal.Read.val_main_v12 (F := Ideal) (m ((c : Thread nD τ).loc main_arg0))
        (m ((c : Thread nD τ).loc main_arg1))
        (m ((c : Thread nD τ).loc main_arg4)) :=
  (Value.final8 m c).trans (funext fun i => (kernel8 _ _ _ i).trans (ref8 _ _ _ i).symm)

end Cert.AdamAdaIdeal.Final

end
-- ==== Proof.AdamAdaClaim.lean ====
module

public import proofs.«01_k».proof.Defs
public import proofs.«01_k».proof.Proof.AdamAdaValue
public import proofs.«01_k».proof.Proof.Gen.AdamAdaRefIdeal.Run
public import Idealize.ShloMosaic.Lib.Claim

/-! The AdamW step of the modulation's weight: kernel and reference leave the same four arrays. -/

@[expose] public section

set_option maxRecDepth 16384

noncomputable section

namespace Cert.Proof

open Idealize.ShloMosaic Idealize.SL.Sem

set_option maxHeartbeats 1600000 in
/-- The AdamW step of the modulation's weight: kernel and reference leave the same four arrays. -/
theorem algebraic_AdamAda : Cert.algebraic_AdamAdaIdeal_AdamAdaRefIdeal := by
  pair_intro
  · run_from Cert.AdamAdaIdeal.Gen.run_main m g
  · run_from Cert.AdamAdaRefIdeal.Value.run m' g'
    · exact (Cert.AdamAdaIdeal.Final.final5 m c).symm
    · exact (Cert.AdamAdaIdeal.Final.final6 m c).symm
    · exact (Cert.AdamAdaIdeal.Final.final7 m c).symm
    · exact (Cert.AdamAdaIdeal.Final.final8 m c).symm

end Cert.Proof

end
-- ==== Proof.AdamRowValue.lean ====
module

public import proofs.«01_k».proof.Proof.Gen.AdamRowIdeal.Frame
public import proofs.«01_k».proof.Proof.Gen.AdamRowRefIdeal.Read
public import proofs.«01_k».proof.Proof.AdamStep

/-! The AdamW step of a row of 1024 entries, and the loss: what the kernel's run leaves in its five arrays. -/

@[expose] public section

set_option maxRecDepth 16384

noncomputable section

namespace Cert.AdamRowIdeal.Final

open Idealize.ShloMosaic Idealize.ShloMosaic.TcCoe Idealize.SL.Sem
open Idealize.ShloMosaic.Pipeline (Dat)
open Cert.AdamRowIdeal Cert.AdamRowIdeal.Gen Cert.AdamStep

/-- One entry of the whole gradient: the sum of the devices' terms, the device's own taken from its own array. -/
def grad (d : BitVec 32) (parts : FVec Ideal S8x1x1024 .f32) (own : FVec Ideal S1x1024 .f32) (i : S1x1024.Idx) : EReal :=
  whole d (own i) fun k => parts (ix3 k 0 (i 1))

theorem ref_grad (d : IVec S1 32) (parts : FVec Ideal S8x1x1024 .f32) (own : FVec Ideal S1x1024 .f32) (y : S1x1024.Idx) :
    Cert.AdamRowRefIdeal.Read.val_main_v6 (F := Ideal) d parts own y = grad (d (ix1 0)) parts own y := by
  simp only [← Cert.AdamRowRefIdeal.Read.val_main_v6_eq]
  pointwise [grad, whole, row_eq y]

theorem ref_loss (d : IVec S1 32) (parts : FVec Ideal S8x1x128 .f32) (own : FVec Ideal S1x128 .f32) (y : S1x128.Idx) :
    Cert.AdamRowRefIdeal.Read.val_main_v37 (F := Ideal) d parts own y = loss (d (ix1 0)) parts own y := by
  simp only [← Cert.AdamRowRefIdeal.Read.val_main_v37_eq]
  pointwise [loss, whole, row_eq y]

theorem ref_delta (d : IVec S1 32) (parts : FVec Ideal S8x1x1024 .f32) (own : FVec Ideal S1x1024 .f32) (w v1 v2 : FVec Ideal S1x1024 .f32) (y : S1x1024.Idx) :
    Cert.AdamRowRefIdeal.Read.val_main_v30 (F := Ideal) d parts own w v1 v2 y = delta (grad (d (ix1 0)) parts own y) (w y) (v1 y) (v2 y) := by
  simp only [← ref_grad]
  simp only [← Cert.AdamRowRefIdeal.Read.val_main_v30_eq, ← Cert.AdamRowRefIdeal.Read.val_main_v6_eq]
  pointwise [delta, moment1, moment2]

theorem ref_moment1 (d : IVec S1 32) (parts : FVec Ideal S8x1x1024 .f32) (own : FVec Ideal S1x1024 .f32) (v : FVec Ideal S1x1024 .f32) (y : S1x1024.Idx) :
    Cert.AdamRowRefIdeal.Read.val_main_v11 (F := Ideal) d parts own v y = moment1 (grad (d (ix1 0)) parts own y) (v y) := by
  simp only [← ref_grad]
  simp only [← Cert.AdamRowRefIdeal.Read.val_main_v11_eq, ← Cert.AdamRowRefIdeal.Read.val_main_v6_eq]
  pointwise [moment1]

theorem ref_moment2 (d : IVec S1 32) (parts : FVec Ideal S8x1x1024 .f32) (own : FVec Ideal S1x1024 .f32) (v : FVec Ideal S1x1024 .f32) (y : S1x1024.Idx) :
    Cert.AdamRowRefIdeal.Read.val_main_v17 (F := Ideal) d parts own v y = moment2 (grad (d (ix1 0)) parts own y) (v y) := by
  simp only [← ref_grad]
  simp only [← Cert.AdamRowRefIdeal.Read.val_main_v17_eq, ← Cert.AdamRowRefIdeal.Read.val_main_v6_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- One device's terms, as the kernel loads them. -/
abbrev term (parts : FVec Ideal S8x1x1024 .f32) (k : ℕ) (h : ∀ a, (![k, 0, 0] : Fin 3 → ℕ) a + S1x1x1024.size a ≤ S8x1x1024.size a) : FVec Ideal S1x1x1024 .f32 :=
  View.ld (Val := Elt Ideal) (e' := .f32) parts (Rect.unit ![k, 0, 0] ![1, 1, 1024] h)

/-- The gradient as the kernel adds it up, from the device's number, the others' terms and its own. -/
def ksum (d : BitVec 32) (parts : FVec Ideal S8x1x1024 .f32) (own : FVec Ideal S1x1024 .f32) : FVec Ideal S1x1024 .f32 :=
  k0_pay3 (k0_pay2 d own (term parts 0 inb_S8x1x1024_S1x1x1024_0_0_0)
      d own (term parts 1 inb_S8x1x1024_S1x1x1024_1_0_0)
      d own (term parts 2 inb_S8x1x1024_S1x1x1024_2_0_0)
      d own (term parts 3 inb_S8x1x1024_S1x1x1024_3_0_0))
    (Scalar.cmpi .eq d 4#32) own (term parts 4 inb_S8x1x1024_S1x1x1024_4_0_0)
    d own (term parts 5 inb_S8x1x1024_S1x1x1024_5_0_0)
    d own (term parts 6 inb_S8x1x1024_S1x1x1024_6_0_0)
    d own (term parts 7 inb_S8x1x1024_S1x1x1024_7_0_0)

theorem ksum_apply (d : BitVec 32) (parts : FVec Ideal S8x1x1024 .f32) (own : FVec Ideal S1x1024 .f32) (y : S1x1024.Idx) :
    ksum d parts own y = grad d parts own y := by
  rw [grad, whole, Fin.sum_univ_eight]
  pointwise [ksum, term, k0_pay3, k0_pay2]
  simp only [cmpi_comm d]

/-- One device's terms of the loss, as the kernel loads them. -/
abbrev lossTerm (parts : FVec Ideal S8x1x128 .f32) (k : ℕ) (h : ∀ a, (![k, 0, 0] : Fin 3 → ℕ) a + S1x1x128.size a ≤ S8x1x128.size a) : FVec Ideal S1x1x128 .f32 :=
  View.ld (Val := Elt Ideal) (e' := .f32) parts (Rect.unit ![k, 0, 0] ![1, 1, 128] h)

/-- The loss as the kernel adds it up. -/
def kloss (d : BitVec 32) (parts : FVec Ideal S8x1x128 .f32) (own : FVec Ideal S1x128 .f32) : FVec Ideal S1x128 .f32 :=
  k0_pay1 (k0_pay7 (Scalar.cmpi .eq d 0#32) own (lossTerm parts 0 inb_S8x1x128_S1x1x128_0_0_0)
      d own (lossTerm parts 1 inb_S8x1x128_S1x1x128_1_0_0)
      d own (lossTerm parts 2 inb_S8x1x128_S1x1x128_2_0_0)
      d own (lossTerm parts 3 inb_S8x1x128_S1x1x128_3_0_0)
      d own (lossTerm parts 4 inb_S8x1x128_S1x1x128_4_0_0))
    d own (lossTerm parts 5 inb_S8x1x128_S1x1x128_5_0_0)
    d own (lossTerm parts 6 inb_S8x1x128_S1x1x128_6_0_0)
    d own (lossTerm parts 7 inb_S8x1x128_S1x1x128_7_0_0)

theorem kloss_apply (d : BitVec 32) (parts : FVec Ideal S8x1x128 .f32) (own : FVec Ideal S1x128 .f32) (y : S1x128.Idx) :
    kloss d parts own y = loss d parts own y := by
  rw [loss, whole, Fin.sum_univ_eight]
  pointwise [kloss, lossTerm, k0_pay1, k0_pay7]
  simp only [cmpi_comm d]

theorem pay_moment1 (s : FVec Ideal S1x1024 .f32) (v : FVec Ideal S1x1024 .f32) (y : S1x1024.Idx) :
    k0_pay4 (F := Ideal) s v y = moment1 (s y) (v y) := by
  pointwise [k0_pay4, moment1]

theorem pay_moment2 (s : FVec Ideal S1x1024 .f32) (v : FVec Ideal S1x1024 .f32) (y : S1x1024.Idx) :
    k0_pay5 (F := Ideal) s v y = moment2 (s y) (v y) := by
  pointwise [k0_pay5, moment2]

theorem pay_delta (s : FVec Ideal S1x1024 .f32) (w v v' : FVec Ideal S1x1024 .f32) (y : S1x1024.Idx) :
    k0_pay6 (F := Ideal) s w v v' y = delta (s y) (w y) (v y) (v' y) := by
  pointwise [k0_pay6, delta, ← pay_moment1 s v y, ← pay_moment2 s v' y]

/-- The grid's one point. -/
abbrev pt : Fin grid0.N := ⟨0, by decide⟩

theorem whole7 (hO : Ok m) : ((cfgM m hO).win 7).WholeAt pt :=
  ⟨flush0_7 _ _, fun t _ => Subsingleton.elim (α := Fin 1) _ _, fun a => ⟨(by decide +kernel :
    ∀ a : Fin 2, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 2, cc0_transform_8 (grid0.coords pt) a = 0) a, by fin_cases a <;> rfl⟩⟩

theorem whole9 (hO : Ok m) : ((cfgM m hO).win 9).WholeAt pt :=
  ⟨flush0_9 _ _, fun t _ => Subsingleton.elim (α := Fin 1) _ _, fun a => ⟨(by decide +kernel :
    ∀ a : Fin 2, cc0_transform_9 (grid0.coords pt) a = 0) a, by fin_cases a <;> rfl⟩⟩

theorem whole10 (hO : Ok m) : ((cfgM m hO).win 10).WholeAt pt :=
  ⟨flush0_10 _ _, fun t _ => Subsingleton.elim (α := Fin 1) _ _, fun a => ⟨(by decide +kernel :
    ∀ a : Fin 2, cc0_transform_10 (grid0.coords pt) a = 0) a, by fin_cases a <;> rfl⟩⟩

theorem whole11 (hO : Ok m) : ((cfgM m hO).win 11).WholeAt pt :=
  ⟨flush0_11 _ _, fun t _ => Subsingleton.elim (α := Fin 1) _ _, fun a => ⟨(by decide +kernel :
    ∀ a : Fin 2, cc0_transform_11 (grid0.coords pt) a = 0) a, by fin_cases a <;> rfl⟩⟩

theorem read0 (hO : Ok m) (c : Dev nD) : View.read (Elt Ideal) (ms0_0 m hO pt).view ((hs0_0 m hO pt).unread (iblk m hO c 0 pt))
    = m ((c : Thread nD τ).loc main_arg1) := by
  refine (Memref.IsWhole.read_unread (hs0_0 m hO pt) (iblk m hO c 0 pt)).trans (funext fun (x : S8x1x1024.Idx) => ?_)
  exact congrArg (m ((c : Thread nD τ).loc main_arg1)) (funext fun a => Fin.ext
    (at_origin ((by decide +kernel : ∀ a, cc0_transform_0 (grid0.coords pt) a = 0) a)))

theorem read1 (hO : Ok m) (c : Dev nD) : View.read (Elt Ideal) (ms0_1 m hO pt).view ((hs0_1 m hO pt).unread (iblk m hO c 1 pt))
    = m ((c : Thread nD τ).loc main_arg2) := by
  refine (Memref.IsWhole.read_unread (hs0_1 m hO pt) (iblk m hO c 1 pt)).trans (funext fun (x : S8x1x128.Idx) => ?_)
  exact congrArg (m ((c : Thread nD τ).loc main_arg2)) (funext fun a => Fin.ext
    (at_origin ((by decide +kernel : ∀ a, cc0_transform_1 (grid0.coords pt) a = 0) a)))

theorem read2 (hO : Ok m) (c : Dev nD) : View.read (Elt Ideal) (ms0_2 m hO pt).view ((hs0_2 m hO pt).unread (iblk m hO c 2 pt))
    = m ((c : Thread nD τ).loc main_arg3) := by
  refine (Memref.IsWhole.read_unread (hs0_2 m hO pt) (iblk m hO c 2 pt)).trans (funext fun (x : S1x1024.Idx) => ?_)
  exact congrArg (m ((c : Thread nD τ).loc main_arg3)) (funext fun a => Fin.ext
    (at_origin ((by decide +kernel : ∀ a, cc0_transform_2 (grid0.coords pt) a = 0) a)))

theorem read3 (hO : Ok m) (c : Dev nD) : View.read (Elt Ideal) (ms0_3 m hO pt).view ((hs0_3 m hO pt).unread (iblk m hO c 3 pt))
    = m ((c : Thread nD τ).loc main_arg4) := by
  refine (Memref.IsWhole.read_unread (hs0_3 m hO pt) (iblk m hO c 3 pt)).trans (funext fun (x : S1x128.Idx) => ?_)
  exact congrArg (m ((c : Thread nD τ).loc main_arg4)) (funext fun a => Fin.ext
    (at_origin ((by decide +kernel : ∀ a, cc0_transform_3 (grid0.coords pt) a = 0) a)))

theorem read4 (hO : Ok m) (c : Dev nD) : View.read (Elt Ideal) (ms0_4 m hO pt).view ((hs0_4 m hO pt).unread (iblk m hO c 4 pt))
    = m ((c : Thread nD τ).loc main_arg5) := by
  refine (Memref.IsWhole.read_unread (hs0_4 m hO pt) (iblk m hO c 4 pt)).trans (funext fun (x : S1x1024.Idx) => ?_)
  exact congrArg (m ((c : Thread nD τ).loc main_arg5)) (funext fun a => Fin.ext
    (at_origin ((by decide +kernel : ∀ a, cc0_transform_4 (grid0.coords pt) a = 0) a)))

theorem read5 (hO : Ok m) (c : Dev nD) : View.read (Elt Ideal) (ms0_5 m hO pt).view ((hs0_5 m hO pt).unread (iblk m hO c 5 pt))
    = m ((c : Thread nD τ).loc main_arg6) := by
  refine (Memref.IsWhole.read_unread (hs0_5 m hO pt) (iblk m hO c 5 pt)).trans (funext fun (x : S1x1024.Idx) => ?_)
  exact congrArg (m ((c : Thread nD τ).loc main_arg6)) (funext fun a => Fin.ext
    (at_origin ((by decide +kernel : ∀ a, cc0_transform_5 (grid0.coords pt) a = 0) a)))

theorem read6 (hO : Ok m) (c : Dev nD) : View.read (Elt Ideal) (ms0_6 m hO pt).view ((hs0_6 m hO pt).unread (iblk m hO c 6 pt))
    = m ((c : Thread nD τ).loc main_arg7) := by
  refine (Memref.IsWhole.read_unread (hs0_6 m hO pt) (iblk m hO c 6 pt)).trans (funext fun (x : S1x1024.Idx) => ?_)
  exact congrArg (m ((c : Thread nD τ).loc main_arg7)) (funext fun a => Fin.ext
    (at_origin ((by decide +kernel : ∀ a, cc0_transform_6 (grid0.coords pt) a = 0) a)))

/-- What the kernel adds up of its staging buffers is the gradient. -/
theorem ksum_read (hO : Ok m) (c : Dev nD) (y : S1x1024.Idx) : ksum (dev m c)
    (View.read (Elt Ideal) (ms0_0 m hO pt).view ((hs0_0 m hO pt).unread (iblk m hO c 0 pt)))
    (View.read (Elt Ideal) (ms0_2 m hO pt).view ((hs0_2 m hO pt).unread (iblk m hO c 2 pt))) y
      = grad (dev m c) (m ((c : Thread nD τ).loc main_arg1)) (m ((c : Thread nD τ).loc main_arg3)) y :=
  (congrFun (congrArg₂ (ksum (dev m c)) (read0 m hO c) (read2 m hO c)) y).trans (ksum_apply _ _ _ y)

theorem after7 (hO : Ok m) (c : Dev nD) (y : S1x1024.Idx) : (outsAt0 m hO c pt).1 y = grad (dev m c) (m ((c : Thread nD τ).loc main_arg1)) (m ((c : Thread nD τ).loc main_arg3)) y := by
  unfold outsAt0
  dsimp only
  frame_out
  simp only [kdev m hO c]
  exact ksum_read m hO c y

theorem after8 (hO : Ok m) (c : Dev nD) (y : S1x1024.Idx) : (outsAt0 m hO c pt).2.1 y
    = delta (grad (dev m c) (m ((c : Thread nD τ).loc main_arg1)) (m ((c : Thread nD τ).loc main_arg3)) y) (m ((c : Thread nD τ).loc main_arg5) y) (m ((c : Thread nD τ).loc main_arg6) y) (m ((c : Thread nD τ).loc main_arg7) y) := by
  unfold outsAt0
  dsimp only
  frame_out
  simp only [kdev m hO c]
  exact (pay_delta _ _ _ _ y).trans (congr (congr (congrArg₂ delta (ksum_read m hO c y) (congrFun (read4 m hO c) y))
    (congrFun (read5 m hO c) y)) (congrFun (read6 m hO c) y))

theorem after9 (hO : Ok m) (c : Dev nD) (y : S1x1024.Idx) : (outsAt0 m hO c pt).2.2.1 y
    = moment1 (grad (dev m c) (m ((c : Thread nD τ).loc main_arg1)) (m ((c : Thread nD τ).loc main_arg3)) y) (m ((c : Thread nD τ).loc main_arg6) y) := by
  unfold outsAt0
  dsimp only
  frame_out
  simp only [kdev m hO c]
  exact (pay_moment1 _ _ y).trans (congrArg₂ moment1 (ksum_read m hO c y) (congrFun (read5 m hO c) y))

theorem after10 (hO : Ok m) (c : Dev nD) (y : S1x1024.Idx) : (outsAt0 m hO c pt).2.2.2.1 y
    = moment2 (grad (dev m c) (m ((c : Thread nD τ).loc main_arg1)) (m ((c : Thread nD τ).loc main_arg3)) y) (m ((c : Thread nD τ).loc main_arg7) y) := by
  unfold outsAt0
  dsimp only
  frame_out
  simp only [kdev m hO c]
  exact (pay_moment2 _ _ y).trans (congrArg₂ moment2 (ksum_read m hO c y) (congrFun (read6 m hO c) y))

theorem after11 (hO : Ok m) (c : Dev nD) (y : S1x128.Idx) : (outsAt0 m hO c pt).2.2.2.2 y
    = loss (dev m c) (m ((c : Thread nD τ).loc main_arg2)) (m ((c : Thread nD τ).loc main_arg4)) y := by
  unfold outsAt0
  dsimp only
  frame_out
  simp only [kdev m hO c]
  exact (congrFun (congrArg₂ (kloss (dev m c)) (read1 m hO c) (read3 m hO c)) y).trans (kloss_apply _ _ _ y)

/-- The kernel's run ends with the reference's values in its five arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamRowRefIdeal.Read.val_main_v6 (F := Ideal) (m ((c : Thread nD τ).loc main_arg0)) (m ((c : Thread nD τ).loc main_arg1)) (m ((c : Thread nD τ).loc main_arg3))
      ∧ r.2.mem ((c.tc : Thread nD τ).loc main_v0_1)
        = Cert.AdamRowRefIdeal.Read.val_main_v30 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))
      ∧ r.2.mem ((c.tc : Thread nD τ).loc main_v0_2)
        = Cert.AdamRowRefIdeal.Read.val_main_v11 (F := Ideal) (m ((c : Thread nD τ).loc main_arg0)) (m ((c : Thread nD τ).loc main_arg1)) (m ((c : Thread nD τ).loc main_arg3)) (m ((c : Thread nD τ).loc main_arg6))
      ∧ r.2.mem ((c.tc : Thread nD τ).loc main_v0_3)
        = Cert.AdamRowRefIdeal.Read.val_main_v17 (F := Ideal) (m ((c : Thread nD τ).loc main_arg0)) (m ((c : Thread nD τ).loc main_arg1)) (m ((c : Thread nD τ).loc main_arg3)) (m ((c : Thread nD τ).loc main_arg7))
      ∧ r.2.mem ((c.tc : Thread nD τ).loc main_v0_4)
        = Cert.AdamRowRefIdeal.Read.val_main_v37 (F := Ideal) (m ((c : Thread nD τ).loc main_arg0)) (m ((c : Thread nD τ).loc main_arg2)) (m ((c : Thread nD τ).loc main_arg4))) := by
  refine (θ_run _ _ _).mono (fun r h c => ⟨?_, ?_, ?_, ?_, ?_⟩) (run_main m ρ hO)
  · exact ((h c).1 7).trans ((dats m hO 0 c).arrAt_eq_of_after_last 7 pt (whole7 m hO) _ fun y =>
      (congrFun (after0_7 m hO c pt) y).trans ((after7 m hO c y).trans (ref_grad _ _ _ y).symm))
  · exact ((h c).1 8).trans ((dats m hO 0 c).arrAt_eq_of_after_last 8 pt (whole8 m hO) _ fun y =>
      (congrFun (after0_8 m hO c pt) y).trans ((after8 m hO c y).trans (ref_delta _ _ _ _ _ _ y).symm))
  · exact ((h c).1 9).trans ((dats m hO 0 c).arrAt_eq_of_after_last 9 pt (whole9 m hO) _ fun y =>
      (congrFun (after0_9 m hO c pt) y).trans ((after9 m hO c y).trans (ref_moment1 _ _ _ _ y).symm))
  · exact ((h c).1 10).trans ((dats m hO 0 c).arrAt_eq_of_after_last 10 pt (whole10 m hO) _ fun y =>
      (congrFun (after0_10 m hO c pt) y).trans ((after10 m hO c y).trans (ref_moment2 _ _ _ _ y).symm))
  · exact ((h c).1 11).trans ((dats m hO 0 c).arrAt_eq_of_after_last 11 pt (whole11 m hO) _ fun y =>
      (congrFun (after0_11 m hO c pt) y).trans ((after11 m hO c y).trans (ref_loss _ _ _ y).symm))

end Cert.AdamRowIdeal.Final

end
-- ==== Proof.AdamRowClaim.lean ====
module

public import proofs.«01_k».proof.Defs
public import proofs.«01_k».proof.Proof.AdamRowValue
public import proofs.«01_k».proof.Proof.Gen.AdamRowRefIdeal.Run
public import Idealize.ShloMosaic.Lib.Claim

/-! The AdamW step of a row of 1024 entries, and the loss: kernel and reference leave the same five arrays. -/

@[expose] public section

set_option maxRecDepth 16384

noncomputable section

namespace Cert.Proof

open Idealize.ShloMosaic Idealize.SL.Sem

/-- The reference's run, its results named. -/
theorem run_AdamRowRef (m : (ℓ : Loc Cert.AdamRowRefIdeal.nD Cert.AdamRowRefIdeal.τ Cert.AdamRowRefIdeal.sig) → Buf (Elt Ideal) ℓ)
    (ρ : Dev Cert.AdamRowRefIdeal.nD → PrngReg) :
    θ_run Cert.AdamRowRefIdeal.defs (onTc (τ := Cert.AdamRowRefIdeal.τ) (Cert.AdamRowRefIdeal.main (F := Ideal))) ⟨m, fun _ => 0, ρ⟩ (fun r => ∀ c : Dev Cert.AdamRowRefIdeal.nD,
      r.2.mem (c.tc.loc Cert.AdamRowRefIdeal.main_v6)
        = Cert.AdamRowRefIdeal.Read.val_main_v6 (F := Ideal) (m (c.tc.loc Cert.AdamRowRefIdeal.main_arg0)) (m (c.tc.loc Cert.AdamRowRefIdeal.main_arg1)) (m (c.tc.loc Cert.AdamRowRefIdeal.main_arg3))
      ∧ r.2.mem (c.tc.loc Cert.AdamRowRefIdeal.main_v30)
        = Cert.AdamRowRefIdeal.Read.val_main_v30 (F := Ideal) (m (c.tc.loc Cert.AdamRowRefIdeal.main_arg0)) (m (c.tc.loc Cert.AdamRowRefIdeal.main_arg1)) (m (c.tc.loc Cert.AdamRowRefIdeal.main_arg3)) (m (c.tc.loc Cert.AdamRowRefIdeal.main_arg5)) (m (c.tc.loc Cert.AdamRowRefIdeal.main_arg6)) (m (c.tc.loc Cert.AdamRowRefIdeal.main_arg7))
      ∧ r.2.mem (c.tc.loc Cert.AdamRowRefIdeal.main_v11)
        = Cert.AdamRowRefIdeal.Read.val_main_v11 (F := Ideal) (m (c.tc.loc Cert.AdamRowRefIdeal.main_arg0)) (m (c.tc.loc Cert.AdamRowRefIdeal.main_arg1)) (m (c.tc.loc Cert.AdamRowRefIdeal.main_arg3)) (m (c.tc.loc Cert.AdamRowRefIdeal.main_arg6))
      ∧ r.2.mem (c.tc.loc Cert.AdamRowRefIdeal.main_v17)
        = Cert.AdamRowRefIdeal.Read.val_main_v17 (F := Ideal) (m (c.tc.loc Cert.AdamRowRefIdeal.main_arg0)) (m (c.tc.loc Cert.AdamRowRefIdeal.main_arg1)) (m (c.tc.loc Cert.AdamRowRefIdeal.main_arg3)) (m (c.tc.loc Cert.AdamRowRefIdeal.main_arg7))
      ∧ r.2.mem (c.tc.loc Cert.AdamRowRefIdeal.main_v37)
        = Cert.AdamRowRefIdeal.Read.val_main_v37 (F := Ideal) (m (c.tc.loc Cert.AdamRowRefIdeal.main_arg0)) (m (c.tc.loc Cert.AdamRowRefIdeal.main_arg2)) (m (c.tc.loc Cert.AdamRowRefIdeal.main_arg4))
      ∧ r.2.mem (c.tc.loc Cert.AdamRowRefIdeal.main_arg0) = m (c.tc.loc Cert.AdamRowRefIdeal.main_arg0)
      ∧ r.2.mem (c.tc.loc Cert.AdamRowRefIdeal.main_arg1) = m (c.tc.loc Cert.AdamRowRefIdeal.main_arg1)
      ∧ r.2.mem (c.tc.loc Cert.AdamRowRefIdeal.main_arg2) = m (c.tc.loc Cert.AdamRowRefIdeal.main_arg2)
      ∧ r.2.mem (c.tc.loc Cert.AdamRowRefIdeal.main_arg3) = m (c.tc.loc Cert.AdamRowRefIdeal.main_arg3)
      ∧ r.2.mem (c.tc.loc Cert.AdamRowRefIdeal.main_arg4) = m (c.tc.loc Cert.AdamRowRefIdeal.main_arg4)
      ∧ r.2.mem (c.tc.loc Cert.AdamRowRefIdeal.main_arg5) = m (c.tc.loc Cert.AdamRowRefIdeal.main_arg5)
      ∧ r.2.mem (c.tc.loc Cert.AdamRowRefIdeal.main_arg6) = m (c.tc.loc Cert.AdamRowRefIdeal.main_arg6)
      ∧ r.2.mem (c.tc.loc Cert.AdamRowRefIdeal.main_arg7) = m (c.tc.loc Cert.AdamRowRefIdeal.main_arg7)) :=
  (θ_run _ _ _).mono (fun r h c => ⟨(h c).1.trans (Cert.AdamRowRefIdeal.Read.val_main_v6_eq ..), (h c).2.1.trans (Cert.AdamRowRefIdeal.Read.val_main_v30_eq ..),
    (h c).2.2.1.trans (Cert.AdamRowRefIdeal.Read.val_main_v11_eq ..), (h c).2.2.2.1.trans (Cert.AdamRowRefIdeal.Read.val_main_v17_eq ..),
    (h c).2.2.2.2.1.trans (Cert.AdamRowRefIdeal.Read.val_main_v37_eq ..), (h c).2.2.2.2.2⟩) (Cert.AdamRowRefIdeal.Value.run m ρ)

set_option maxHeartbeats 1000000 in
/-- The AdamW step of a row of 1024 entries, and the loss: kernel and reference leave the same five arrays. -/
theorem algebraic_AdamRow : Cert.algebraic_AdamRowIdeal_AdamRowRefIdeal := by
  pair_intro
  · run_from Cert.AdamRowIdeal.Gen.unchanged m g trivial & Cert.AdamRowIdeal.Final.run m g trivial
  · run_from run_AdamRowRef m' g'

end Cert.Proof

end
-- ==== Proof.AdamHalfValue.lean ====
module

public import proofs.«01_k».proof.Proof.Gen.AdamHalfIdeal.Frame
public import proofs.«01_k».proof.Proof.Gen.AdamHalfRefIdeal.Read
public import proofs.«01_k».proof.Proof.AdamRowValue

/-! The AdamW step of a row of 512 entries, and the loss: what the kernel's run leaves in its five arrays. -/

@[expose] public section

set_option maxRecDepth 16384

noncomputable section

namespace Cert.AdamHalfIdeal.Final

open Idealize.ShloMosaic Idealize.ShloMosaic.TcCoe Idealize.SL.Sem
open Idealize.ShloMosaic.Pipeline (Dat)
open Cert.AdamHalfIdeal Cert.AdamHalfIdeal.Gen Cert.AdamStep
open Cert.AdamRowIdeal.Final (kloss kloss_apply)

/-- One entry of the whole gradient: the sum of the devices' terms, the device's own taken from its own array. -/
def grad (d : BitVec 32) (parts : FVec Ideal S8x1x512 .f32) (own : FVec Ideal S1x512 .f32) (i : S1x512.Idx) : EReal :=
  whole d (own i) fun k => parts (ix3 k 0 (i 1))

theorem ref_grad (d : IVec S1 32) (parts : FVec Ideal S8x1x512 .f32) (own : FVec Ideal S1x512 .f32) (y : S1x512.Idx) :
    Cert.AdamHalfRefIdeal.Read.val_main_v6 (F := Ideal) d parts own y = grad (d (ix1 0)) parts own y := by
  simp only [← Cert.AdamHalfRefIdeal.Read.val_main_v6_eq]
  pointwise [grad, whole, row_eq y]

theorem ref_loss (d : IVec S1 32) (parts : FVec Ideal S8x1x128 .f32) (own : FVec Ideal S1x128 .f32) (y : S1x128.Idx) :
    Cert.AdamHalfRefIdeal.Read.val_main_v37 (F := Ideal) d parts own y = loss (d (ix1 0)) parts own y := by
  simp only [← Cert.AdamHalfRefIdeal.Read.val_main_v37_eq]
  pointwise [loss, whole, row_eq y]

theorem ref_delta (d : IVec S1 32) (parts : FVec Ideal S8x1x512 .f32) (own : FVec Ideal S1x512 .f32) (w v1 v2 : FVec Ideal S1x512 .f32) (y : S1x512.Idx) :
    Cert.AdamHalfRefIdeal.Read.val_main_v30 (F := Ideal) d parts own w v1 v2 y = delta (grad (d (ix1 0)) parts own y) (w y) (v1 y) (v2 y) := by
  simp only [← ref_grad]
  simp only [← Cert.AdamHalfRefIdeal.Read.val_main_v30_eq, ← Cert.AdamHalfRefIdeal.Read.val_main_v6_eq]
  pointwise [delta, moment1, moment2]

theorem ref_moment1 (d : IVec S1 32) (parts : FVec Ideal S8x1x512 .f32) (own : FVec Ideal S1x512 .f32) (v : FVec Ideal S1x512 .f32) (y : S1x512.Idx) :
    Cert.AdamHalfRefIdeal.Read.val_main_v11 (F := Ideal) d parts own v y = moment1 (grad (d (ix1 0)) parts own y) (v y) := by
  simp only [← ref_grad]
  simp only [← Cert.AdamHalfRefIdeal.Read.val_main_v11_eq, ← Cert.AdamHalfRefIdeal.Read.val_main_v6_eq]
  pointwise [moment1]

theorem ref_moment2 (d : IVec S1 32) (parts : FVec Ideal S8x1x512 .f32) (own : FVec Ideal S1x512 .f32) (v : FVec Ideal S1x512 .f32) (y : S1x512.Idx) :
    Cert.AdamHalfRefIdeal.Read.val_main_v17 (F := Ideal) d parts own v y = moment2 (grad (d (ix1 0)) parts own y) (v y) := by
  simp only [← ref_grad]
  simp only [← Cert.AdamHalfRefIdeal.Read.val_main_v17_eq, ← Cert.AdamHalfRefIdeal.Read.val_main_v6_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- One device's terms, as the kernel loads them. -/
abbrev term (parts : FVec Ideal S8x1x512 .f32) (k : ℕ) (h : ∀ a, (![k, 0, 0] : Fin 3 → ℕ) a + S1x1x512.size a ≤ S8x1x512.size a) : FVec Ideal S1x1x512 .f32 :=
  View.ld (Val := Elt Ideal) (e' := .f32) parts (Rect.unit ![k, 0, 0] ![1, 1, 512] h)

/-- The gradient as the kernel adds it up, from the device's number, the others' terms and its own. -/
def ksum (d : BitVec 32) (parts : FVec Ideal S8x1x512 .f32) (own : FVec Ideal S1x512 .f32) : FVec Ideal S1x512 .f32 :=
  k0_pay3 (k0_pay2 d own (term parts 0 inb_S8x1x512_S1x1x512_0_0_0)
      d own (term parts 1 inb_S8x1x512_S1x1x512_1_0_0)
      d own (term parts 2 inb_S8x1x512_S1x1x512_2_0_0)
      d own (term parts 3 inb_S8x1x512_S1x1x512_3_0_0))
    (Scalar.cmpi .eq d 4#32) own (term parts 4 inb_S8x1x512_S1x1x512_4_0_0)
    d own (term parts 5 inb_S8x1x512_S1x1x512_5_0_0)
    d own (term parts 6 inb_S8x1x512_S1x1x512_6_0_0)
    d own (term parts 7 inb_S8x1x512_S1x1x512_7_0_0)

theorem ksum_apply (d : BitVec 32) (parts : FVec Ideal S8x1x512 .f32) (own : FVec Ideal S1x512 .f32) (y : S1x512.Idx) :
    ksum d parts own y = grad d parts own y := by
  rw [grad, whole, Fin.sum_univ_eight]
  pointwise [ksum, term, k0_pay3, k0_pay2]
  simp only [cmpi_comm d]

theorem pay_moment1 (s : FVec Ideal S1x512 .f32) (v : FVec Ideal S1x512 .f32) (y : S1x512.Idx) :
    k0_pay4 (F := Ideal) s v y = moment1 (s y) (v y) := by
  pointwise [k0_pay4, moment1]

theorem pay_moment2 (s : FVec Ideal S1x512 .f32) (v : FVec Ideal S1x512 .f32) (y : S1x512.Idx) :
    k0_pay5 (F := Ideal) s v y = moment2 (s y) (v y) := by
  pointwise [k0_pay5, moment2]

theorem pay_delta (s : FVec Ideal S1x512 .f32) (w v v' : FVec Ideal S1x512 .f32) (y : S1x512.Idx) :
    k0_pay6 (F := Ideal) s w v v' y = delta (s y) (w y) (v y) (v' y) := by
  pointwise [k0_pay6, delta, ← pay_moment1 s v y, ← pay_moment2 s v' y]

/-- The grid's one point. -/
abbrev pt : Fin grid0.N := ⟨0, by decide⟩

theorem whole7 (hO : Ok m) : ((cfgM m hO).win 7).WholeAt pt :=
  ⟨flush0_7 _ _, fun t _ => Subsingleton.elim (α := Fin 1) _ _, fun a => ⟨(by decide +kernel :
    ∀ a : Fin 2, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 2, cc0_transform_8 (grid0.coords pt) a = 0) a, by fin_cases a <;> rfl⟩⟩

theorem whole9 (hO : Ok m) : ((cfgM m hO).win 9).WholeAt pt :=
  ⟨flush0_9 _ _, fun t _ => Subsingleton.elim (α := Fin 1) _ _, fun a => ⟨(by decide +kernel :
    ∀ a : Fin 2, cc0_transform_9 (grid0.coords pt) a = 0) a, by fin_cases a <;> rfl⟩⟩

theorem whole10 (hO : Ok m) : ((cfgM m hO).win 10).WholeAt pt :=
  ⟨flush0_10 _ _, fun t _ => Subsingleton.elim (α := Fin 1) _ _, fun a => ⟨(by decide +kernel :
    ∀ a : Fin 2, cc0_transform_10 (grid0.coords pt) a = 0) a, by fin_cases a <;> rfl⟩⟩

theorem whole11 (hO : Ok m) : ((cfgM m hO).win 11).WholeAt pt :=
  ⟨flush0_11 _ _, fun t _ => Subsingleton.elim (α := Fin 1) _ _, fun a => ⟨(by decide +kernel :
    ∀ a : Fin 2, cc0_transform_11 (grid0.coords pt) a = 0) a, by fin_cases a <;> rfl⟩⟩

theorem read0 (hO : Ok m) (c : Dev nD) : View.read (Elt Ideal) (ms0_0 m hO pt).view ((hs0_0 m hO pt).unread (iblk m hO c 0 pt))
    = m ((c : Thread nD τ).loc main_arg1) := by
  refine (Memref.IsWhole.read_unread (hs0_0 m hO pt) (iblk m hO c 0 pt)).trans (funext fun (x : S8x1x512.Idx) => ?_)
  exact congrArg (m ((c : Thread nD τ).loc main_arg1)) (funext fun a => Fin.ext
    (at_origin ((by decide +kernel : ∀ a, cc0_transform_0 (grid0.coords pt) a = 0) a)))

theorem read1 (hO : Ok m) (c : Dev nD) : View.read (Elt Ideal) (ms0_1 m hO pt).view ((hs0_1 m hO pt).unread (iblk m hO c 1 pt))
    = m ((c : Thread nD τ).loc main_arg2) := by
  refine (Memref.IsWhole.read_unread (hs0_1 m hO pt) (iblk m hO c 1 pt)).trans (funext fun (x : S8x1x128.Idx) => ?_)
  exact congrArg (m ((c : Thread nD τ).loc main_arg2)) (funext fun a => Fin.ext
    (at_origin ((by decide +kernel : ∀ a, cc0_transform_1 (grid0.coords pt) a = 0) a)))

theorem read2 (hO : Ok m) (c : Dev nD) : View.read (Elt Ideal) (ms0_2 m hO pt).view ((hs0_2 m hO pt).unread (iblk m hO c 2 pt))
    = m ((c : Thread nD τ).loc main_arg3) := by
  refine (Memref.IsWhole.read_unread (hs0_2 m hO pt) (iblk m hO c 2 pt)).trans (funext fun (x : S1x512.Idx) => ?_)
  exact congrArg (m ((c : Thread nD τ).loc main_arg3)) (funext fun a => Fin.ext
    (at_origin ((by decide +kernel : ∀ a, cc0_transform_2 (grid0.coords pt) a = 0) a)))

theorem read3 (hO : Ok m) (c : Dev nD) : View.read (Elt Ideal) (ms0_3 m hO pt).view ((hs0_3 m hO pt).unread (iblk m hO c 3 pt))
    = m ((c : Thread nD τ).loc main_arg4) := by
  refine (Memref.IsWhole.read_unread (hs0_3 m hO pt) (iblk m hO c 3 pt)).trans (funext fun (x : S1x128.Idx) => ?_)
  exact congrArg (m ((c : Thread nD τ).loc main_arg4)) (funext fun a => Fin.ext
    (at_origin ((by decide +kernel : ∀ a, cc0_transform_3 (grid0.coords pt) a = 0) a)))

theorem read4 (hO : Ok m) (c : Dev nD) : View.read (Elt Ideal) (ms0_4 m hO pt).view ((hs0_4 m hO pt).unread (iblk m hO c 4 pt))
    = m ((c : Thread nD τ).loc main_arg5) := by
  refine (Memref.IsWhole.read_unread (hs0_4 m hO pt) (iblk m hO c 4 pt)).trans (funext fun (x : S1x512.Idx) => ?_)
  exact congrArg (m ((c : Thread nD τ).loc main_arg5)) (funext fun a => Fin.ext
    (at_origin ((by decide +kernel : ∀ a, cc0_transform_4 (grid0.coords pt) a = 0) a)))

theorem read5 (hO : Ok m) (c : Dev nD) : View.read (Elt Ideal) (ms0_5 m hO pt).view ((hs0_5 m hO pt).unread (iblk m hO c 5 pt))
    = m ((c : Thread nD τ).loc main_arg6) := by
  refine (Memref.IsWhole.read_unread (hs0_5 m hO pt) (iblk m hO c 5 pt)).trans (funext fun (x : S1x512.Idx) => ?_)
  exact congrArg (m ((c : Thread nD τ).loc main_arg6)) (funext fun a => Fin.ext
    (at_origin ((by decide +kernel : ∀ a, cc0_transform_5 (grid0.coords pt) a = 0) a)))

theorem read6 (hO : Ok m) (c : Dev nD) : View.read (Elt Ideal) (ms0_6 m hO pt).view ((hs0_6 m hO pt).unread (iblk m hO c 6 pt))
    = m ((c : Thread nD τ).loc main_arg7) := by
  refine (Memref.IsWhole.read_unread (hs0_6 m hO pt) (iblk m hO c 6 pt)).trans (funext fun (x : S1x512.Idx) => ?_)
  exact congrArg (m ((c : Thread nD τ).loc main_arg7)) (funext fun a => Fin.ext
    (at_origin ((by decide +kernel : ∀ a, cc0_transform_6 (grid0.coords pt) a = 0) a)))

/-- What the kernel adds up of its staging buffers is the gradient. -/
theorem ksum_read (hO : Ok m) (c : Dev nD) (y : S1x512.Idx) : ksum (dev m c)
    (View.read (Elt Ideal) (ms0_0 m hO pt).view ((hs0_0 m hO pt).unread (iblk m hO c 0 pt)))
    (View.read (Elt Ideal) (ms0_2 m hO pt).view ((hs0_2 m hO pt).unread (iblk m hO c 2 pt))) y
      = grad (dev m c) (m ((c : Thread nD τ).loc main_arg1)) (m ((c : Thread nD τ).loc main_arg3)) y :=
  (congrFun (congrArg₂ (ksum (dev m c)) (read0 m hO c) (read2 m hO c)) y).trans (ksum_apply _ _ _ y)

theorem after7 (hO : Ok m) (c : Dev nD) (y : S1x512.Idx) : (outsAt0 m hO c pt).1 y = grad (dev m c) (m ((c : Thread nD τ).loc main_arg1)) (m ((c : Thread nD τ).loc main_arg3)) y := by
  unfold outsAt0
  dsimp only
  frame_out
  simp only [kdev m hO c]
  exact ksum_read m hO c y

theorem after8 (hO : Ok m) (c : Dev nD) (y : S1x512.Idx) : (outsAt0 m hO c pt).2.1 y
    = delta (grad (dev m c) (m ((c : Thread nD τ).loc main_arg1)) (m ((c : Thread nD τ).loc main_arg3)) y) (m ((c : Thread nD τ).loc main_arg5) y) (m ((c : Thread nD τ).loc main_arg6) y) (m ((c : Thread nD τ).loc main_arg7) y) := by
  unfold outsAt0
  dsimp only
  frame_out
  simp only [kdev m hO c]
  exact (pay_delta _ _ _ _ y).trans (congr (congr (congrArg₂ delta (ksum_read m hO c y) (congrFun (read4 m hO c) y))
    (congrFun (read5 m hO c) y)) (congrFun (read6 m hO c) y))

theorem after9 (hO : Ok m) (c : Dev nD) (y : S1x512.Idx) : (outsAt0 m hO c pt).2.2.1 y
    = moment1 (grad (dev m c) (m ((c : Thread nD τ).loc main_arg1)) (m ((c : Thread nD τ).loc main_arg3)) y) (m ((c : Thread nD τ).loc main_arg6) y) := by
  unfold outsAt0
  dsimp only
  frame_out
  simp only [kdev m hO c]
  exact (pay_moment1 _ _ y).trans (congrArg₂ moment1 (ksum_read m hO c y) (congrFun (read5 m hO c) y))

theorem after10 (hO : Ok m) (c : Dev nD) (y : S1x512.Idx) : (outsAt0 m hO c pt).2.2.2.1 y
    = moment2 (grad (dev m c) (m ((c : Thread nD τ).loc main_arg1)) (m ((c : Thread nD τ).loc main_arg3)) y) (m ((c : Thread nD τ).loc main_arg7) y) := by
  unfold outsAt0
  dsimp only
  frame_out
  simp only [kdev m hO c]
  exact (pay_moment2 _ _ y).trans (congrArg₂ moment2 (ksum_read m hO c y) (congrFun (read6 m hO c) y))

theorem after11 (hO : Ok m) (c : Dev nD) (y : S1x128.Idx) : (outsAt0 m hO c pt).2.2.2.2 y
    = loss (dev m c) (m ((c : Thread nD τ).loc main_arg2)) (m ((c : Thread nD τ).loc main_arg4)) y := by
  unfold outsAt0
  dsimp only
  frame_out
  simp only [kdev m hO c]
  exact (congrFun (congrArg₂ (kloss (dev m c)) (read1 m hO c) (read3 m hO c)) y).trans (kloss_apply _ _ _ y)

/-- The kernel's run ends with the reference's values in its five arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamHalfRefIdeal.Read.val_main_v6 (F := Ideal) (m ((c : Thread nD τ).loc main_arg0)) (m ((c : Thread nD τ).loc main_arg1)) (m ((c : Thread nD τ).loc main_arg3))
      ∧ r.2.mem ((c.tc : Thread nD τ).loc main_v0_1)
        = Cert.AdamHalfRefIdeal.Read.val_main_v30 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))
      ∧ r.2.mem ((c.tc : Thread nD τ).loc main_v0_2)
        = Cert.AdamHalfRefIdeal.Read.val_main_v11 (F := Ideal) (m ((c : Thread nD τ).loc main_arg0)) (m ((c : Thread nD τ).loc main_arg1)) (m ((c : Thread nD τ).loc main_arg3)) (m ((c : Thread nD τ).loc main_arg6))
      ∧ r.2.mem ((c.tc : Thread nD τ).loc main_v0_3)
        = Cert.AdamHalfRefIdeal.Read.val_main_v17 (F := Ideal) (m ((c : Thread nD τ).loc main_arg0)) (m ((c : Thread nD τ).loc main_arg1)) (m ((c : Thread nD τ).loc main_arg3)) (m ((c : Thread nD τ).loc main_arg7))
      ∧ r.2.mem ((c.tc : Thread nD τ).loc main_v0_4)
        = Cert.AdamHalfRefIdeal.Read.val_main_v37 (F := Ideal) (m ((c : Thread nD τ).loc main_arg0)) (m ((c : Thread nD τ).loc main_arg2)) (m ((c : Thread nD τ).loc main_arg4))) := by
  refine (θ_run _ _ _).mono (fun r h c => ⟨?_, ?_, ?_, ?_, ?_⟩) (run_main m ρ hO)
  · exact ((h c).1 7).trans ((dats m hO 0 c).arrAt_eq_of_after_last 7 pt (whole7 m hO) _ fun y =>
      (congrFun (after0_7 m hO c pt) y).trans ((after7 m hO c y).trans (ref_grad _ _ _ y).symm))
  · exact ((h c).1 8).trans ((dats m hO 0 c).arrAt_eq_of_after_last 8 pt (whole8 m hO) _ fun y =>
      (congrFun (after0_8 m hO c pt) y).trans ((after8 m hO c y).trans (ref_delta _ _ _ _ _ _ y).symm))
  · exact ((h c).1 9).trans ((dats m hO 0 c).arrAt_eq_of_after_last 9 pt (whole9 m hO) _ fun y =>
      (congrFun (after0_9 m hO c pt) y).trans ((after9 m hO c y).trans (ref_moment1 _ _ _ _ y).symm))
  · exact ((h c).1 10).trans ((dats m hO 0 c).arrAt_eq_of_after_last 10 pt (whole10 m hO) _ fun y =>
      (congrFun (after0_10 m hO c pt) y).trans ((after10 m hO c y).trans (ref_moment2 _ _ _ _ y).symm))
  · exact ((h c).1 11).trans ((dats m hO 0 c).arrAt_eq_of_after_last 11 pt (whole11 m hO) _ fun y =>
      (congrFun (after0_11 m hO c pt) y).trans ((after11 m hO c y).trans (ref_loss _ _ _ y).symm))

end Cert.AdamHalfIdeal.Final

end
-- ==== Proof.AdamHalfClaim.lean ====
module

public import proofs.«01_k».proof.Defs
public import proofs.«01_k».proof.Proof.AdamHalfValue
public import proofs.«01_k».proof.Proof.Gen.AdamHalfRefIdeal.Run
public import Idealize.ShloMosaic.Lib.Claim

/-! The AdamW step of a row of 512 entries, and the loss: kernel and reference leave the same five arrays. -/

@[expose] public section

set_option maxRecDepth 16384

noncomputable section

namespace Cert.Proof

open Idealize.ShloMosaic Idealize.SL.Sem

/-- The reference's run, its results named. -/
theorem run_AdamHalfRef (m : (ℓ : Loc Cert.AdamHalfRefIdeal.nD Cert.AdamHalfRefIdeal.τ Cert.AdamHalfRefIdeal.sig) → Buf (Elt Ideal) ℓ)
    (ρ : Dev Cert.AdamHalfRefIdeal.nD → PrngReg) :
    θ_run Cert.AdamHalfRefIdeal.defs (onTc (τ := Cert.AdamHalfRefIdeal.τ) (Cert.AdamHalfRefIdeal.main (F := Ideal))) ⟨m, fun _ => 0, ρ⟩ (fun r => ∀ c : Dev Cert.AdamHalfRefIdeal.nD,
      r.2.mem (c.tc.loc Cert.AdamHalfRefIdeal.main_v6)
        = Cert.AdamHalfRefIdeal.Read.val_main_v6 (F := Ideal) (m (c.tc.loc Cert.AdamHalfRefIdeal.main_arg0)) (m (c.tc.loc Cert.AdamHalfRefIdeal.main_arg1)) (m (c.tc.loc Cert.AdamHalfRefIdeal.main_arg3))
      ∧ r.2.mem (c.tc.loc Cert.AdamHalfRefIdeal.main_v30)
        = Cert.AdamHalfRefIdeal.Read.val_main_v30 (F := Ideal) (m (c.tc.loc Cert.AdamHalfRefIdeal.main_arg0)) (m (c.tc.loc Cert.AdamHalfRefIdeal.main_arg1)) (m (c.tc.loc Cert.AdamHalfRefIdeal.main_arg3)) (m (c.tc.loc Cert.AdamHalfRefIdeal.main_arg5)) (m (c.tc.loc Cert.AdamHalfRefIdeal.main_arg6)) (m (c.tc.loc Cert.AdamHalfRefIdeal.main_arg7))
      ∧ r.2.mem (c.tc.loc Cert.AdamHalfRefIdeal.main_v11)
        = Cert.AdamHalfRefIdeal.Read.val_main_v11 (F := Ideal) (m (c.tc.loc Cert.AdamHalfRefIdeal.main_arg0)) (m (c.tc.loc Cert.AdamHalfRefIdeal.main_arg1)) (m (c.tc.loc Cert.AdamHalfRefIdeal.main_arg3)) (m (c.tc.loc Cert.AdamHalfRefIdeal.main_arg6))
      ∧ r.2.mem (c.tc.loc Cert.AdamHalfRefIdeal.main_v17)
        = Cert.AdamHalfRefIdeal.Read.val_main_v17 (F := Ideal) (m (c.tc.loc Cert.AdamHalfRefIdeal.main_arg0)) (m (c.tc.loc Cert.AdamHalfRefIdeal.main_arg1)) (m (c.tc.loc Cert.AdamHalfRefIdeal.main_arg3)) (m (c.tc.loc Cert.AdamHalfRefIdeal.main_arg7))
      ∧ r.2.mem (c.tc.loc Cert.AdamHalfRefIdeal.main_v37)
        = Cert.AdamHalfRefIdeal.Read.val_main_v37 (F := Ideal) (m (c.tc.loc Cert.AdamHalfRefIdeal.main_arg0)) (m (c.tc.loc Cert.AdamHalfRefIdeal.main_arg2)) (m (c.tc.loc Cert.AdamHalfRefIdeal.main_arg4))
      ∧ r.2.mem (c.tc.loc Cert.AdamHalfRefIdeal.main_arg0) = m (c.tc.loc Cert.AdamHalfRefIdeal.main_arg0)
      ∧ r.2.mem (c.tc.loc Cert.AdamHalfRefIdeal.main_arg1) = m (c.tc.loc Cert.AdamHalfRefIdeal.main_arg1)
      ∧ r.2.mem (c.tc.loc Cert.AdamHalfRefIdeal.main_arg2) = m (c.tc.loc Cert.AdamHalfRefIdeal.main_arg2)
      ∧ r.2.mem (c.tc.loc Cert.AdamHalfRefIdeal.main_arg3) = m (c.tc.loc Cert.AdamHalfRefIdeal.main_arg3)
      ∧ r.2.mem (c.tc.loc Cert.AdamHalfRefIdeal.main_arg4) = m (c.tc.loc Cert.AdamHalfRefIdeal.main_arg4)
      ∧ r.2.mem (c.tc.loc Cert.AdamHalfRefIdeal.main_arg5) = m (c.tc.loc Cert.AdamHalfRefIdeal.main_arg5)
      ∧ r.2.mem (c.tc.loc Cert.AdamHalfRefIdeal.main_arg6) = m (c.tc.loc Cert.AdamHalfRefIdeal.main_arg6)
      ∧ r.2.mem (c.tc.loc Cert.AdamHalfRefIdeal.main_arg7) = m (c.tc.loc Cert.AdamHalfRefIdeal.main_arg7)) :=
  (θ_run _ _ _).mono (fun r h c => ⟨(h c).1.trans (Cert.AdamHalfRefIdeal.Read.val_main_v6_eq ..), (h c).2.1.trans (Cert.AdamHalfRefIdeal.Read.val_main_v30_eq ..),
    (h c).2.2.1.trans (Cert.AdamHalfRefIdeal.Read.val_main_v11_eq ..), (h c).2.2.2.1.trans (Cert.AdamHalfRefIdeal.Read.val_main_v17_eq ..),
    (h c).2.2.2.2.1.trans (Cert.AdamHalfRefIdeal.Read.val_main_v37_eq ..), (h c).2.2.2.2.2⟩) (Cert.AdamHalfRefIdeal.Value.run m ρ)

set_option maxHeartbeats 1000000 in
/-- The AdamW step of a row of 512 entries, and the loss: kernel and reference leave the same five arrays. -/
theorem algebraic_AdamHalf : Cert.algebraic_AdamHalfIdeal_AdamHalfRefIdeal := by
  pair_intro
  · run_from Cert.AdamHalfIdeal.Gen.unchanged m g trivial & Cert.AdamHalfIdeal.Final.run m g trivial
  · run_from run_AdamHalfRef m' g'

end Cert.Proof

end
-- ==== Proof.AdamWideValue.lean ====
module

public import proofs.«01_k».proof.Proof.Gen.AdamWideIdeal.Frame
public import proofs.«01_k».proof.Proof.Gen.AdamWideRefIdeal.Read
public import proofs.«01_k».proof.Proof.AdamRowValue

/-! The AdamW step of the bias of the modulation, and the loss: what the kernel's run leaves in its five arrays. -/

@[expose] public section

set_option maxRecDepth 16384

noncomputable section

namespace Cert.AdamWideIdeal.Final

open Idealize.ShloMosaic Idealize.ShloMosaic.TcCoe Idealize.SL.Sem
open Idealize.ShloMosaic.Pipeline (Dat)
open Cert.AdamWideIdeal Cert.AdamWideIdeal.Gen Cert.AdamStep
open Cert.AdamRowIdeal.Final (kloss kloss_apply)

/-- One entry of the whole gradient: the sum of the devices' terms, the device's own taken from its own array. -/
def grad (d : BitVec 32) (parts : FVec Ideal S8x1x3072 .f32) (own : FVec Ideal S1x3072 .f32) (i : S1x3072.Idx) : EReal :=
  whole d (own i) fun k => parts (ix3 k 0 (i 1))

theorem ref_grad (d : IVec S1 32) (parts : FVec Ideal S8x1x3072 .f32) (own : FVec Ideal S1x3072 .f32) (y : S1x3072.Idx) :
    Cert.AdamWideRefIdeal.Read.val_main_v6 (F := Ideal) d parts own y = grad (d (ix1 0)) parts own y := by
  simp only [← Cert.AdamWideRefIdeal.Read.val_main_v6_eq]
  pointwise [grad, whole, row_eq y]

theorem ref_loss (d : IVec S1 32) (parts : FVec Ideal S8x1x128 .f32) (own : FVec Ideal S1x128 .f32) (y : S1x128.Idx) :
    Cert.AdamWideRefIdeal.Read.val_main_v37 (F := Ideal) d parts own y = loss (d (ix1 0)) parts own y := by
  simp only [← Cert.AdamWideRefIdeal.Read.val_main_v37_eq]
  pointwise [loss, whole, row_eq y]

theorem ref_delta (d : IVec S1 32) (parts : FVec Ideal S8x1x3072 .f32) (own : FVec Ideal S1x3072 .f32) (w v1 v2 : FVec Ideal S1x3072 .f32) (y : S1x3072.Idx) :
    Cert.AdamWideRefIdeal.Read.val_main_v30 (F := Ideal) d parts own w v1 v2 y = delta (grad (d (ix1 0)) parts own y) (w y) (v1 y) (v2 y) := by
  simp only [← ref_grad]
  simp only [← Cert.AdamWideRefIdeal.Read.val_main_v30_eq, ← Cert.AdamWideRefIdeal.Read.val_main_v6_eq]
  pointwise [delta, moment1, moment2]

theorem ref_moment1 (d : IVec S1 32) (parts : FVec Ideal S8x1x3072 .f32) (own : FVec Ideal S1x3072 .f32) (v : FVec Ideal S1x3072 .f32) (y : S1x3072.Idx) :
    Cert.AdamWideRefIdeal.Read.val_main_v11 (F := Ideal) d parts own v y = moment1 (grad (d (ix1 0)) parts own y) (v y) := by
  simp only [← ref_grad]
  simp only [← Cert.AdamWideRefIdeal.Read.val_main_v11_eq, ← Cert.AdamWideRefIdeal.Read.val_main_v6_eq]
  pointwise [moment1]

theorem ref_moment2 (d : IVec S1 32) (parts : FVec Ideal S8x1x3072 .f32) (own : FVec Ideal S1x3072 .f32) (v : FVec Ideal S1x3072 .f32) (y : S1x3072.Idx) :
    Cert.AdamWideRefIdeal.Read.val_main_v17 (F := Ideal) d parts own v y = moment2 (grad (d (ix1 0)) parts own y) (v y) := by
  simp only [← ref_grad]
  simp only [← Cert.AdamWideRefIdeal.Read.val_main_v17_eq, ← Cert.AdamWideRefIdeal.Read.val_main_v6_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- One device's terms, as the kernel loads them. -/
abbrev term (parts : FVec Ideal S8x1x3072 .f32) (k : ℕ) (h : ∀ a, (![k, 0, 0] : Fin 3 → ℕ) a + S1x1x3072.size a ≤ S8x1x3072.size a) : FVec Ideal S1x1x3072 .f32 :=
  View.ld (Val := Elt Ideal) (e' := .f32) parts (Rect.unit ![k, 0, 0] ![1, 1, 3072] h)

/-- The gradient as the kernel adds it up, from the device's number, the others' terms and its own. -/
def ksum (d : BitVec 32) (parts : FVec Ideal S8x1x3072 .f32) (own : FVec Ideal S1x3072 .f32) : FVec Ideal S1x3072 .f32 :=
  k0_pay3 (k0_pay2 d own (term parts 0 inb_S8x1x3072_S1x1x3072_0_0_0)
      d own (term parts 1 inb_S8x1x3072_S1x1x3072_1_0_0)
      d own (term parts 2 inb_S8x1x3072_S1x1x3072_2_0_0)
      d own (term parts 3 inb_S8x1x3072_S1x1x3072_3_0_0))
    (Scalar.cmpi .eq d 4#32) own (term parts 4 inb_S8x1x3072_S1x1x3072_4_0_0)
    d own (term parts 5 inb_S8x1x3072_S1x1x3072_5_0_0)
    d own (term parts 6 inb_S8x1x3072_S1x1x3072_6_0_0)
    d own (term parts 7 inb_S8x1x3072_S1x1x3072_7_0_0)

theorem ksum_apply (d : BitVec 32) (parts : FVec Ideal S8x1x3072 .f32) (own : FVec Ideal S1x3072 .f32) (y : S1x3072.Idx) :
    ksum d parts own y = grad d parts own y := by
  rw [grad, whole, Fin.sum_univ_eight]
  pointwise [ksum, term, k0_pay3, k0_pay2]
  simp only [cmpi_comm d]

theorem pay_moment1 (s : FVec Ideal S1x3072 .f32) (v : FVec Ideal S1x3072 .f32) (y : S1x3072.Idx) :
    k0_pay4 (F := Ideal) s v y = moment1 (s y) (v y) := by
  pointwise [k0_pay4, moment1]

theorem pay_moment2 (s : FVec Ideal S1x3072 .f32) (v : FVec Ideal S1x3072 .f32) (y : S1x3072.Idx) :
    k0_pay5 (F := Ideal) s v y = moment2 (s y) (v y) := by
  pointwise [k0_pay5, moment2]

theorem pay_delta (s : FVec Ideal S1x3072 .f32) (w v v' : FVec Ideal S1x3072 .f32) (y : S1x3072.Idx) :
    k0_pay6 (F := Ideal) s w v v' y = delta (s y) (w y) (v y) (v' y) := by
  pointwise [k0_pay6, delta, ← pay_moment1 s v y, ← pay_moment2 s v' y]

/-- The grid's one point. -/
abbrev pt : Fin grid0.N := ⟨0, by decide⟩

theorem whole7 (hO : Ok m) : ((cfgM m hO).win 7).WholeAt pt :=
  ⟨flush0_7 _ _, fun t _ => Subsingleton.elim (α := Fin 1) _ _, fun a => ⟨(by decide +kernel :
    ∀ a : Fin 2, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 2, cc0_transform_8 (grid0.coords pt) a = 0) a, by fin_cases a <;> rfl⟩⟩

theorem whole9 (hO : Ok m) : ((cfgM m hO).win 9).WholeAt pt :=
  ⟨flush0_9 _ _, fun t _ => Subsingleton.elim (α := Fin 1) _ _, fun a => ⟨(by decide +kernel :
    ∀ a : Fin 2, cc0_transform_9 (grid0.coords pt) a = 0) a, by fin_cases a <;> rfl⟩⟩

theorem whole10 (hO : Ok m) : ((cfgM m hO).win 10).WholeAt pt :=
  ⟨flush0_10 _ _, fun t _ => Subsingleton.elim (α := Fin 1) _ _, fun a => ⟨(by decide +kernel :
    ∀ a : Fin 2, cc0_transform_10 (grid0.coords pt) a = 0) a, by fin_cases a <;> rfl⟩⟩

theorem whole11 (hO : Ok m) : ((cfgM m hO).win 11).WholeAt pt :=
  ⟨flush0_11 _ _, fun t _ => Subsingleton.elim (α := Fin 1) _ _, fun a => ⟨(by decide +kernel :
    ∀ a : Fin 2, cc0_transform_11 (grid0.coords pt) a = 0) a, by fin_cases a <;> rfl⟩⟩

theorem read0 (hO : Ok m) (c : Dev nD) : View.read (Elt Ideal) (ms0_0 m hO pt).view ((hs0_0 m hO pt).unread (iblk m hO c 0 pt))
    = m ((c : Thread nD τ).loc main_arg1) := by
  refine (Memref.IsWhole.read_unread (hs0_0 m hO pt) (iblk m hO c 0 pt)).trans (funext fun (x : S8x1x3072.Idx) => ?_)
  exact congrArg (m ((c : Thread nD τ).loc main_arg1)) (funext fun a => Fin.ext
    (at_origin ((by decide +kernel : ∀ a, cc0_transform_0 (grid0.coords pt) a = 0) a)))

theorem read1 (hO : Ok m) (c : Dev nD) : View.read (Elt Ideal) (ms0_1 m hO pt).view ((hs0_1 m hO pt).unread (iblk m hO c 1 pt))
    = m ((c : Thread nD τ).loc main_arg2) := by
  refine (Memref.IsWhole.read_unread (hs0_1 m hO pt) (iblk m hO c 1 pt)).trans (funext fun (x : S8x1x128.Idx) => ?_)
  exact congrArg (m ((c : Thread nD τ).loc main_arg2)) (funext fun a => Fin.ext
    (at_origin ((by decide +kernel : ∀ a, cc0_transform_1 (grid0.coords pt) a = 0) a)))

theorem read2 (hO : Ok m) (c : Dev nD) : View.read (Elt Ideal) (ms0_2 m hO pt).view ((hs0_2 m hO pt).unread (iblk m hO c 2 pt))
    = m ((c : Thread nD τ).loc main_arg3) := by
  refine (Memref.IsWhole.read_unread (hs0_2 m hO pt) (iblk m hO c 2 pt)).trans (funext fun (x : S1x3072.Idx) => ?_)
  exact congrArg (m ((c : Thread nD τ).loc main_arg3)) (funext fun a => Fin.ext
    (at_origin ((by decide +kernel : ∀ a, cc0_transform_2 (grid0.coords pt) a = 0) a)))

theorem read3 (hO : Ok m) (c : Dev nD) : View.read (Elt Ideal) (ms0_3 m hO pt).view ((hs0_3 m hO pt).unread (iblk m hO c 3 pt))
    = m ((c : Thread nD τ).loc main_arg4) := by
  refine (Memref.IsWhole.read_unread (hs0_3 m hO pt) (iblk m hO c 3 pt)).trans (funext fun (x : S1x128.Idx) => ?_)
  exact congrArg (m ((c : Thread nD τ).loc main_arg4)) (funext fun a => Fin.ext
    (at_origin ((by decide +kernel : ∀ a, cc0_transform_3 (grid0.coords pt) a = 0) a)))

theorem read4 (hO : Ok m) (c : Dev nD) : View.read (Elt Ideal) (ms0_4 m hO pt).view ((hs0_4 m hO pt).unread (iblk m hO c 4 pt))
    = m ((c : Thread nD τ).loc main_arg5) := by
  refine (Memref.IsWhole.read_unread (hs0_4 m hO pt) (iblk m hO c 4 pt)).trans (funext fun (x : S1x3072.Idx) => ?_)
  exact congrArg (m ((c : Thread nD τ).loc main_arg5)) (funext fun a => Fin.ext
    (at_origin ((by decide +kernel : ∀ a, cc0_transform_4 (grid0.coords pt) a = 0) a)))

theorem read5 (hO : Ok m) (c : Dev nD) : View.read (Elt Ideal) (ms0_5 m hO pt).view ((hs0_5 m hO pt).unread (iblk m hO c 5 pt))
    = m ((c : Thread nD τ).loc main_arg6) := by
  refine (Memref.IsWhole.read_unread (hs0_5 m hO pt) (iblk m hO c 5 pt)).trans (funext fun (x : S1x3072.Idx) => ?_)
  exact congrArg (m ((c : Thread nD τ).loc main_arg6)) (funext fun a => Fin.ext
    (at_origin ((by decide +kernel : ∀ a, cc0_transform_5 (grid0.coords pt) a = 0) a)))

theorem read6 (hO : Ok m) (c : Dev nD) : View.read (Elt Ideal) (ms0_6 m hO pt).view ((hs0_6 m hO pt).unread (iblk m hO c 6 pt))
    = m ((c : Thread nD τ).loc main_arg7) := by
  refine (Memref.IsWhole.read_unread (hs0_6 m hO pt) (iblk m hO c 6 pt)).trans (funext fun (x : S1x3072.Idx) => ?_)
  exact congrArg (m ((c : Thread nD τ).loc main_arg7)) (funext fun a => Fin.ext
    (at_origin ((by decide +kernel : ∀ a, cc0_transform_6 (grid0.coords pt) a = 0) a)))

/-- What the kernel adds up of its staging buffers is the gradient. -/
theorem ksum_read (hO : Ok m) (c : Dev nD) (y : S1x3072.Idx) : ksum (dev m c)
    (View.read (Elt Ideal) (ms0_0 m hO pt).view ((hs0_0 m hO pt).unread (iblk m hO c 0 pt)))
    (View.read (Elt Ideal) (ms0_2 m hO pt).view ((hs0_2 m hO pt).unread (iblk m hO c 2 pt))) y
      = grad (dev m c) (m ((c : Thread nD τ).loc main_arg1)) (m ((c : Thread nD τ).loc main_arg3)) y :=
  (congrFun (congrArg₂ (ksum (dev m c)) (read0 m hO c) (read2 m hO c)) y).trans (ksum_apply _ _ _ y)

theorem after7 (hO : Ok m) (c : Dev nD) (y : S1x3072.Idx) : (outsAt0 m hO c pt).1 y = grad (dev m c) (m ((c : Thread nD τ).loc main_arg1)) (m ((c : Thread nD τ).loc main_arg3)) y := by
  unfold outsAt0
  dsimp only
  frame_out
  simp only [kdev m hO c]
  exact ksum_read m hO c y

theorem after8 (hO : Ok m) (c : Dev nD) (y : S1x3072.Idx) : (outsAt0 m hO c pt).2.1 y
    = delta (grad (dev m c) (m ((c : Thread nD τ).loc main_arg1)) (m ((c : Thread nD τ).loc main_arg3)) y) (m ((c : Thread nD τ).loc main_arg5) y) (m ((c : Thread nD τ).loc main_arg6) y) (m ((c : Thread nD τ).loc main_arg7) y) := by
  unfold outsAt0
  dsimp only
  frame_out
  simp only [kdev m hO c]
  exact (pay_delta _ _ _ _ y).trans (congr (congr (congrArg₂ delta (ksum_read m hO c y) (congrFun (read4 m hO c) y))
    (congrFun (read5 m hO c) y)) (congrFun (read6 m hO c) y))

theorem after9 (hO : Ok m) (c : Dev nD) (y : S1x3072.Idx) : (outsAt0 m hO c pt).2.2.1 y
    = moment1 (grad (dev m c) (m ((c : Thread nD τ).loc main_arg1)) (m ((c : Thread nD τ).loc main_arg3)) y) (m ((c : Thread nD τ).loc main_arg6) y) := by
  unfold outsAt0
  dsimp only
  frame_out
  simp only [kdev m hO c]
  exact (pay_moment1 _ _ y).trans (congrArg₂ moment1 (ksum_read m hO c y) (congrFun (read5 m hO c) y))

theorem after10 (hO : Ok m) (c : Dev nD) (y : S1x3072.Idx) : (outsAt0 m hO c pt).2.2.2.1 y
    = moment2 (grad (dev m c) (m ((c : Thread nD τ).loc main_arg1)) (m ((c : Thread nD τ).loc main_arg3)) y) (m ((c : Thread nD τ).loc main_arg7) y) := by
  unfold outsAt0
  dsimp only
  frame_out
  simp only [kdev m hO c]
  exact (pay_moment2 _ _ y).trans (congrArg₂ moment2 (ksum_read m hO c y) (congrFun (read6 m hO c) y))

theorem after11 (hO : Ok m) (c : Dev nD) (y : S1x128.Idx) : (outsAt0 m hO c pt).2.2.2.2 y
    = loss (dev m c) (m ((c : Thread nD τ).loc main_arg2)) (m ((c : Thread nD τ).loc main_arg4)) y := by
  unfold outsAt0
  dsimp only
  frame_out
  simp only [kdev m hO c]
  exact (congrFun (congrArg₂ (kloss (dev m c)) (read1 m hO c) (read3 m hO c)) y).trans (kloss_apply _ _ _ y)

/-- The kernel's run ends with the reference's values in its five arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamWideRefIdeal.Read.val_main_v6 (F := Ideal) (m ((c : Thread nD τ).loc main_arg0)) (m ((c : Thread nD τ).loc main_arg1)) (m ((c : Thread nD τ).loc main_arg3))
      ∧ r.2.mem ((c.tc : Thread nD τ).loc main_v0_1)
        = Cert.AdamWideRefIdeal.Read.val_main_v30 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))
      ∧ r.2.mem ((c.tc : Thread nD τ).loc main_v0_2)
        = Cert.AdamWideRefIdeal.Read.val_main_v11 (F := Ideal) (m ((c : Thread nD τ).loc main_arg0)) (m ((c : Thread nD τ).loc main_arg1)) (m ((c : Thread nD τ).loc main_arg3)) (m ((c : Thread nD τ).loc main_arg6))
      ∧ r.2.mem ((c.tc : Thread nD τ).loc main_v0_3)
        = Cert.AdamWideRefIdeal.Read.val_main_v17 (F := Ideal) (m ((c : Thread nD τ).loc main_arg0)) (m ((c : Thread nD τ).loc main_arg1)) (m ((c : Thread nD τ).loc main_arg3)) (m ((c : Thread nD τ).loc main_arg7))
      ∧ r.2.mem ((c.tc : Thread nD τ).loc main_v0_4)
        = Cert.AdamWideRefIdeal.Read.val_main_v37 (F := Ideal) (m ((c : Thread nD τ).loc main_arg0)) (m ((c : Thread nD τ).loc main_arg2)) (m ((c : Thread nD τ).loc main_arg4))) := by
  refine (θ_run _ _ _).mono (fun r h c => ⟨?_, ?_, ?_, ?_, ?_⟩) (run_main m ρ hO)
  · exact ((h c).1 7).trans ((dats m hO 0 c).arrAt_eq_of_after_last 7 pt (whole7 m hO) _ fun y =>
      (congrFun (after0_7 m hO c pt) y).trans ((after7 m hO c y).trans (ref_grad _ _ _ y).symm))
  · exact ((h c).1 8).trans ((dats m hO 0 c).arrAt_eq_of_after_last 8 pt (whole8 m hO) _ fun y =>
      (congrFun (after0_8 m hO c pt) y).trans ((after8 m hO c y).trans (ref_delta _ _ _ _ _ _ y).symm))
  · exact ((h c).1 9).trans ((dats m hO 0 c).arrAt_eq_of_after_last 9 pt (whole9 m hO) _ fun y =>
      (congrFun (after0_9 m hO c pt) y).trans ((after9 m hO c y).trans (ref_moment1 _ _ _ _ y).symm))
  · exact ((h c).1 10).trans ((dats m hO 0 c).arrAt_eq_of_after_last 10 pt (whole10 m hO) _ fun y =>
      (congrFun (after0_10 m hO c pt) y).trans ((after10 m hO c y).trans (ref_moment2 _ _ _ _ y).symm))
  · exact ((h c).1 11).trans ((dats m hO 0 c).arrAt_eq_of_after_last 11 pt (whole11 m hO) _ fun y =>
      (congrFun (after0_11 m hO c pt) y).trans ((after11 m hO c y).trans (ref_loss _ _ _ y).symm))

end Cert.AdamWideIdeal.Final

end
-- ==== Proof.AdamWideClaim.lean ====
module

public import proofs.«01_k».proof.Defs
public import proofs.«01_k».proof.Proof.AdamWideValue
public import proofs.«01_k».proof.Proof.Gen.AdamWideRefIdeal.Run
public import Idealize.ShloMosaic.Lib.Claim

/-! The AdamW step of the bias of the modulation, and the loss: kernel and reference leave the same five arrays. -/

@[expose] public section

set_option maxRecDepth 16384

noncomputable section

namespace Cert.Proof

open Idealize.ShloMosaic Idealize.SL.Sem

/-- The reference's run, its results named. -/
theorem run_AdamWideRef (m : (ℓ : Loc Cert.AdamWideRefIdeal.nD Cert.AdamWideRefIdeal.τ Cert.AdamWideRefIdeal.sig) → Buf (Elt Ideal) ℓ)
    (ρ : Dev Cert.AdamWideRefIdeal.nD → PrngReg) :
    θ_run Cert.AdamWideRefIdeal.defs (onTc (τ := Cert.AdamWideRefIdeal.τ) (Cert.AdamWideRefIdeal.main (F := Ideal))) ⟨m, fun _ => 0, ρ⟩ (fun r => ∀ c : Dev Cert.AdamWideRefIdeal.nD,
      r.2.mem (c.tc.loc Cert.AdamWideRefIdeal.main_v6)
        = Cert.AdamWideRefIdeal.Read.val_main_v6 (F := Ideal) (m (c.tc.loc Cert.AdamWideRefIdeal.main_arg0)) (m (c.tc.loc Cert.AdamWideRefIdeal.main_arg1)) (m (c.tc.loc Cert.AdamWideRefIdeal.main_arg3))
      ∧ r.2.mem (c.tc.loc Cert.AdamWideRefIdeal.main_v30)
        = Cert.AdamWideRefIdeal.Read.val_main_v30 (F := Ideal) (m (c.tc.loc Cert.AdamWideRefIdeal.main_arg0)) (m (c.tc.loc Cert.AdamWideRefIdeal.main_arg1)) (m (c.tc.loc Cert.AdamWideRefIdeal.main_arg3)) (m (c.tc.loc Cert.AdamWideRefIdeal.main_arg5)) (m (c.tc.loc Cert.AdamWideRefIdeal.main_arg6)) (m (c.tc.loc Cert.AdamWideRefIdeal.main_arg7))
      ∧ r.2.mem (c.tc.loc Cert.AdamWideRefIdeal.main_v11)
        = Cert.AdamWideRefIdeal.Read.val_main_v11 (F := Ideal) (m (c.tc.loc Cert.AdamWideRefIdeal.main_arg0)) (m (c.tc.loc Cert.AdamWideRefIdeal.main_arg1)) (m (c.tc.loc Cert.AdamWideRefIdeal.main_arg3)) (m (c.tc.loc Cert.AdamWideRefIdeal.main_arg6))
      ∧ r.2.mem (c.tc.loc Cert.AdamWideRefIdeal.main_v17)
        = Cert.AdamWideRefIdeal.Read.val_main_v17 (F := Ideal) (m (c.tc.loc Cert.AdamWideRefIdeal.main_arg0)) (m (c.tc.loc Cert.AdamWideRefIdeal.main_arg1)) (m (c.tc.loc Cert.AdamWideRefIdeal.main_arg3)) (m (c.tc.loc Cert.AdamWideRefIdeal.main_arg7))
      ∧ r.2.mem (c.tc.loc Cert.AdamWideRefIdeal.main_v37)
        = Cert.AdamWideRefIdeal.Read.val_main_v37 (F := Ideal) (m (c.tc.loc Cert.AdamWideRefIdeal.main_arg0)) (m (c.tc.loc Cert.AdamWideRefIdeal.main_arg2)) (m (c.tc.loc Cert.AdamWideRefIdeal.main_arg4))
      ∧ r.2.mem (c.tc.loc Cert.AdamWideRefIdeal.main_arg0) = m (c.tc.loc Cert.AdamWideRefIdeal.main_arg0)
      ∧ r.2.mem (c.tc.loc Cert.AdamWideRefIdeal.main_arg1) = m (c.tc.loc Cert.AdamWideRefIdeal.main_arg1)
      ∧ r.2.mem (c.tc.loc Cert.AdamWideRefIdeal.main_arg2) = m (c.tc.loc Cert.AdamWideRefIdeal.main_arg2)
      ∧ r.2.mem (c.tc.loc Cert.AdamWideRefIdeal.main_arg3) = m (c.tc.loc Cert.AdamWideRefIdeal.main_arg3)
      ∧ r.2.mem (c.tc.loc Cert.AdamWideRefIdeal.main_arg4) = m (c.tc.loc Cert.AdamWideRefIdeal.main_arg4)
      ∧ r.2.mem (c.tc.loc Cert.AdamWideRefIdeal.main_arg5) = m (c.tc.loc Cert.AdamWideRefIdeal.main_arg5)
      ∧ r.2.mem (c.tc.loc Cert.AdamWideRefIdeal.main_arg6) = m (c.tc.loc Cert.AdamWideRefIdeal.main_arg6)
      ∧ r.2.mem (c.tc.loc Cert.AdamWideRefIdeal.main_arg7) = m (c.tc.loc Cert.AdamWideRefIdeal.main_arg7)) :=
  (θ_run _ _ _).mono (fun r h c => ⟨(h c).1.trans (Cert.AdamWideRefIdeal.Read.val_main_v6_eq ..), (h c).2.1.trans (Cert.AdamWideRefIdeal.Read.val_main_v30_eq ..),
    (h c).2.2.1.trans (Cert.AdamWideRefIdeal.Read.val_main_v11_eq ..), (h c).2.2.2.1.trans (Cert.AdamWideRefIdeal.Read.val_main_v17_eq ..),
    (h c).2.2.2.2.1.trans (Cert.AdamWideRefIdeal.Read.val_main_v37_eq ..), (h c).2.2.2.2.2⟩) (Cert.AdamWideRefIdeal.Value.run m ρ)

set_option maxHeartbeats 1000000 in
/-- The AdamW step of the bias of the modulation, and the loss: kernel and reference leave the same five arrays. -/
theorem algebraic_AdamWide : Cert.algebraic_AdamWideIdeal_AdamWideRefIdeal := by
  pair_intro
  · run_from Cert.AdamWideIdeal.Gen.unchanged m g trivial & Cert.AdamWideIdeal.Final.run m g trivial
  · run_from run_AdamWideRef m' g'

end Cert.Proof

end
-- ==== Proof.AdamGatesValue.lean ====
module

public import proofs.«01_k».proof.Proof.Gen.AdamGatesIdeal.Frame
public import proofs.«01_k».proof.Proof.Gen.AdamGatesRefIdeal.Read
public import proofs.«01_k».proof.Proof.AdamRowValue

/-! The AdamW step of the bias of the gates, and the loss: what the kernel's run leaves in its five arrays. -/

@[expose] public section

set_option maxRecDepth 16384

noncomputable section

namespace Cert.AdamGatesIdeal.Final

open Idealize.ShloMosaic Idealize.ShloMosaic.TcCoe Idealize.SL.Sem
open Idealize.ShloMosaic.Pipeline (Dat)
open Cert.AdamGatesIdeal Cert.AdamGatesIdeal.Gen Cert.AdamStep
open Cert.AdamRowIdeal.Final (kloss kloss_apply)

/-- One entry of the whole gradient: the sum of the devices' terms, the device's own taken from its own array. -/
def grad (d : BitVec 32) (parts : FVec Ideal S8x1x128 .f32) (own : FVec Ideal S1x128 .f32) (i : S1x128.Idx) : EReal :=
  whole d (own i) fun k => parts (ix3 k 0 (i 1))

/-- The lane of the padded row that holds a gate's entry. -/
def lane (y : S1x8.Idx) : S1x128.Idx := ix2 0 ⟨(y 1).val, (y 1).isLt.trans (by decide)⟩

theorem ref_grad (d : IVec S1 32) (parts : FVec Ideal S8x1x128 .f32) (own : FVec Ideal S1x128 .f32) (y : S1x8.Idx) :
    Cert.AdamGatesRefIdeal.Read.val_main_v7 (F := Ideal) d parts own y = grad (d (ix1 0)) parts own (lane y) := by
  simp only [← Cert.AdamGatesRefIdeal.Read.val_main_v7_eq]
  pointwise [grad, whole, lane]

theorem ref_loss (d : IVec S1 32) (parts : FVec Ideal S8x1x128 .f32) (own : FVec Ideal S1x128 .f32) (y : S1x128.Idx) :
    Cert.AdamGatesRefIdeal.Read.val_main_v38 (F := Ideal) d parts own y = loss (d (ix1 0)) parts own y := by
  simp only [← Cert.AdamGatesRefIdeal.Read.val_main_v38_eq]
  pointwise [loss, whole, row_eq y]

theorem ref_delta (d : IVec S1 32) (parts : FVec Ideal S8x1x128 .f32) (own : FVec Ideal S1x128 .f32) (w v1 v2 : FVec Ideal S1x8 .f32) (y : S1x8.Idx) :
    Cert.AdamGatesRefIdeal.Read.val_main_v31 (F := Ideal) d parts own w v1 v2 y = delta (grad (d (ix1 0)) parts own (lane y)) (w y) (v1 y) (v2 y) := by
  simp only [← ref_grad]
  simp only [← Cert.AdamGatesRefIdeal.Read.val_main_v31_eq, ← Cert.AdamGatesRefIdeal.Read.val_main_v7_eq]
  pointwise [delta, moment1, moment2]

theorem ref_moment1 (d : IVec S1 32) (parts : FVec Ideal S8x1x128 .f32) (own : FVec Ideal S1x128 .f32) (v : FVec Ideal S1x8 .f32) (y : S1x8.Idx) :
    Cert.AdamGatesRefIdeal.Read.val_main_v12 (F := Ideal) d parts own v y = moment1 (grad (d (ix1 0)) parts own (lane y)) (v y) := by
  simp only [← ref_grad]
  simp only [← Cert.AdamGatesRefIdeal.Read.val_main_v12_eq, ← Cert.AdamGatesRefIdeal.Read.val_main_v7_eq]
  pointwise [moment1]

theorem ref_moment2 (d : IVec S1 32) (parts : FVec Ideal S8x1x128 .f32) (own : FVec Ideal S1x128 .f32) (v : FVec Ideal S1x8 .f32) (y : S1x8.Idx) :
    Cert.AdamGatesRefIdeal.Read.val_main_v18 (F := Ideal) d parts own v y = moment2 (grad (d (ix1 0)) parts own (lane y)) (v y) := by
  simp only [← ref_grad]
  simp only [← Cert.AdamGatesRefIdeal.Read.val_main_v18_eq, ← Cert.AdamGatesRefIdeal.Read.val_main_v7_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- One device's terms, as the kernel loads them. -/
abbrev term (parts : FVec Ideal S8x1x128 .f32) (k : ℕ) (h : ∀ a, (![k, 0, 0] : Fin 3 → ℕ) a + S1x1x128.size a ≤ S8x1x128.size a) : FVec Ideal S1x1x128 .f32 :=
  View.ld (Val := Elt Ideal) (e' := .f32) parts (Rect.unit ![k, 0, 0] ![1, 1, 128] h)

/-- The gradient as the kernel adds it up, from the device's number, the others' terms and its own. -/
def ksum (d : BitVec 32) (parts : FVec Ideal S8x1x128 .f32) (own : FVec Ideal S1x128 .f32) : FVec Ideal S1x8 .f32 :=
  k0_pay3 (k0_pay2 d own (term parts 0 inb_S8x1x128_S1x1x128_0_0_0)
      d own (term parts 1 inb_S8x1x128_S1x1x128_1_0_0)
      d own (term parts 2 inb_S8x1x128_S1x1x128_2_0_0)
      d own (term parts 3 inb_S8x1x128_S1x1x128_3_0_0))
    (Scalar.cmpi .eq d 4#32) own (term parts 4 inb_S8x1x128_S1x1x128_4_0_0)
    d own (term parts 5 inb_S8x1x128_S1x1x128_5_0_0)
    d own (term parts 6 inb_S8x1x128_S1x1x128_6_0_0)
    d own (term parts 7 inb_S8x1x128_S1x1x128_7_0_0)

theorem ksum_apply (d : BitVec 32) (parts : FVec Ideal S8x1x128 .f32) (own : FVec Ideal S1x128 .f32) (y : S1x8.Idx) :
    ksum d parts own y = grad d parts own (lane y) := by
  rw [grad, whole, Fin.sum_univ_eight]
  pointwise [ksum, term, k0_pay3, k0_pay2, lane]
  simp only [cmpi_comm d]

theorem pay_moment1 (s : FVec Ideal S1x8 .f32) (v : FVec Ideal S1x8 .f32) (y : S1x8.Idx) :
    k0_pay4 (F := Ideal) s v y = moment1 (s y) (v y) := by
  pointwise [k0_pay4, moment1]

theorem pay_moment2 (s : FVec Ideal S1x8 .f32) (v : FVec Ideal S1x8 .f32) (y : S1x8.Idx) :
    k0_pay5 (F := Ideal) s v y = moment2 (s y) (v y) := by
  pointwise [k0_pay5, moment2]

theorem pay_delta (s : FVec Ideal S1x8 .f32) (w v v' : FVec Ideal S1x8 .f32) (y : S1x8.Idx) :
    k0_pay6 (F := Ideal) s w v v' y = delta (s y) (w y) (v y) (v' y) := by
  pointwise [k0_pay6, delta, ← pay_moment1 s v y, ← pay_moment2 s v' y]

/-- The grid's one point. -/
abbrev pt : Fin grid0.N := ⟨0, by decide⟩

theorem whole7 (hO : Ok m) : ((cfgM m hO).win 7).WholeAt pt :=
  ⟨flush0_7 _ _, fun t _ => Subsingleton.elim (α := Fin 1) _ _, fun a => ⟨(by decide +kernel :
    ∀ a : Fin 2, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 2, cc0_transform_8 (grid0.coords pt) a = 0) a, by fin_cases a <;> rfl⟩⟩

theorem whole9 (hO : Ok m) : ((cfgM m hO).win 9).WholeAt pt :=
  ⟨flush0_9 _ _, fun t _ => Subsingleton.elim (α := Fin 1) _ _, fun a => ⟨(by decide +kernel :
    ∀ a : Fin 2, cc0_transform_9 (grid0.coords pt) a = 0) a, by fin_cases a <;> rfl⟩⟩

theorem whole10 (hO : Ok m) : ((cfgM m hO).win 10).WholeAt pt :=
  ⟨flush0_10 _ _, fun t _ => Subsingleton.elim (α := Fin 1) _ _, fun a => ⟨(by decide +kernel :
    ∀ a : Fin 2, cc0_transform_10 (grid0.coords pt) a = 0) a, by fin_cases a <;> rfl⟩⟩

theorem whole11 (hO : Ok m) : ((cfgM m hO).win 11).WholeAt pt :=
  ⟨flush0_11 _ _, fun t _ => Subsingleton.elim (α := Fin 1) _ _, fun a => ⟨(by decide +kernel :
    ∀ a : Fin 2, cc0_transform_11 (grid0.coords pt) a = 0) a, by fin_cases a <;> rfl⟩⟩

theorem read0 (hO : Ok m) (c : Dev nD) : View.read (Elt Ideal) (ms0_0 m hO pt).view ((hs0_0 m hO pt).unread (iblk m hO c 0 pt))
    = m ((c : Thread nD τ).loc main_arg1) := by
  refine (Memref.IsWhole.read_unread (hs0_0 m hO pt) (iblk m hO c 0 pt)).trans (funext fun (x : S8x1x128.Idx) => ?_)
  exact congrArg (m ((c : Thread nD τ).loc main_arg1)) (funext fun a => Fin.ext
    (at_origin ((by decide +kernel : ∀ a, cc0_transform_0 (grid0.coords pt) a = 0) a)))

theorem read1 (hO : Ok m) (c : Dev nD) : View.read (Elt Ideal) (ms0_1 m hO pt).view ((hs0_1 m hO pt).unread (iblk m hO c 1 pt))
    = m ((c : Thread nD τ).loc main_arg2) := by
  refine (Memref.IsWhole.read_unread (hs0_1 m hO pt) (iblk m hO c 1 pt)).trans (funext fun (x : S8x1x128.Idx) => ?_)
  exact congrArg (m ((c : Thread nD τ).loc main_arg2)) (funext fun a => Fin.ext
    (at_origin ((by decide +kernel : ∀ a, cc0_transform_1 (grid0.coords pt) a = 0) a)))

theorem read2 (hO : Ok m) (c : Dev nD) : View.read (Elt Ideal) (ms0_2 m hO pt).view ((hs0_2 m hO pt).unread (iblk m hO c 2 pt))
    = m ((c : Thread nD τ).loc main_arg3) := by
  refine (Memref.IsWhole.read_unread (hs0_2 m hO pt) (iblk m hO c 2 pt)).trans (funext fun (x : S1x128.Idx) => ?_)
  exact congrArg (m ((c : Thread nD τ).loc main_arg3)) (funext fun a => Fin.ext
    (at_origin ((by decide +kernel : ∀ a, cc0_transform_2 (grid0.coords pt) a = 0) a)))

theorem read3 (hO : Ok m) (c : Dev nD) : View.read (Elt Ideal) (ms0_3 m hO pt).view ((hs0_3 m hO pt).unread (iblk m hO c 3 pt))
    = m ((c : Thread nD τ).loc main_arg4) := by
  refine (Memref.IsWhole.read_unread (hs0_3 m hO pt) (iblk m hO c 3 pt)).trans (funext fun (x : S1x128.Idx) => ?_)
  exact congrArg (m ((c : Thread nD τ).loc main_arg4)) (funext fun a => Fin.ext
    (at_origin ((by decide +kernel : ∀ a, cc0_transform_3 (grid0.coords pt) a = 0) a)))

theorem read4 (hO : Ok m) (c : Dev nD) : View.read (Elt Ideal) (ms0_4 m hO pt).view ((hs0_4 m hO pt).unread (iblk m hO c 4 pt))
    = m ((c : Thread nD τ).loc main_arg5) := by
  refine (Memref.IsWhole.read_unread (hs0_4 m hO pt) (iblk m hO c 4 pt)).trans (funext fun (x : S1x8.Idx) => ?_)
  exact congrArg (m ((c : Thread nD τ).loc main_arg5)) (funext fun a => Fin.ext
    (at_origin ((by decide +kernel : ∀ a, cc0_transform_4 (grid0.coords pt) a = 0) a)))

theorem read5 (hO : Ok m) (c : Dev nD) : View.read (Elt Ideal) (ms0_5 m hO pt).view ((hs0_5 m hO pt).unread (iblk m hO c 5 pt))
    = m ((c : Thread nD τ).loc main_arg6) := by
  refine (Memref.IsWhole.read_unread (hs0_5 m hO pt) (iblk m hO c 5 pt)).trans (funext fun (x : S1x8.Idx) => ?_)
  exact congrArg (m ((c : Thread nD τ).loc main_arg6)) (funext fun a => Fin.ext
    (at_origin ((by decide +kernel : ∀ a, cc0_transform_5 (grid0.coords pt) a = 0) a)))

theorem read6 (hO : Ok m) (c : Dev nD) : View.read (Elt Ideal) (ms0_6 m hO pt).view ((hs0_6 m hO pt).unread (iblk m hO c 6 pt))
    = m ((c : Thread nD τ).loc main_arg7) := by
  refine (Memref.IsWhole.read_unread (hs0_6 m hO pt) (iblk m hO c 6 pt)).trans (funext fun (x : S1x8.Idx) => ?_)
  exact congrArg (m ((c : Thread nD τ).loc main_arg7)) (funext fun a => Fin.ext
    (at_origin ((by decide +kernel : ∀ a, cc0_transform_6 (grid0.coords pt) a = 0) a)))

/-- What the kernel adds up of its staging buffers is the gradient. -/
theorem ksum_read (hO : Ok m) (c : Dev nD) (y : S1x8.Idx) : ksum (dev m c)
    (View.read (Elt Ideal) (ms0_0 m hO pt).view ((hs0_0 m hO pt).unread (iblk m hO c 0 pt)))
    (View.read (Elt Ideal) (ms0_2 m hO pt).view ((hs0_2 m hO pt).unread (iblk m hO c 2 pt))) y
      = grad (dev m c) (m ((c : Thread nD τ).loc main_arg1)) (m ((c : Thread nD τ).loc main_arg3)) (lane y) :=
  (congrFun (congrArg₂ (ksum (dev m c)) (read0 m hO c) (read2 m hO c)) y).trans (ksum_apply _ _ _ y)

theorem after7 (hO : Ok m) (c : Dev nD) (y : S1x8.Idx) : (outsAt0 m hO c pt).1 y = grad (dev m c) (m ((c : Thread nD τ).loc main_arg1)) (m ((c : Thread nD τ).loc main_arg3)) (lane y) := by
  unfold outsAt0
  dsimp only
  frame_out
  simp only [kdev m hO c]
  exact ksum_read m hO c y

theorem after8 (hO : Ok m) (c : Dev nD) (y : S1x8.Idx) : (outsAt0 m hO c pt).2.1 y
    = delta (grad (dev m c) (m ((c : Thread nD τ).loc main_arg1)) (m ((c : Thread nD τ).loc main_arg3)) (lane y)) (m ((c : Thread nD τ).loc main_arg5) y) (m ((c : Thread nD τ).loc main_arg6) y) (m ((c : Thread nD τ).loc main_arg7) y) := by
  unfold outsAt0
  dsimp only
  frame_out
  simp only [kdev m hO c]
  exact (pay_delta _ _ _ _ y).trans (congr (congr (congrArg₂ delta (ksum_read m hO c y) (congrFun (read4 m hO c) y))
    (congrFun (read5 m hO c) y)) (congrFun (read6 m hO c) y))

theorem after9 (hO : Ok m) (c : Dev nD) (y : S1x8.Idx) : (outsAt0 m hO c pt).2.2.1 y
    = moment1 (grad (dev m c) (m ((c : Thread nD τ).loc main_arg1)) (m ((c : Thread nD τ).loc main_arg3)) (lane y)) (m ((c : Thread nD τ).loc main_arg6) y) := by
  unfold outsAt0
  dsimp only
  frame_out
  simp only [kdev m hO c]
  exact (pay_moment1 _ _ y).trans (congrArg₂ moment1 (ksum_read m hO c y) (congrFun (read5 m hO c) y))

theorem after10 (hO : Ok m) (c : Dev nD) (y : S1x8.Idx) : (outsAt0 m hO c pt).2.2.2.1 y
    = moment2 (grad (dev m c) (m ((c : Thread nD τ).loc main_arg1)) (m ((c : Thread nD τ).loc main_arg3)) (lane y)) (m ((c : Thread nD τ).loc main_arg7) y) := by
  unfold outsAt0
  dsimp only
  frame_out
  simp only [kdev m hO c]
  exact (pay_moment2 _ _ y).trans (congrArg₂ moment2 (ksum_read m hO c y) (congrFun (read6 m hO c) y))

theorem after11 (hO : Ok m) (c : Dev nD) (y : S1x128.Idx) : (outsAt0 m hO c pt).2.2.2.2 y
    = loss (dev m c) (m ((c : Thread nD τ).loc main_arg2)) (m ((c : Thread nD τ).loc main_arg4)) y := by
  unfold outsAt0
  dsimp only
  frame_out
  simp only [kdev m hO c]
  exact (congrFun (congrArg₂ (kloss (dev m c)) (read1 m hO c) (read3 m hO c)) y).trans (kloss_apply _ _ _ y)

/-- The kernel's run ends with the reference's values in its five arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamGatesRefIdeal.Read.val_main_v7 (F := Ideal) (m ((c : Thread nD τ).loc main_arg0)) (m ((c : Thread nD τ).loc main_arg1)) (m ((c : Thread nD τ).loc main_arg3))
      ∧ r.2.mem ((c.tc : Thread nD τ).loc main_v0_1)
        = Cert.AdamGatesRefIdeal.Read.val_main_v31 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))
      ∧ r.2.mem ((c.tc : Thread nD τ).loc main_v0_2)
        = Cert.AdamGatesRefIdeal.Read.val_main_v12 (F := Ideal) (m ((c : Thread nD τ).loc main_arg0)) (m ((c : Thread nD τ).loc main_arg1)) (m ((c : Thread nD τ).loc main_arg3)) (m ((c : Thread nD τ).loc main_arg6))
      ∧ r.2.mem ((c.tc : Thread nD τ).loc main_v0_3)
        = Cert.AdamGatesRefIdeal.Read.val_main_v18 (F := Ideal) (m ((c : Thread nD τ).loc main_arg0)) (m ((c : Thread nD τ).loc main_arg1)) (m ((c : Thread nD τ).loc main_arg3)) (m ((c : Thread nD τ).loc main_arg7))
      ∧ r.2.mem ((c.tc : Thread nD τ).loc main_v0_4)
        = Cert.AdamGatesRefIdeal.Read.val_main_v38 (F := Ideal) (m ((c : Thread nD τ).loc main_arg0)) (m ((c : Thread nD τ).loc main_arg2)) (m ((c : Thread nD τ).loc main_arg4))) := by
  refine (θ_run _ _ _).mono (fun r h c => ⟨?_, ?_, ?_, ?_, ?_⟩) (run_main m ρ hO)
  · exact ((h c).1 7).trans ((dats m hO 0 c).arrAt_eq_of_after_last 7 pt (whole7 m hO) _ fun y =>
      (congrFun (after0_7 m hO c pt) y).trans ((after7 m hO c y).trans (ref_grad _ _ _ y).symm))
  · exact ((h c).1 8).trans ((dats m hO 0 c).arrAt_eq_of_after_last 8 pt (whole8 m hO) _ fun y =>
      (congrFun (after0_8 m hO c pt) y).trans ((after8 m hO c y).trans (ref_delta _ _ _ _ _ _ y).symm))
  · exact ((h c).1 9).trans ((dats m hO 0 c).arrAt_eq_of_after_last 9 pt (whole9 m hO) _ fun y =>
      (congrFun (after0_9 m hO c pt) y).trans ((after9 m hO c y).trans (ref_moment1 _ _ _ _ y).symm))
  · exact ((h c).1 10).trans ((dats m hO 0 c).arrAt_eq_of_after_last 10 pt (whole10 m hO) _ fun y =>
      (congrFun (after0_10 m hO c pt) y).trans ((after10 m hO c y).trans (ref_moment2 _ _ _ _ y).symm))
  · exact ((h c).1 11).trans ((dats m hO 0 c).arrAt_eq_of_after_last 11 pt (whole11 m hO) _ fun y =>
      (congrFun (after0_11 m hO c pt) y).trans ((after11 m hO c y).trans (ref_loss _ _ _ y).symm))

end Cert.AdamGatesIdeal.Final

end
-- ==== Proof.AdamGatesClaim.lean ====
module

public import proofs.«01_k».proof.Defs
public import proofs.«01_k».proof.Proof.AdamGatesValue
public import proofs.«01_k».proof.Proof.Gen.AdamGatesRefIdeal.Run
public import Idealize.ShloMosaic.Lib.Claim

/-! The AdamW step of the bias of the gates, and the loss: kernel and reference leave the same five arrays. -/

@[expose] public section

set_option maxRecDepth 16384

noncomputable section

namespace Cert.Proof

open Idealize.ShloMosaic Idealize.SL.Sem

/-- The reference's run, its results named. -/
theorem run_AdamGatesRef (m : (ℓ : Loc Cert.AdamGatesRefIdeal.nD Cert.AdamGatesRefIdeal.τ Cert.AdamGatesRefIdeal.sig) → Buf (Elt Ideal) ℓ)
    (ρ : Dev Cert.AdamGatesRefIdeal.nD → PrngReg) :
    θ_run Cert.AdamGatesRefIdeal.defs (onTc (τ := Cert.AdamGatesRefIdeal.τ) (Cert.AdamGatesRefIdeal.main (F := Ideal))) ⟨m, fun _ => 0, ρ⟩ (fun r => ∀ c : Dev Cert.AdamGatesRefIdeal.nD,
      r.2.mem (c.tc.loc Cert.AdamGatesRefIdeal.main_v7)
        = Cert.AdamGatesRefIdeal.Read.val_main_v7 (F := Ideal) (m (c.tc.loc Cert.AdamGatesRefIdeal.main_arg0)) (m (c.tc.loc Cert.AdamGatesRefIdeal.main_arg1)) (m (c.tc.loc Cert.AdamGatesRefIdeal.main_arg3))
      ∧ r.2.mem (c.tc.loc Cert.AdamGatesRefIdeal.main_v31)
        = Cert.AdamGatesRefIdeal.Read.val_main_v31 (F := Ideal) (m (c.tc.loc Cert.AdamGatesRefIdeal.main_arg0)) (m (c.tc.loc Cert.AdamGatesRefIdeal.main_arg1)) (m (c.tc.loc Cert.AdamGatesRefIdeal.main_arg3)) (m (c.tc.loc Cert.AdamGatesRefIdeal.main_arg5)) (m (c.tc.loc Cert.AdamGatesRefIdeal.main_arg6)) (m (c.tc.loc Cert.AdamGatesRefIdeal.main_arg7))
      ∧ r.2.mem (c.tc.loc Cert.AdamGatesRefIdeal.main_v12)
        = Cert.AdamGatesRefIdeal.Read.val_main_v12 (F := Ideal) (m (c.tc.loc Cert.AdamGatesRefIdeal.main_arg0)) (m (c.tc.loc Cert.AdamGatesRefIdeal.main_arg1)) (m (c.tc.loc Cert.AdamGatesRefIdeal.main_arg3)) (m (c.tc.loc Cert.AdamGatesRefIdeal.main_arg6))
      ∧ r.2.mem (c.tc.loc Cert.AdamGatesRefIdeal.main_v18)
        = Cert.AdamGatesRefIdeal.Read.val_main_v18 (F := Ideal) (m (c.tc.loc Cert.AdamGatesRefIdeal.main_arg0)) (m (c.tc.loc Cert.AdamGatesRefIdeal.main_arg1)) (m (c.tc.loc Cert.AdamGatesRefIdeal.main_arg3)) (m (c.tc.loc Cert.AdamGatesRefIdeal.main_arg7))
      ∧ r.2.mem (c.tc.loc Cert.AdamGatesRefIdeal.main_v38)
        = Cert.AdamGatesRefIdeal.Read.val_main_v38 (F := Ideal) (m (c.tc.loc Cert.AdamGatesRefIdeal.main_arg0)) (m (c.tc.loc Cert.AdamGatesRefIdeal.main_arg2)) (m (c.tc.loc Cert.AdamGatesRefIdeal.main_arg4))
      ∧ r.2.mem (c.tc.loc Cert.AdamGatesRefIdeal.main_arg0) = m (c.tc.loc Cert.AdamGatesRefIdeal.main_arg0)
      ∧ r.2.mem (c.tc.loc Cert.AdamGatesRefIdeal.main_arg1) = m (c.tc.loc Cert.AdamGatesRefIdeal.main_arg1)
      ∧ r.2.mem (c.tc.loc Cert.AdamGatesRefIdeal.main_arg2) = m (c.tc.loc Cert.AdamGatesRefIdeal.main_arg2)
      ∧ r.2.mem (c.tc.loc Cert.AdamGatesRefIdeal.main_arg3) = m (c.tc.loc Cert.AdamGatesRefIdeal.main_arg3)
      ∧ r.2.mem (c.tc.loc Cert.AdamGatesRefIdeal.main_arg4) = m (c.tc.loc Cert.AdamGatesRefIdeal.main_arg4)
      ∧ r.2.mem (c.tc.loc Cert.AdamGatesRefIdeal.main_arg5) = m (c.tc.loc Cert.AdamGatesRefIdeal.main_arg5)
      ∧ r.2.mem (c.tc.loc Cert.AdamGatesRefIdeal.main_arg6) = m (c.tc.loc Cert.AdamGatesRefIdeal.main_arg6)
      ∧ r.2.mem (c.tc.loc Cert.AdamGatesRefIdeal.main_arg7) = m (c.tc.loc Cert.AdamGatesRefIdeal.main_arg7)) :=
  (θ_run _ _ _).mono (fun r h c => ⟨(h c).1.trans (Cert.AdamGatesRefIdeal.Read.val_main_v7_eq ..), (h c).2.1.trans (Cert.AdamGatesRefIdeal.Read.val_main_v31_eq ..),
    (h c).2.2.1.trans (Cert.AdamGatesRefIdeal.Read.val_main_v12_eq ..), (h c).2.2.2.1.trans (Cert.AdamGatesRefIdeal.Read.val_main_v18_eq ..),
    (h c).2.2.2.2.1.trans (Cert.AdamGatesRefIdeal.Read.val_main_v38_eq ..), (h c).2.2.2.2.2⟩) (Cert.AdamGatesRefIdeal.Value.run m ρ)

set_option maxHeartbeats 1000000 in
/-- The AdamW step of the bias of the gates, and the loss: kernel and reference leave the same five arrays. -/
theorem algebraic_AdamGates : Cert.algebraic_AdamGatesIdeal_AdamGatesRefIdeal := by
  pair_intro
  · run_from Cert.AdamGatesIdeal.Gen.unchanged m g trivial & Cert.AdamGatesIdeal.Final.run m g trivial
  · run_from run_AdamGatesRef m' g'

end Cert.Proof

end
-- ==== Proof.AdamPoolValue.lean ====
module

public import proofs.«01_k».proof.Proof.Gen.AdamPoolIdeal.Frame
public import proofs.«01_k».proof.Proof.Gen.AdamPoolRefIdeal.Read
public import proofs.«01_k».proof.Proof.AdamStep

/-! The AdamW step of the pooling kernels, and the loss: what the kernel's run leaves in its five arrays. -/

@[expose] public section

set_option maxRecDepth 16384

noncomputable section

namespace Cert.AdamPoolIdeal.Final

open Idealize.ShloMosaic Idealize.ShloMosaic.TcCoe Idealize.SL.Sem
open Idealize.ShloMosaic.Pipeline (Dat)
open Cert.AdamPoolIdeal Cert.AdamPoolIdeal.Gen Cert.AdamStep

/-- One entry of the whole gradient: the sum of the devices' terms, the device's own taken from its own array. -/
def grad (d : BitVec 32) (parts : FVec Ideal S8x4x128x128 .f32) (own : FVec Ideal S4x128x128 .f32) (i : S4x128x128.Idx) : EReal :=
  whole d (own i) fun k => parts (ix4 k (i 0) (i 1) (i 2))

theorem ref_grad (d : IVec S1 32) (parts : FVec Ideal S8x4x128x128 .f32) (own : FVec Ideal S4x128x128 .f32) (y : S4x128x128.Idx) :
    Cert.AdamPoolRefIdeal.Read.val_main_v6 (F := Ideal) d parts own y = grad (d (ix1 0)) parts own y := by
  simp only [← Cert.AdamPoolRefIdeal.Read.val_main_v6_eq]
  pointwise [grad, whole]

theorem ref_loss (d : IVec S1 32) (parts : FVec Ideal S8x1x128 .f32) (own : FVec Ideal S1x128 .f32) (y : S1x128.Idx) :
    Cert.AdamPoolRefIdeal.Read.val_main_v37 (F := Ideal) d parts own y = loss (d (ix1 0)) parts own y := by
  simp only [← Cert.AdamPoolRefIdeal.Read.val_main_v37_eq]
  pointwise [loss, whole, row_eq y]

theorem ref_delta (d : IVec S1 32) (parts : FVec Ideal S8x4x128x128 .f32) (own : FVec Ideal S4x128x128 .f32) (w v1 v2 : FVec Ideal S4x128x128 .f32) (y : S4x128x128.Idx) :
    Cert.AdamPoolRefIdeal.Read.val_main_v30 (F := Ideal) d parts own w v1 v2 y = delta (grad (d (ix1 0)) parts own y) (w y) (v1 y) (v2 y) := by
  simp only [← ref_grad]
  simp only [← Cert.AdamPoolRefIdeal.Read.val_main_v30_eq, ← Cert.AdamPoolRefIdeal.Read.val_main_v6_eq]
  pointwise [delta, moment1, moment2]

theorem ref_moment1 (d : IVec S1 32) (parts : FVec Ideal S8x4x128x128 .f32) (own : FVec Ideal S4x128x128 .f32) (v : FVec Ideal S4x128x128 .f32) (y : S4x128x128.Idx) :
    Cert.AdamPoolRefIdeal.Read.val_main_v11 (F := Ideal) d parts own v y = moment1 (grad (d (ix1 0)) parts own y) (v y) := by
  simp only [← ref_grad]
  simp only [← Cert.AdamPoolRefIdeal.Read.val_main_v11_eq, ← Cert.AdamPoolRefIdeal.Read.val_main_v6_eq]
  pointwise [moment1]

theorem ref_moment2 (d : IVec S1 32) (parts : FVec Ideal S8x4x128x128 .f32) (own : FVec Ideal S4x128x128 .f32) (v : FVec Ideal S4x128x128 .f32) (y : S4x128x128.Idx) :
    Cert.AdamPoolRefIdeal.Read.val_main_v17 (F := Ideal) d parts own v y = moment2 (grad (d (ix1 0)) parts own y) (v y) := by
  simp only [← ref_grad]
  simp only [← Cert.AdamPoolRefIdeal.Read.val_main_v17_eq, ← Cert.AdamPoolRefIdeal.Read.val_main_v6_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- One device's terms, as the kernel loads them. -/
abbrev term (parts : FVec Ideal S8x4x128x128 .f32) (k : ℕ) (h : ∀ a, (![k, 0, 0, 0] : Fin 4 → ℕ) a + S1x4x128x128.size a ≤ S8x4x128x128.size a) : FVec Ideal S1x4x128x128 .f32 :=
  View.ld (Val := Elt Ideal) (e' := .f32) parts (Rect.unit ![k, 0, 0, 0] ![1, 4, 128, 128] h)

/-- The gradient as the kernel adds it up, from the device's number, the others' terms and its own. -/
def ksum (d : BitVec 32) (parts : FVec Ideal S8x4x128x128 .f32) (own : FVec Ideal S4x128x128 .f32) : FVec Ideal S4x128x128 .f32 :=
  k0_pay4 (k0_pay3 (k0_pay2 d own (term parts 0 inb_S8x4x128x128_S1x4x128x128_0_0_0_0)
        d own (term parts 1 inb_S8x4x128x128_S1x4x128x128_1_0_0_0)
        d own (term parts 2 inb_S8x4x128x128_S1x4x128x128_2_0_0_0))
      (Scalar.cmpi .eq d 3#32) own (term parts 3 inb_S8x4x128x128_S1x4x128x128_3_0_0_0)
      d own (term parts 4 inb_S8x4x128x128_S1x4x128x128_4_0_0_0)
      d own (term parts 5 inb_S8x4x128x128_S1x4x128x128_5_0_0_0)
      d own (term parts 6 inb_S8x4x128x128_S1x4x128x128_6_0_0_0))
    (Scalar.cmpi .eq d 7#32) own (term parts 7 inb_S8x4x128x128_S1x4x128x128_7_0_0_0)

theorem ksum_apply (d : BitVec 32) (parts : FVec Ideal S8x4x128x128 .f32) (own : FVec Ideal S4x128x128 .f32) (y : S4x128x128.Idx) :
    ksum d parts own y = grad d parts own y := by
  rw [grad, whole, Fin.sum_univ_eight]
  pointwise [ksum, term, k0_pay4, k0_pay3, k0_pay2]
  simp only [cmpi_comm d]

/-- One device's terms of the loss, as the kernel loads them. -/
abbrev lossTerm (parts : FVec Ideal S8x1x128 .f32) (k : ℕ) (h : ∀ a, (![k, 0, 0] : Fin 3 → ℕ) a + S1x1x128.size a ≤ S8x1x128.size a) : FVec Ideal S1x1x128 .f32 :=
  View.ld (Val := Elt Ideal) (e' := .f32) parts (Rect.unit ![k, 0, 0] ![1, 1, 128] h)

/-- The loss as the kernel adds it up. -/
def kloss (d : BitVec 32) (parts : FVec Ideal S8x1x128 .f32) (own : FVec Ideal S1x128 .f32) : FVec Ideal S1x128 .f32 :=
  k0_pay1 (k0_pay9 (k0_pay8 d own (lossTerm parts 0 inb_S8x1x128_S1x1x128_0_0_0)
        d own (lossTerm parts 1 inb_S8x1x128_S1x1x128_1_0_0)
        d own (lossTerm parts 2 inb_S8x1x128_S1x1x128_2_0_0))
      (Scalar.cmpi .eq d 3#32) own (lossTerm parts 3 inb_S8x1x128_S1x1x128_3_0_0)
      d own (lossTerm parts 4 inb_S8x1x128_S1x1x128_4_0_0)
      d own (lossTerm parts 5 inb_S8x1x128_S1x1x128_5_0_0)
      d own (lossTerm parts 6 inb_S8x1x128_S1x1x128_6_0_0))
    (Scalar.cmpi .eq d 7#32) own (lossTerm parts 7 inb_S8x1x128_S1x1x128_7_0_0)

theorem kloss_apply (d : BitVec 32) (parts : FVec Ideal S8x1x128 .f32) (own : FVec Ideal S1x128 .f32) (y : S1x128.Idx) :
    kloss d parts own y = loss d parts own y := by
  rw [loss, whole, Fin.sum_univ_eight]
  pointwise [kloss, lossTerm, k0_pay1, k0_pay9, k0_pay8]
  simp only [cmpi_comm d]

theorem pay_moment1 (a b c d) (v : FVec Ideal S4x128x128 .f32) (y : S4x128x128.Idx) :
    k0_pay5 (F := Ideal) a b c d v y = moment1 (k0_pay4 (F := Ideal) a b c d y) (v y) := by
  pointwise [k0_pay5, moment1]

theorem pay_moment2 (a b c d) (v : FVec Ideal S4x128x128 .f32) (y : S4x128x128.Idx) :
    k0_pay6 (F := Ideal) a b c d v y = moment2 (k0_pay4 (F := Ideal) a b c d y) (v y) := by
  pointwise [k0_pay6, moment2]

theorem pay_delta (a b c d) (w v v' : FVec Ideal S4x128x128 .f32) (y : S4x128x128.Idx) :
    k0_pay7 (F := Ideal) a b c d w v v' y = delta (k0_pay4 (F := Ideal) a b c d y) (w y) (v y) (v' y) := by
  pointwise [k0_pay7, delta, ← pay_moment1 a b c d v y, ← pay_moment2 a b c d v' y]

/-- The grid's one point. -/
abbrev pt : Fin grid0.N := ⟨0, by decide⟩

theorem whole7 (hO : Ok m) : ((cfgM m hO).win 7).WholeAt pt :=
  ⟨flush0_7 _ _, fun t _ => Subsingleton.elim (α := Fin 1) _ _, fun a => ⟨(by decide +kernel :
    ∀ a : Fin 3, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 3, cc0_transform_8 (grid0.coords pt) a = 0) a, by fin_cases a <;> rfl⟩⟩

theorem whole9 (hO : Ok m) : ((cfgM m hO).win 9).WholeAt pt :=
  ⟨flush0_9 _ _, fun t _ => Subsingleton.elim (α := Fin 1) _ _, fun a => ⟨(by decide +kernel :
    ∀ a : Fin 3, cc0_transform_9 (grid0.coords pt) a = 0) a, by fin_cases a <;> rfl⟩⟩

theorem whole10 (hO : Ok m) : ((cfgM m hO).win 10).WholeAt pt :=
  ⟨flush0_10 _ _, fun t _ => Subsingleton.elim (α := Fin 1) _ _, fun a => ⟨(by decide +kernel :
    ∀ a : Fin 3, cc0_transform_10 (grid0.coords pt) a = 0) a, by fin_cases a <;> rfl⟩⟩

theorem whole11 (hO : Ok m) : ((cfgM m hO).win 11).WholeAt pt :=
  ⟨flush0_11 _ _, fun t _ => Subsingleton.elim (α := Fin 1) _ _, fun a => ⟨(by decide +kernel :
    ∀ a : Fin 2, cc0_transform_11 (grid0.coords pt) a = 0) a, by fin_cases a <;> rfl⟩⟩

theorem read0 (hO : Ok m) (c : Dev nD) : View.read (Elt Ideal) (ms0_0 m hO pt).view ((hs0_0 m hO pt).unread (iblk m hO c 0 pt))
    = m ((c : Thread nD τ).loc main_arg1) := by
  refine (Memref.IsWhole.read_unread (hs0_0 m hO pt) (iblk m hO c 0 pt)).trans (funext fun (x : S8x4x128x128.Idx) => ?_)
  exact congrArg (m ((c : Thread nD τ).loc main_arg1)) (funext fun a => Fin.ext
    (at_origin ((by decide +kernel : ∀ a, cc0_transform_0 (grid0.coords pt) a = 0) a)))

theorem read1 (hO : Ok m) (c : Dev nD) : View.read (Elt Ideal) (ms0_1 m hO pt).view ((hs0_1 m hO pt).unread (iblk m hO c 1 pt))
    = m ((c : Thread nD τ).loc main_arg2) := by
  refine (Memref.IsWhole.read_unread (hs0_1 m hO pt) (iblk m hO c 1 pt)).trans (funext fun (x : S8x1x128.Idx) => ?_)
  exact congrArg (m ((c : Thread nD τ).loc main_arg2)) (funext fun a => Fin.ext
    (at_origin ((by decide +kernel : ∀ a, cc0_transform_1 (grid0.coords pt) a = 0) a)))

theorem read2 (hO : Ok m) (c : Dev nD) : View.read (Elt Ideal) (ms0_2 m hO pt).view ((hs0_2 m hO pt).unread (iblk m hO c 2 pt))
    = m ((c : Thread nD τ).loc main_arg3) := by
  refine (Memref.IsWhole.read_unread (hs0_2 m hO pt) (iblk m hO c 2 pt)).trans (funext fun (x : S4x128x128.Idx) => ?_)
  exact congrArg (m ((c : Thread nD τ).loc main_arg3)) (funext fun a => Fin.ext
    (at_origin ((by decide +kernel : ∀ a, cc0_transform_2 (grid0.coords pt) a = 0) a)))

theorem read3 (hO : Ok m) (c : Dev nD) : View.read (Elt Ideal) (ms0_3 m hO pt).view ((hs0_3 m hO pt).unread (iblk m hO c 3 pt))
    = m ((c : Thread nD τ).loc main_arg4) := by
  refine (Memref.IsWhole.read_unread (hs0_3 m hO pt) (iblk m hO c 3 pt)).trans (funext fun (x : S1x128.Idx) => ?_)
  exact congrArg (m ((c : Thread nD τ).loc main_arg4)) (funext fun a => Fin.ext
    (at_origin ((by decide +kernel : ∀ a, cc0_transform_3 (grid0.coords pt) a = 0) a)))

theorem read4 (hO : Ok m) (c : Dev nD) : View.read (Elt Ideal) (ms0_4 m hO pt).view ((hs0_4 m hO pt).unread (iblk m hO c 4 pt))
    = m ((c : Thread nD τ).loc main_arg5) := by
  refine (Memref.IsWhole.read_unread (hs0_4 m hO pt) (iblk m hO c 4 pt)).trans (funext fun (x : S4x128x128.Idx) => ?_)
  exact congrArg (m ((c : Thread nD τ).loc main_arg5)) (funext fun a => Fin.ext
    (at_origin ((by decide +kernel : ∀ a, cc0_transform_4 (grid0.coords pt) a = 0) a)))

theorem read5 (hO : Ok m) (c : Dev nD) : View.read (Elt Ideal) (ms0_5 m hO pt).view ((hs0_5 m hO pt).unread (iblk m hO c 5 pt))
    = m ((c : Thread nD τ).loc main_arg6) := by
  refine (Memref.IsWhole.read_unread (hs0_5 m hO pt) (iblk m hO c 5 pt)).trans (funext fun (x : S4x128x128.Idx) => ?_)
  exact congrArg (m ((c : Thread nD τ).loc main_arg6)) (funext fun a => Fin.ext
    (at_origin ((by decide +kernel : ∀ a, cc0_transform_5 (grid0.coords pt) a = 0) a)))

theorem read6 (hO : Ok m) (c : Dev nD) : View.read (Elt Ideal) (ms0_6 m hO pt).view ((hs0_6 m hO pt).unread (iblk m hO c 6 pt))
    = m ((c : Thread nD τ).loc main_arg7) := by
  refine (Memref.IsWhole.read_unread (hs0_6 m hO pt) (iblk m hO c 6 pt)).trans (funext fun (x : S4x128x128.Idx) => ?_)
  exact congrArg (m ((c : Thread nD τ).loc main_arg7)) (funext fun a => Fin.ext
    (at_origin ((by decide +kernel : ∀ a, cc0_transform_6 (grid0.coords pt) a = 0) a)))

/-- What the kernel adds up of its staging buffers is the gradient. -/
theorem ksum_read (hO : Ok m) (c : Dev nD) (y : S4x128x128.Idx) : ksum (dev m c)
    (View.read (Elt Ideal) (ms0_0 m hO pt).view ((hs0_0 m hO pt).unread (iblk m hO c 0 pt)))
    (View.read (Elt Ideal) (ms0_2 m hO pt).view ((hs0_2 m hO pt).unread (iblk m hO c 2 pt))) y
      = grad (dev m c) (m ((c : Thread nD τ).loc main_arg1)) (m ((c : Thread nD τ).loc main_arg3)) y :=
  (congrFun (congrArg₂ (ksum (dev m c)) (read0 m hO c) (read2 m hO c)) y).trans (ksum_apply _ _ _ y)

theorem after7 (hO : Ok m) (c : Dev nD) (y : S4x128x128.Idx) : (outsAt0 m hO c pt).1 y = grad (dev m c) (m ((c : Thread nD τ).loc main_arg1)) (m ((c : Thread nD τ).loc main_arg3)) y := by
  unfold outsAt0
  dsimp only
  frame_out
  simp only [kdev m hO c]
  exact ksum_read m hO c y

theorem after8 (hO : Ok m) (c : Dev nD) (y : S4x128x128.Idx) : (outsAt0 m hO c pt).2.1 y
    = delta (grad (dev m c) (m ((c : Thread nD τ).loc main_arg1)) (m ((c : Thread nD τ).loc main_arg3)) y) (m ((c : Thread nD τ).loc main_arg5) y) (m ((c : Thread nD τ).loc main_arg6) y) (m ((c : Thread nD τ).loc main_arg7) y) := by
  unfold outsAt0
  dsimp only
  frame_out
  simp only [kdev m hO c]
  exact (pay_delta _ _ _ _ _ _ _ y).trans (congr (congr (congrArg₂ delta (ksum_read m hO c y) (congrFun (read4 m hO c) y))
    (congrFun (read5 m hO c) y)) (congrFun (read6 m hO c) y))

theorem after9 (hO : Ok m) (c : Dev nD) (y : S4x128x128.Idx) : (outsAt0 m hO c pt).2.2.1 y
    = moment1 (grad (dev m c) (m ((c : Thread nD τ).loc main_arg1)) (m ((c : Thread nD τ).loc main_arg3)) y) (m ((c : Thread nD τ).loc main_arg6) y) := by
  unfold outsAt0
  dsimp only
  frame_out
  simp only [kdev m hO c]
  exact (pay_moment1 _ _ _ _ _ y).trans (congrArg₂ moment1 (ksum_read m hO c y) (congrFun (read5 m hO c) y))

theorem after10 (hO : Ok m) (c : Dev nD) (y : S4x128x128.Idx) : (outsAt0 m hO c pt).2.2.2.1 y
    = moment2 (grad (dev m c) (m ((c : Thread nD τ).loc main_arg1)) (m ((c : Thread nD τ).loc main_arg3)) y) (m ((c : Thread nD τ).loc main_arg7) y) := by
  unfold outsAt0
  dsimp only
  frame_out
  simp only [kdev m hO c]
  exact (pay_moment2 _ _ _ _ _ y).trans (congrArg₂ moment2 (ksum_read m hO c y) (congrFun (read6 m hO c) y))

theorem after11 (hO : Ok m) (c : Dev nD) (y : S1x128.Idx) : (outsAt0 m hO c pt).2.2.2.2 y
    = loss (dev m c) (m ((c : Thread nD τ).loc main_arg2)) (m ((c : Thread nD τ).loc main_arg4)) y := by
  unfold outsAt0
  dsimp only
  frame_out
  simp only [kdev m hO c]
  exact (congrFun (congrArg₂ (kloss (dev m c)) (read1 m hO c) (read3 m hO c)) y).trans (kloss_apply _ _ _ y)

/-- The kernel's run ends with the reference's values in its five arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamPoolRefIdeal.Read.val_main_v6 (F := Ideal) (m ((c : Thread nD τ).loc main_arg0)) (m ((c : Thread nD τ).loc main_arg1)) (m ((c : Thread nD τ).loc main_arg3))
      ∧ r.2.mem ((c.tc : Thread nD τ).loc main_v0_1)
        = Cert.AdamPoolRefIdeal.Read.val_main_v30 (F := Ideal) (m ((c : Thread nD τ).loc main_arg0)) (m ((c : Thread nD τ).loc main_arg1)) (m ((c : Thread nD τ).loc main_arg3)) (m ((c : Thread nD τ).loc main_arg5)) (m ((c : Thread nD τ).loc main_arg6)) (m ((c : Thread nD τ).loc main_arg7))
      ∧ r.2.mem ((c.tc : Thread nD τ).loc main_v0_2)
        = Cert.AdamPoolRefIdeal.Read.val_main_v11 (F := Ideal) (m ((c : Thread nD τ).loc main_arg0)) (m ((c : Thread nD τ).loc main_arg1)) (m ((c : Thread nD τ).loc main_arg3)) (m ((c : Thread nD τ).loc main_arg6))
      ∧ r.2.mem ((c.tc : Thread nD τ).loc main_v0_3)
        = Cert.AdamPoolRefIdeal.Read.val_main_v17 (F := Ideal) (m ((c : Thread nD τ).loc main_arg0)) (m ((c : Thread nD τ).loc main_arg1)) (m ((c : Thread nD τ).loc main_arg3)) (m ((c : Thread nD τ).loc main_arg7))
      ∧ r.2.mem ((c.tc : Thread nD τ).loc main_v0_4)
        = Cert.AdamPoolRefIdeal.Read.val_main_v37 (F := Ideal) (m ((c : Thread nD τ).loc main_arg0)) (m ((c : Thread nD τ).loc main_arg2)) (m ((c : Thread nD τ).loc main_arg4))) := by
  refine (θ_run _ _ _).mono (fun r h c => ⟨?_, ?_, ?_, ?_, ?_⟩) (run_main m ρ hO)
  · exact ((h c).1 7).trans ((dats m hO 0 c).arrAt_eq_of_after_last 7 pt (whole7 m hO) _ fun y =>
      (congrFun (after0_7 m hO c pt) y).trans ((after7 m hO c y).trans (ref_grad _ _ _ y).symm))
  · exact ((h c).1 8).trans ((dats m hO 0 c).arrAt_eq_of_after_last 8 pt (whole8 m hO) _ fun y =>
      (congrFun (after0_8 m hO c pt) y).trans ((after8 m hO c y).trans (ref_delta _ _ _ _ _ _ y).symm))
  · exact ((h c).1 9).trans ((dats m hO 0 c).arrAt_eq_of_after_last 9 pt (whole9 m hO) _ fun y =>
      (congrFun (after0_9 m hO c pt) y).trans ((after9 m hO c y).trans (ref_moment1 _ _ _ _ y).symm))
  · exact ((h c).1 10).trans ((dats m hO 0 c).arrAt_eq_of_after_last 10 pt (whole10 m hO) _ fun y =>
      (congrFun (after0_10 m hO c pt) y).trans ((after10 m hO c y).trans (ref_moment2 _ _ _ _ y).symm))
  · exact ((h c).1 11).trans ((dats m hO 0 c).arrAt_eq_of_after_last 11 pt (whole11 m hO) _ fun y =>
      (congrFun (after0_11 m hO c pt) y).trans ((after11 m hO c y).trans (ref_loss _ _ _ y).symm))

end Cert.AdamPoolIdeal.Final

end
-- ==== Proof.AdamPoolClaim.lean ====
module

public import proofs.«01_k».proof.Defs
public import proofs.«01_k».proof.Proof.AdamPoolValue
public import proofs.«01_k».proof.Proof.Gen.AdamPoolRefIdeal.Run
public import Idealize.ShloMosaic.Lib.Claim

/-! The AdamW step of the pooling kernels, and the loss: kernel and reference leave the same five arrays. -/

@[expose] public section

set_option maxRecDepth 16384

noncomputable section

namespace Cert.Proof

open Idealize.ShloMosaic Idealize.SL.Sem

/-- The reference's run, its results named. -/
theorem run_AdamPoolRef (m : (ℓ : Loc Cert.AdamPoolRefIdeal.nD Cert.AdamPoolRefIdeal.τ Cert.AdamPoolRefIdeal.sig) → Buf (Elt Ideal) ℓ)
    (ρ : Dev Cert.AdamPoolRefIdeal.nD → PrngReg) :
    θ_run Cert.AdamPoolRefIdeal.defs (onTc (τ := Cert.AdamPoolRefIdeal.τ) (Cert.AdamPoolRefIdeal.main (F := Ideal))) ⟨m, fun _ => 0, ρ⟩ (fun r => ∀ c : Dev Cert.AdamPoolRefIdeal.nD,
      r.2.mem (c.tc.loc Cert.AdamPoolRefIdeal.main_v6)
        = Cert.AdamPoolRefIdeal.Read.val_main_v6 (F := Ideal) (m (c.tc.loc Cert.AdamPoolRefIdeal.main_arg0)) (m (c.tc.loc Cert.AdamPoolRefIdeal.main_arg1)) (m (c.tc.loc Cert.AdamPoolRefIdeal.main_arg3))
      ∧ r.2.mem (c.tc.loc Cert.AdamPoolRefIdeal.main_v30)
        = Cert.AdamPoolRefIdeal.Read.val_main_v30 (F := Ideal) (m (c.tc.loc Cert.AdamPoolRefIdeal.main_arg0)) (m (c.tc.loc Cert.AdamPoolRefIdeal.main_arg1)) (m (c.tc.loc Cert.AdamPoolRefIdeal.main_arg3)) (m (c.tc.loc Cert.AdamPoolRefIdeal.main_arg5)) (m (c.tc.loc Cert.AdamPoolRefIdeal.main_arg6)) (m (c.tc.loc Cert.AdamPoolRefIdeal.main_arg7))
      ∧ r.2.mem (c.tc.loc Cert.AdamPoolRefIdeal.main_v11)
        = Cert.AdamPoolRefIdeal.Read.val_main_v11 (F := Ideal) (m (c.tc.loc Cert.AdamPoolRefIdeal.main_arg0)) (m (c.tc.loc Cert.AdamPoolRefIdeal.main_arg1)) (m (c.tc.loc Cert.AdamPoolRefIdeal.main_arg3)) (m (c.tc.loc Cert.AdamPoolRefIdeal.main_arg6))
      ∧ r.2.mem (c.tc.loc Cert.AdamPoolRefIdeal.main_v17)
        = Cert.AdamPoolRefIdeal.Read.val_main_v17 (F := Ideal) (m (c.tc.loc Cert.AdamPoolRefIdeal.main_arg0)) (m (c.tc.loc Cert.AdamPoolRefIdeal.main_arg1)) (m (c.tc.loc Cert.AdamPoolRefIdeal.main_arg3)) (m (c.tc.loc Cert.AdamPoolRefIdeal.main_arg7))
      ∧ r.2.mem (c.tc.loc Cert.AdamPoolRefIdeal.main_v37)
        = Cert.AdamPoolRefIdeal.Read.val_main_v37 (F := Ideal) (m (c.tc.loc Cert.AdamPoolRefIdeal.main_arg0)) (m (c.tc.loc Cert.AdamPoolRefIdeal.main_arg2)) (m (c.tc.loc Cert.AdamPoolRefIdeal.main_arg4))
      ∧ r.2.mem (c.tc.loc Cert.AdamPoolRefIdeal.main_arg0) = m (c.tc.loc Cert.AdamPoolRefIdeal.main_arg0)
      ∧ r.2.mem (c.tc.loc Cert.AdamPoolRefIdeal.main_arg1) = m (c.tc.loc Cert.AdamPoolRefIdeal.main_arg1)
      ∧ r.2.mem (c.tc.loc Cert.AdamPoolRefIdeal.main_arg2) = m (c.tc.loc Cert.AdamPoolRefIdeal.main_arg2)
      ∧ r.2.mem (c.tc.loc Cert.AdamPoolRefIdeal.main_arg3) = m (c.tc.loc Cert.AdamPoolRefIdeal.main_arg3)
      ∧ r.2.mem (c.tc.loc Cert.AdamPoolRefIdeal.main_arg4) = m (c.tc.loc Cert.AdamPoolRefIdeal.main_arg4)
      ∧ r.2.mem (c.tc.loc Cert.AdamPoolRefIdeal.main_arg5) = m (c.tc.loc Cert.AdamPoolRefIdeal.main_arg5)
      ∧ r.2.mem (c.tc.loc Cert.AdamPoolRefIdeal.main_arg6) = m (c.tc.loc Cert.AdamPoolRefIdeal.main_arg6)
      ∧ r.2.mem (c.tc.loc Cert.AdamPoolRefIdeal.main_arg7) = m (c.tc.loc Cert.AdamPoolRefIdeal.main_arg7)) :=
  (θ_run _ _ _).mono (fun r h c => ⟨(h c).1.trans (Cert.AdamPoolRefIdeal.Read.val_main_v6_eq ..), (h c).2.1.trans (Cert.AdamPoolRefIdeal.Read.val_main_v30_eq ..),
    (h c).2.2.1.trans (Cert.AdamPoolRefIdeal.Read.val_main_v11_eq ..), (h c).2.2.2.1.trans (Cert.AdamPoolRefIdeal.Read.val_main_v17_eq ..),
    (h c).2.2.2.2.1.trans (Cert.AdamPoolRefIdeal.Read.val_main_v37_eq ..), (h c).2.2.2.2.2⟩) (Cert.AdamPoolRefIdeal.Value.run m ρ)

set_option maxHeartbeats 1000000 in
/-- The AdamW step of the pooling kernels, and the loss: kernel and reference leave the same five arrays. -/
theorem algebraic_AdamPool : Cert.algebraic_AdamPoolIdeal_AdamPoolRefIdeal := by
  pair_intro
  · run_from Cert.AdamPoolIdeal.Gen.unchanged m g trivial & Cert.AdamPoolIdeal.Final.run m g trivial
  · run_from run_AdamPoolRef m' g'

end Cert.Proof

end
-- ==== Proof.AdamInValue.lean ====
module

public import proofs.«01_k».proof.Proof.Gen.AdamInIdeal.Frame
public import proofs.«01_k».proof.Proof.Gen.AdamInRefIdeal.Read
public import proofs.«01_k».proof.Proof.AdamStep

@[expose] public section

set_option maxRecDepth 16384

noncomputable section

namespace Cert.AdamInIdeal.Final

open Idealize.ShloMosaic Idealize.ShloMosaic.TcCoe Idealize.SL.Sem
open Idealize.ShloMosaic.Pipeline (Dat)
open Cert.AdamInIdeal Cert.AdamInIdeal.Gen Cert.AdamStep

/-- One entry of the gradient: the sum of the devices' terms, the device's own taken from its own blocks. -/
def grad (d : BitVec 32) (own landed : FVec Ideal S8x449x1024 .bf16) (i : S449x1024.Idx) : EReal :=
  ∑ k : Fin 8, Scalar.select (IntOp.cmpi .eq (BitVec.ofNat 32 k.val) d) (own (ix3 k (i 0) (i 1))) (landed (ix3 k (i 0) (i 1)))

theorem ref5 (d : IVec S1 32) (own landed : FVec Ideal S8x449x1024 .bf16) (i : S449x1024.Idx) :
    Cert.AdamInRefIdeal.Read.val_main_v7 (F := Ideal) d own landed i = grad (d (ix1 0)) own landed i := by
  simp only [← Cert.AdamInRefIdeal.Read.val_main_v7_eq]
  pointwise [grad]

theorem ref6 (d : IVec S1 32) (own landed : FVec Ideal S8x449x1024 .bf16) (w v1 v2 : FVec Ideal S449x1024 .f32) (i : S449x1024.Idx) :
    Cert.AdamInRefIdeal.Read.val_main_v31 (F := Ideal) d own landed w v1 v2 i
      = delta (grad (d (ix1 0)) own landed i) (w i) (v1 i) (v2 i) := by
  simp only [← ref5]
  simp only [← Cert.AdamInRefIdeal.Read.val_main_v31_eq, ← Cert.AdamInRefIdeal.Read.val_main_v7_eq]
  pointwise [delta, moment1, moment2]

theorem ref7 (d : IVec S1 32) (own landed : FVec Ideal S8x449x1024 .bf16) (v1 : FVec Ideal S449x1024 .f32) (i : S449x1024.Idx) :
    Cert.AdamInRefIdeal.Read.val_main_v12 (F := Ideal) d own landed v1 i
      = moment1 (grad (d (ix1 0)) own landed i) (v1 i) := by
  simp only [← ref5]
  simp only [← Cert.AdamInRefIdeal.Read.val_main_v12_eq, ← Cert.AdamInRefIdeal.Read.val_main_v7_eq]
  pointwise [moment1]

theorem ref8 (d : IVec S1 32) (own landed : FVec Ideal S8x449x1024 .bf16) (v2 : FVec Ideal S449x1024 .f32) (i : S449x1024.Idx) :
    Cert.AdamInRefIdeal.Read.val_main_v18 (F := Ideal) d own landed v2 i
      = moment2 (grad (d (ix1 0)) own landed i) (v2 i) := by
  simp only [← ref5]
  simp only [← Cert.AdamInRefIdeal.Read.val_main_v18_eq, ← Cert.AdamInRefIdeal.Read.val_main_v7_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- What the kernel adds up, from the device's number, its own block and the landed ones. -/
def ksum (d : BitVec 32) (own : FVec Ideal S1x449x256 .bf16) (landed : FVec Ideal S8x449x256 .bf16) : FVec Ideal S449x256 .f32 :=
  k0_pay6
      (k0_pay3
        (k0_pay2 d own (View.ld (Val := Elt Ideal) (e' := .bf16) landed (Rect.unit ![0, 0, 0] ![1, 449, 256] inb_S8x449x256_S1x449x256_0_0_0))
          d own (View.ld (Val := Elt Ideal) (e' := .bf16) landed (Rect.unit ![1, 0, 0] ![1, 449, 256] inb_S8x449x256_S1x449x256_1_0_0))
          d own (View.ld (Val := Elt Ideal) (e' := .bf16) landed (Rect.unit ![2, 0, 0] ![1, 449, 256] inb_S8x449x256_S1x449x256_2_0_0)))
        (Scalar.cmpi .eq d 3#32) own (View.ld (Val := Elt Ideal) (e' := .bf16) landed (Rect.unit ![3, 0, 0] ![1, 449, 256] inb_S8x449x256_S1x449x256_3_0_0))
        d own (View.ld (Val := Elt Ideal) (e' := .bf16) landed (Rect.unit ![4, 0, 0] ![1, 449, 256] inb_S8x449x256_S1x449x256_4_0_0))
        d own (View.ld (Val := Elt Ideal) (e' := .bf16) landed (Rect.unit ![5, 0, 0] ![1, 449, 256] inb_S8x449x256_S1x449x256_5_0_0)))
      (Scalar.cmpi .eq d 6#32) (k0_pay4 own)
      (k0_pay5 (View.ld (Val := Elt Ideal) (e' := .bf16) landed (Rect.unit ![6, 0, 0] ![1, 449, 256] inb_S8x449x256_S1x449x256_6_0_0)))
      d own (View.ld (Val := Elt Ideal) (e' := .bf16) landed (Rect.unit ![7, 0, 0] ![1, 449, 256] inb_S8x449x256_S1x449x256_7_0_0))

theorem ksum_apply (d : BitVec 32) (own : FVec Ideal S1x449x256 .bf16) (landed : FVec Ideal S8x449x256 .bf16) (y : S449x256.Idx) :
    ksum d own landed y = ∑ k : Fin 8, Scalar.select (IntOp.cmpi .eq (BitVec.ofNat 32 k.val) d) (own (ix3 0 (y 0) (y 1)))
      (landed (ix3 k (y 0) (y 1))) := by
  rw [Fin.sum_univ_eight]
  pointwise [ksum, k0_pay6, k0_pay5, k0_pay4, k0_pay3, k0_pay2]
  simp only [cmpi_comm d]

theorem pay7_apply (a b c d e f g v) (y : S449x256.Idx) :
    k0_pay7 (F := Ideal) a b c d e f g v y = moment1 (k0_pay6 (F := Ideal) a b c d e f g y) (v y) := by
  pointwise [k0_pay7, moment1]

theorem pay8_apply (a b c d e f g v) (y : S449x256.Idx) :
    k0_pay8 (F := Ideal) a b c d e f g v y = moment2 (k0_pay6 (F := Ideal) a b c d e f g y) (v y) := by
  pointwise [k0_pay8, moment2]

theorem pay9_apply (a b c d e f g v v') (w : FVec Ideal S449x256 .f32) (y : S449x256.Idx) :
    k0_pay1 (F := Ideal) w (k0_pay9 (F := Ideal) a b c d e f g v v') (Scalar.ofBits .f32 0x3C23D70A#32) y
      = delta (k0_pay6 (F := Ideal) a b c d e f g y) (w y) (v y) (v' y) := by
  pointwise [k0_pay1, k0_pay9, delta, ← pay7_apply a b c d e f g v y, ← pay8_apply a b c d e f g v' y]

/-- Where an entry of the tile of 256 columns at point `t` sits in the array. -/
def tile (t : Fin grid0.N) (y : S449x256.Idx) : S449x1024.Idx :=
  ix2 (y 0) ⟨t.val * 256 + (y 1).val, by
    have h : t.val < 4 := t.isLt
    have := (y 1).isLt
    have : (y 1).val < 256 := this
    show _ < 1024
    omega⟩

theorem tile_eq (t : Fin grid0.N) (y : S449x256.Idx) {f : Fin 2 → ℕ} (h : f = ![0, t.val]) (a : Fin 2) :
    f a * S449x256.size a + 1 * (y a).val = (tile t y a).val := by
  rw [h]
  match a with
  | ⟨0, _⟩ => show 0 * 449 + 1 * (y 0).val = (y 0).val; omega
  | ⟨1, _⟩ => show t.val * 256 + 1 * (y 1).val = t.val * 256 + (y 1).val; omega

/-- Every entry of the array lies in one of the four tiles. -/
theorem tile_onto (i : S449x1024.Idx) : ∃ t y, tile t y = i := by
  have hi : (i 1).val < 1024 := (i 1).isLt
  refine ⟨⟨(i 1).val / 256, by show _ < 4; omega⟩, ix2 (i 0) ⟨(i 1).val % 256, by show _ < 256; omega⟩, ?_⟩
  funext a
  match a with
  | ⟨0, _⟩ => rfl
  | ⟨1, _⟩ => exact Fin.ext (by show (i 1).val / 256 * 256 + (i 1).val % 256 = (i 1).val; omega)

theorem emb2 (hO : Ok m) (t : Fin grid0.N) (y : S449x256.Idx) : (((cfgM m hO).win 2).blk t).view.emb y = tile t y :=
  funext fun a => Fin.ext (tile_eq t y ((by decide +kernel : ∀ t : Fin grid0.N, cc0_transform_2 (grid0.coords t) = ![0, t.val]) t) a)

theorem emb3 (hO : Ok m) (t : Fin grid0.N) (y : S449x256.Idx) : (((cfgM m hO).win 3).blk t).view.emb y = tile t y :=
  funext fun a => Fin.ext (tile_eq t y ((by decide +kernel : ∀ t : Fin grid0.N, cc0_transform_3 (grid0.coords t) = ![0, t.val]) t) a)

theorem emb4 (hO : Ok m) (t : Fin grid0.N) (y : S449x256.Idx) : (((cfgM m hO).win 4).blk t).view.emb y = tile t y :=
  funext fun a => Fin.ext (tile_eq t y ((by decide +kernel : ∀ t : Fin grid0.N, cc0_transform_4 (grid0.coords t) = ![0, t.val]) t) a)

theorem emb5 (hO : Ok m) (t : Fin grid0.N) (y : S449x256.Idx) : (((cfgM m hO).win 5).blk t).view.emb y = tile t y :=
  funext fun a => Fin.ext (tile_eq t y ((by decide +kernel : ∀ t : Fin grid0.N, cc0_transform_5 (grid0.coords t) = ![0, t.val]) t) a)

theorem emb6 (hO : Ok m) (t : Fin grid0.N) (y : S449x256.Idx) : (((cfgM m hO).win 6).blk t).view.emb y = tile t y :=
  funext fun a => Fin.ext (tile_eq t y ((by decide +kernel : ∀ t : Fin grid0.N, cc0_transform_6 (grid0.coords t) = ![0, t.val]) t) a)

theorem emb7 (hO : Ok m) (t : Fin grid0.N) (y : S449x256.Idx) : (((cfgM m hO).win 7).blk t).view.emb y = tile t y :=
  funext fun a => Fin.ext (tile_eq t y ((by decide +kernel : ∀ t : Fin grid0.N, cc0_transform_7 (grid0.coords t) = ![0, t.val]) t) a)

theorem emb8 (hO : Ok m) (t : Fin grid0.N) (y : S449x256.Idx) : (((cfgM m hO).win 8).blk t).view.emb y = tile t y :=
  funext fun a => Fin.ext (tile_eq t y ((by decide +kernel : ∀ t : Fin grid0.N, cc0_transform_8 (grid0.coords t) = ![0, t.val]) t) a)

theorem index1 (hO : Ok m) (t : Fin grid0.N) : ((cfgM m hO).win 1).index t = ![(dev m 0).toNat, 0, t.val] := by
  have h : ∀ p q : BitVec 32, ∀ a b b' : ℕ, p = q → a = 0 → b = b' → (![p.toNat, a, b] : Fin 3 → ℕ) = ![q.toNat, 0, b'] := by
    rintro p _ _ _ _ rfl rfl rfl; rfl
  exact h _ (dev m 0) _ _ _ (kdev m hO 0)
    ((by decide +kernel : ∀ t : Fin grid0.N, (BitVec.ofNat 32 ((grid0.coords t) 0).val).toNat = 0) t)
    ((by decide +kernel : ∀ t : Fin grid0.N, (BitVec.ofNat 32 ((grid0.coords t) 1).val).toNat = t.val) t)

theorem iblk0_apply (hO : Ok m) (c : Dev nD) (t : Fin grid0.N) (k : Fin 8) (y : S449x256.Idx) : iblk m hO c 0 t (ix3 k (y 0) (y 1))
    = m ((c : Thread nD τ).loc main_arg2) (ix3 k (tile t y 0) (tile t y 1)) := by
  have e : (((cfgM m hO).win 0).blk t).view.emb (ix3 k (y 0) (y 1)) = ix3 k (tile t y 0) (tile t y 1) := by
    funext a
    apply Fin.ext
    have h := congrFun ((by decide +kernel : ∀ t : Fin grid0.N, cc0_transform_0 (grid0.coords t) = ![0, 0, t.val]) t) a
    show cc0_transform_0 (grid0.coords t) a * S8x449x256.size a + 1 * (ix3 k (y 0) (y 1) a).val = (ix3 k (tile t y 0) (tile t y 1) a).val
    rw [h]
    match a with
    | ⟨0, _⟩ => show 0 * 8 + 1 * k.val = k.val; omega
    | ⟨1, _⟩ => show 0 * 449 + 1 * (y 0).val = (y 0).val; omega
    | ⟨2, _⟩ => show t.val * 256 + 1 * (y 1).val = t.val * 256 + (y 1).val; omega
  exact congrArg (m ((c : Thread nD τ).loc main_arg2)) e

/-- The device's own block: that of its number. -/
theorem iblk1_apply (hO : Ok m) (c : Dev nD) (t : Fin grid0.N) (k : Fin 8) (hk : dev m c = BitVec.ofNat 32 k.val) (y : S449x256.Idx) :
    iblk m hO c 1 t (ix3 0 (y 0) (y 1)) = m ((c : Thread nD τ).loc main_arg1) (ix3 k (tile t y 0) (tile t y 1)) := by
  have hd : (dev m 0).toNat = k.val := by
    obtain rfl : c = 0 := Subsingleton.elim _ _
    rw [hk, BitVec.toNat_ofNat]
    omega
  have e : (((cfgM m hO).win 1).blk t).view.emb (ix3 0 (y 0) (y 1)) = ix3 k (tile t y 0) (tile t y 1) := by
    funext a
    apply Fin.ext
    have h := congrFun (index1 m hO t) a
    show ((cfgM m hO).win 1).index t a * S1x449x256.size a + 1 * (ix3 (0 : Fin 1) (y 0) (y 1) a).val = (ix3 k (tile t y 0) (tile t y 1) a).val
    rw [h]
    match a with
    | ⟨0, _⟩ => show (dev m 0).toNat * 1 + 1 * 0 = k.val; omega
    | ⟨1, _⟩ => show 0 * 449 + 1 * (y 0).val = (y 0).val; omega
    | ⟨2, _⟩ => show t.val * 256 + 1 * (y 1).val = t.val * 256 + (y 1).val; omega
  exact congrArg (m ((c : Thread nD τ).loc main_arg1)) e

/-- What the kernel adds up of its blocks is the gradient's entry. -/
theorem ksum_blocks (hO : Ok m) (c : Dev nD) (t : Fin grid0.N) (y : S449x256.Idx) : ksum (dev m c) (iblk m hO c 1 t) (iblk m hO c 0 t) y
    = grad (dev m c) (m ((c : Thread nD τ).loc main_arg1)) (m ((c : Thread nD τ).loc main_arg2)) (tile t y) := by
  refine (ksum_apply _ _ _ _).trans (Finset.sum_congr rfl fun k _ => ?_)
  rw [iblk0_apply m hO c]
  exact select_own _ _ _ fun h => iblk1_apply m hO c t k h _

/-- What the kernel adds up of its staging buffers. -/
theorem ksum_read (hO : Ok m) (c : Dev nD) (t : Fin grid0.N) (y : S449x256.Idx) : ksum (dev m c)
    (View.read (Elt Ideal) (ms0_1 m hO t).view ((hs0_1 m hO t).unread (iblk m hO c 1 t)))
    (View.read (Elt Ideal) (ms0_0 m hO t).view ((hs0_0 m hO t).unread (iblk m hO c 0 t))) y
      = grad (dev m c) (m ((c : Thread nD τ).loc main_arg1)) (m ((c : Thread nD τ).loc main_arg2)) (tile t y) :=
  (congrFun (congrArg₂ (ksum (dev m c)) (Memref.IsWhole.read_unread (hs0_1 m hO t) (iblk m hO c 1 t))
    (Memref.IsWhole.read_unread (hs0_0 m hO t) (iblk m hO c 0 t))) y).trans (ksum_blocks m hO c t y)

theorem read2 (hO : Ok m) (c : Dev nD) (t : Fin grid0.N) (y : S449x256.Idx) : View.read (Elt Ideal) (ms0_2 m hO t).view
    ((hs0_2 m hO t).unread (iblk m hO c 2 t)) y = m ((c : Thread nD τ).loc main_arg3) (tile t y) :=
  (congrFun (Memref.IsWhole.read_unread (hs0_2 m hO t) (iblk m hO c 2 t)) y).trans
    (congrArg (m ((c : Thread nD τ).loc main_arg3)) (emb2 m hO t y))

theorem read3 (hO : Ok m) (c : Dev nD) (t : Fin grid0.N) (y : S449x256.Idx) : View.read (Elt Ideal) (ms0_3 m hO t).view
    ((hs0_3 m hO t).unread (iblk m hO c 3 t)) y = m ((c : Thread nD τ).loc main_arg4) (tile t y) :=
  (congrFun (Memref.IsWhole.read_unread (hs0_3 m hO t) (iblk m hO c 3 t)) y).trans
    (congrArg (m ((c : Thread nD τ).loc main_arg4)) (emb3 m hO t y))

theorem read4 (hO : Ok m) (c : Dev nD) (t : Fin grid0.N) (y : S449x256.Idx) : View.read (Elt Ideal) (ms0_4 m hO t).view
    ((hs0_4 m hO t).unread (iblk m hO c 4 t)) y = m ((c : Thread nD τ).loc main_arg5) (tile t y) :=
  (congrFun (Memref.IsWhole.read_unread (hs0_4 m hO t) (iblk m hO c 4 t)) y).trans
    (congrArg (m ((c : Thread nD τ).loc main_arg5)) (emb4 m hO t y))

theorem after5 (hO : Ok m) (c : Dev nD) (t : Fin grid0.N) (y : S449x256.Idx) : (outsAt0 m hO c t).1 y
    = grad (dev m c) (m ((c : Thread nD τ).loc main_arg1)) (m ((c : Thread nD τ).loc main_arg2)) (tile t y) := by
  unfold outsAt0
  dsimp only
  frame_out
  simp only [kdev m hO c]
  exact ksum_read m hO c t y

theorem after6 (hO : Ok m) (c : Dev nD) (t : Fin grid0.N) (y : S449x256.Idx) : (outsAt0 m hO c t).2.1 y
    = delta (grad (dev m c) (m ((c : Thread nD τ).loc main_arg1)) (m ((c : Thread nD τ).loc main_arg2)) (tile t y)) (m ((c : Thread nD τ).loc main_arg3) (tile t y)) (m ((c : Thread nD τ).loc main_arg4) (tile t y)) (m ((c : Thread nD τ).loc main_arg5) (tile t y)) := by
  unfold outsAt0
  dsimp only
  frame_out
  simp only [kdev m hO c]
  exact (pay9_apply _ _ _ _ _ _ _ _ _ _ y).trans
    (congr (congr (congrArg₂ delta (ksum_read m hO c t y) (read2 m hO c t y)) (read3 m hO c t y)) (read4 m hO c t y))

theorem after7 (hO : Ok m) (c : Dev nD) (t : Fin grid0.N) (y : S449x256.Idx) : (outsAt0 m hO c t).2.2.1 y
    = moment1 (grad (dev m c) (m ((c : Thread nD τ).loc main_arg1)) (m ((c : Thread nD τ).loc main_arg2)) (tile t y)) (m ((c : Thread nD τ).loc main_arg4) (tile t y)) := by
  unfold outsAt0
  dsimp only
  frame_out
  simp only [kdev m hO c]
  exact (pay7_apply _ _ _ _ _ _ _ _ y).trans (congrArg₂ moment1 (ksum_read m hO c t y) (read3 m hO c t y))

theorem after8 (hO : Ok m) (c : Dev nD) (t : Fin grid0.N) (y : S449x256.Idx) : (outsAt0 m hO c t).2.2.2 y
    = moment2 (grad (dev m c) (m ((c : Thread nD τ).loc main_arg1)) (m ((c : Thread nD τ).loc main_arg2)) (tile t y)) (m ((c : Thread nD τ).loc main_arg5) (tile t y)) := by
  unfold outsAt0
  dsimp only
  frame_out
  simp only [kdev m hO c]
  exact (pay8_apply _ _ _ _ _ _ _ _ y).trans (congrArg₂ moment2 (ksum_read m hO c t y) (read4 m hO c t y))

theorem final5 (hO : Ok m) (c : Dev nD) : (dats m hO 0 c).arrAt 5 ((Pipeline.pin pcfgs fun _ => adm m hO) 0).N
    = Cert.AdamInRefIdeal.Read.val_main_v7 (F := Ideal) (m ((c : Thread nD τ).loc main_arg0)) (m ((c : Thread nD τ).loc main_arg1)) (m ((c : Thread nD τ).loc main_arg2)) :=
  (dats m hO 0 c).arrAt_eq_of_emb 5 _ (fun t _ y =>
    (congrFun (after0_5 m hO c t) y).trans ((after5 m hO c t y).trans ((ref5 _ _ _ (tile t y)).symm.trans (congrArg _ (emb5 m hO t y).symm))))
    fun i => (tile_onto i).elim fun t h => h.elim fun y e => ⟨t, flush0_5 _ t, (emb5 m hO t y).trans e ▸ View.emb_mem_set _ y⟩

theorem final6 (hO : Ok m) (c : Dev nD) : (dats m hO 0 c).arrAt 6 ((Pipeline.pin pcfgs fun _ => adm m hO) 0).N
    = Cert.AdamInRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m hO 0 c).arrAt_eq_of_emb 6 _ (fun t _ y =>
    (congrFun (after0_6 m hO c t) y).trans ((after6 m hO c t y).trans ((ref6 _ _ _ _ _ _ (tile t y)).symm.trans (congrArg _ (emb6 m hO t y).symm))))
    fun i => (tile_onto i).elim fun t h => h.elim fun y e => ⟨t, flush0_6 _ t, (emb6 m hO t y).trans e ▸ View.emb_mem_set _ y⟩

theorem final7 (hO : Ok m) (c : Dev nD) : (dats m hO 0 c).arrAt 7 ((Pipeline.pin pcfgs fun _ => adm m hO) 0).N
    = Cert.AdamInRefIdeal.Read.val_main_v12 (F := Ideal) (m ((c : Thread nD τ).loc main_arg0)) (m ((c : Thread nD τ).loc main_arg1)) (m ((c : Thread nD τ).loc main_arg2)) (m ((c : Thread nD τ).loc main_arg4)) :=
  (dats m hO 0 c).arrAt_eq_of_emb 7 _ (fun t _ y =>
    (congrFun (after0_7 m hO c t) y).trans ((after7 m hO c t y).trans ((ref7 _ _ _ _ (tile t y)).symm.trans (congrArg _ (emb7 m hO t y).symm))))
    fun i => (tile_onto i).elim fun t h => h.elim fun y e => ⟨t, flush0_7 _ t, (emb7 m hO t y).trans e ▸ View.emb_mem_set _ y⟩

theorem final8 (hO : Ok m) (c : Dev nD) : (dats m hO 0 c).arrAt 8 ((Pipeline.pin pcfgs fun _ => adm m hO) 0).N
    = Cert.AdamInRefIdeal.Read.val_main_v18 (F := Ideal) (m ((c : Thread nD τ).loc main_arg0)) (m ((c : Thread nD τ).loc main_arg1)) (m ((c : Thread nD τ).loc main_arg2)) (m ((c : Thread nD τ).loc main_arg5)) :=
  (dats m hO 0 c).arrAt_eq_of_emb 8 _ (fun t _ y =>
    (congrFun (after0_8 m hO c t) y).trans ((after8 m hO c t y).trans ((ref8 _ _ _ _ (tile t y)).symm.trans (congrArg _ (emb8 m hO t y).symm))))
    fun i => (tile_onto i).elim fun t h => h.elim fun y e => ⟨t, flush0_8 _ t, (emb8 m hO t y).trans e ▸ View.emb_mem_set _ y⟩

/-- The kernel's run ends with the reference's values in its four arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamInRefIdeal.Read.val_main_v7 (F := Ideal) (m ((c : Thread nD τ).loc main_arg0)) (m ((c : Thread nD τ).loc main_arg1)) (m ((c : Thread nD τ).loc main_arg2))
      ∧ r.2.mem ((c.tc : Thread nD τ).loc main_v0_1)
        = Cert.AdamInRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2)
        = Cert.AdamInRefIdeal.Read.val_main_v12 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3)
        = Cert.AdamInRefIdeal.Read.val_main_v18 (F := Ideal) (m ((c : Thread nD τ).loc main_arg0)) (m ((c : Thread nD τ).loc main_arg1)) (m ((c : Thread nD τ).loc main_arg2)) (m ((c : Thread nD τ).loc main_arg5))) :=
  (θ_run _ _ _).mono (fun r h c => ⟨((h c).1 5).trans (final5 m hO c), ((h c).1 6).trans (final6 m hO c),
    ((h c).1 7).trans (final7 m hO c), ((h c).1 8).trans (final8 m hO c)⟩) (run_main m ρ hO)

end Cert.AdamInIdeal.Final

end
-- ==== Proof.AdamInClaim.lean ====
module

public import proofs.«01_k».proof.Defs
public import proofs.«01_k».proof.Proof.Gen.AdamIn.Frame
public import proofs.«01_k».proof.Proof.Gen.Pre_device_in
public import proofs.«01_k».proof.Proof.AdamInValue
public import proofs.«01_k».proof.Proof.Gen.AdamInRefIdeal.Run
public import Idealize.ShloMosaic.Lib.Claim

/-! The AdamW step of the input projection's shard: kernel and reference leave the same four arrays. -/

@[expose] public section

set_option maxRecDepth 16384

noncomputable section

namespace Cert.Proof

open Idealize.ShloMosaic Idealize.SL.Sem

theorem ok_AdamIn (m : (ℓ : Loc Cert.AdamIn.nD Cert.AdamIn.τ Cert.AdamIn.sig) → Buf (Elt Bits) ℓ) (h : Cert.Pre_AdamIn m) :
    Cert.AdamIn.Gen.Ok m := by
  have h0 := congrFun (h 0) (ix1 0)
  dsimp only [Cert.Pre_device_in.fn] at h0
  pointwise at h0
  have hd := Cert.AdamStep.device_lt h0
  have hk : View.readAt (Elt Bits) (View.whole Cert.AdamIn.main_arg0) (Rect.unit ![0] ![1] Cert.AdamIn.Facts₀.inb_S1_S1_0).toLoadRect
      (Cert.AdamIn.Gen.tbl m 0) (Shape.Idx.first (by decide)) = m ((0 : Dev Cert.AdamIn.nD).tc.loc Cert.AdamIn.main_arg0) (ix1 0) := by
    refine congrArg (m ((0 : Dev Cert.AdamIn.nD).tc.loc Cert.AdamIn.main_arg0)) (funext fun a => ?_)
    match a with
    | ⟨0, _⟩ => exact Subsingleton.elim (α := Fin 1) _ _
  intro i
  have h1 : (BitVec.ofNat 32 (i 0).val).toNat = 0 := by
    rw [Subsingleton.elim (α := Fin 1) (i 0) 0]; rfl
  have h2 : (BitVec.ofNat 32 (i 1).val).toNat < 4 := by
    have h : (i 1).val < 4 := (i 1).isLt
    rw [BitVec.toNat_ofNat]
    omega
  refine ⟨fun a => ?_, .inr (.inr ⟨by decide, rfl, ?_, rfl⟩)⟩
  · match a with
    | ⟨0, _⟩ => exact (congrArg (fun d : BitVec 32 => (d.toNat + 1) * 1) hk).trans_le (by show (BitVec.toNat _ + 1) * 1 ≤ 8; omega)
    | ⟨1, _⟩ => exact (congrArg (fun n : ℕ => (n + 1) * 449) h1).le
    | ⟨2, _⟩ => show (BitVec.toNat _ + 1) * 256 ≤ 1024; omega
  · exact congrArg (fun n : ℕ => n * 449) h1

theorem ok_AdamInIdeal (m : (ℓ : Loc Cert.AdamInIdeal.nD Cert.AdamInIdeal.τ Cert.AdamInIdeal.sig) → Buf (Elt Ideal) ℓ) (h : Cert.Pre_AdamInIdeal m) :
    Cert.AdamInIdeal.Gen.Ok m := by
  have h0 := congrFun (h 0) (ix1 0)
  dsimp only [Cert.Pre_device_in.fn] at h0
  pointwise at h0
  have hd := Cert.AdamStep.device_lt h0
  have hk : View.readAt (Elt Ideal) (View.whole Cert.AdamInIdeal.main_arg0) (Rect.unit ![0] ![1] Cert.AdamInIdeal.Facts₀.inb_S1_S1_0).toLoadRect
      (Cert.AdamInIdeal.Gen.tbl m 0) (Shape.Idx.first (by decide)) = m ((0 : Dev Cert.AdamInIdeal.nD).tc.loc Cert.AdamInIdeal.main_arg0) (ix1 0) := by
    refine congrArg (m ((0 : Dev Cert.AdamInIdeal.nD).tc.loc Cert.AdamInIdeal.main_arg0)) (funext fun a => ?_)
    match a with
    | ⟨0, _⟩ => exact Subsingleton.elim (α := Fin 1) _ _
  intro i
  have h1 : (BitVec.ofNat 32 (i 0).val).toNat = 0 := by
    rw [Subsingleton.elim (α := Fin 1) (i 0) 0]; rfl
  have h2 : (BitVec.ofNat 32 (i 1).val).toNat < 4 := by
    have h : (i 1).val < 4 := (i 1).isLt
    rw [BitVec.toNat_ofNat]
    omega
  refine ⟨fun a => ?_, .inr (.inr ⟨by decide, rfl, ?_, rfl⟩)⟩
  · match a with
    | ⟨0, _⟩ => exact (congrArg (fun d : BitVec 32 => (d.toNat + 1) * 1) hk).trans_le (by show (BitVec.toNat _ + 1) * 1 ≤ 8; omega)
    | ⟨1, _⟩ => exact (congrArg (fun n : ℕ => (n + 1) * 449) h1).le
    | ⟨2, _⟩ => show (BitVec.toNat _ + 1) * 256 ≤ 1024; omega
  · exact congrArg (fun n : ℕ => n * 449) h1

/-- The AdamW step of the input projection's shard: kernel and reference leave the same four arrays. -/
theorem algebraic_AdamIn : Cert.algebraic_AdamInIdeal_AdamInRefIdeal := by
  pair_intro
  · run_from Cert.AdamInIdeal.Gen.unchanged m g (ok_AdamInIdeal m hpre) & Cert.AdamInIdeal.Final.run m g (ok_AdamInIdeal m hpre)
  · run_from Cert.AdamInRefIdeal.Value.run m' g'
    · exact Cert.AdamInRefIdeal.Read.val_main_v7_eq ..
    · exact Cert.AdamInRefIdeal.Read.val_main_v31_eq ..
    · exact Cert.AdamInRefIdeal.Read.val_main_v12_eq ..
    · exact Cert.AdamInRefIdeal.Read.val_main_v18_eq ..

end Cert.Proof

end
-- ==== Proof.AdamOutValue.lean ====
module

public import proofs.«01_k».proof.Proof.Gen.AdamOutIdeal.Frame
public import proofs.«01_k».proof.Proof.Gen.AdamOutRefIdeal.Read
public import proofs.«01_k».proof.Proof.AdamStep

@[expose] public section

set_option maxRecDepth 16384

noncomputable section

namespace Cert.AdamOutIdeal.Final

open Idealize.ShloMosaic Idealize.ShloMosaic.TcCoe Idealize.SL.Sem
open Idealize.ShloMosaic.Pipeline (Dat)
open Cert.AdamOutIdeal Cert.AdamOutIdeal.Gen Cert.AdamStep

/-- One entry of the gradient: the sum of the devices' terms, the device's own taken from its own blocks. -/
def grad (d : BitVec 32) (own landed : FVec Ideal S8x128x1024 .bf16) (i : S128x1024.Idx) : EReal :=
  ∑ k : Fin 8, Scalar.select (IntOp.cmpi .eq (BitVec.ofNat 32 k.val) d) (own (ix3 k (i 0) (i 1))) (landed (ix3 k (i 0) (i 1)))

theorem ref5 (d : IVec S1 32) (own landed : FVec Ideal S8x128x1024 .bf16) (i : S128x1024.Idx) :
    Cert.AdamOutRefIdeal.Read.val_main_v7 (F := Ideal) d own landed i = grad (d (ix1 0)) own landed i := by
  simp only [← Cert.AdamOutRefIdeal.Read.val_main_v7_eq]
  pointwise [grad]

theorem ref6 (d : IVec S1 32) (own landed : FVec Ideal S8x128x1024 .bf16) (w v1 v2 : FVec Ideal S128x1024 .f32) (i : S128x1024.Idx) :
    Cert.AdamOutRefIdeal.Read.val_main_v31 (F := Ideal) d own landed w v1 v2 i
      = delta (grad (d (ix1 0)) own landed i) (w i) (v1 i) (v2 i) := by
  simp only [← ref5]
  simp only [← Cert.AdamOutRefIdeal.Read.val_main_v31_eq, ← Cert.AdamOutRefIdeal.Read.val_main_v7_eq]
  pointwise [delta, moment1, moment2]

theorem ref7 (d : IVec S1 32) (own landed : FVec Ideal S8x128x1024 .bf16) (v1 : FVec Ideal S128x1024 .f32) (i : S128x1024.Idx) :
    Cert.AdamOutRefIdeal.Read.val_main_v12 (F := Ideal) d own landed v1 i
      = moment1 (grad (d (ix1 0)) own landed i) (v1 i) := by
  simp only [← ref5]
  simp only [← Cert.AdamOutRefIdeal.Read.val_main_v12_eq, ← Cert.AdamOutRefIdeal.Read.val_main_v7_eq]
  pointwise [moment1]

theorem ref8 (d : IVec S1 32) (own landed : FVec Ideal S8x128x1024 .bf16) (v2 : FVec Ideal S128x1024 .f32) (i : S128x1024.Idx) :
    Cert.AdamOutRefIdeal.Read.val_main_v18 (F := Ideal) d own landed v2 i
      = moment2 (grad (d (ix1 0)) own landed i) (v2 i) := by
  simp only [← ref5]
  simp only [← Cert.AdamOutRefIdeal.Read.val_main_v18_eq, ← Cert.AdamOutRefIdeal.Read.val_main_v7_eq]
  pointwise [moment2]

variable (m : (ℓ : Loc nD τ sig) → Buf (Elt Ideal) ℓ)

/-- The device's number, as the kernel reads it. -/
abbrev dev (c : Dev nD) : BitVec 32 := m ((c : Thread nD τ).loc main_arg0) (ix1 0)

theorem kdev (hO : Ok m) (c : Dev nD) : View.readAt (Elt Ideal) (View.whole main_arg0)
    (Rect.unit ![0] ![1] inb_S1_S1_0).toLoadRect (tbl m 0) (Shape.Idx.first (by decide)) = dev m c := by
  obtain rfl : c = 0 := Subsingleton.elim _ _
  refine congrArg (m ((0 : Dev nD).tc.loc main_arg0)) (funext fun a => ?_)
  match a with
  | ⟨0, _⟩ => exact Subsingleton.elim (α := Fin 1) _ _

/-- What the kernel adds up, from the device's number, its own block and the landed ones. -/
def ksum (d : BitVec 32) (own : FVec Ideal S1x128x1024 .bf16) (landed : FVec Ideal S8x128x1024 .bf16) : FVec Ideal S128x1024 .f32 :=
  k0_pay6
      (k0_pay3
        (k0_pay2 d own (View.ld (Val := Elt Ideal) (e' := .bf16) landed (Rect.unit ![0, 0, 0] ![1, 128, 1024] inb_S8x128x1024_S1x128x1024_0_0_0))
          d own (View.ld (Val := Elt Ideal) (e' := .bf16) landed (Rect.unit ![1, 0, 0] ![1, 128, 1024] inb_S8x128x1024_S1x128x1024_1_0_0))
          d own (View.ld (Val := Elt Ideal) (e' := .bf16) landed (Rect.unit ![2, 0, 0] ![1, 128, 1024] inb_S8x128x1024_S1x128x1024_2_0_0)))
        (Scalar.cmpi .eq d 3#32) own (View.ld (Val := Elt Ideal) (e' := .bf16) landed (Rect.unit ![3, 0, 0] ![1, 128, 1024] inb_S8x128x1024_S1x128x1024_3_0_0))
        d own (View.ld (Val := Elt Ideal) (e' := .bf16) landed (Rect.unit ![4, 0, 0] ![1, 128, 1024] inb_S8x128x1024_S1x128x1024_4_0_0))
        d own (View.ld (Val := Elt Ideal) (e' := .bf16) landed (Rect.unit ![5, 0, 0] ![1, 128, 1024] inb_S8x128x1024_S1x128x1024_5_0_0)))
      (Scalar.cmpi .eq d 6#32) (k0_pay4 own)
      (k0_pay5 (View.ld (Val := Elt Ideal) (e' := .bf16) landed (Rect.unit ![6, 0, 0] ![1, 128, 1024] inb_S8x128x1024_S1x128x1024_6_0_0)))
      d own (View.ld (Val := Elt Ideal) (e' := .bf16) landed (Rect.unit ![7, 0, 0] ![1, 128, 1024] inb_S8x128x1024_S1x128x1024_7_0_0))

theorem ksum_apply (d : BitVec 32) (own : FVec Ideal S1x128x1024 .bf16) (landed : FVec Ideal S8x128x1024 .bf16) (y : S128x1024.Idx) :
    ksum d own landed y = ∑ k : Fin 8, Scalar.select (IntOp.cmpi .eq (BitVec.ofNat 32 k.val) d) (own (ix3 0 (y 0) (y 1)))
      (landed (ix3 k (y 0) (y 1))) := by
  rw [Fin.sum_univ_eight]
  pointwise [ksum, k0_pay6, k0_pay5, k0_pay4, k0_pay3, k0_pay2]
  simp only [cmpi_comm d]

theorem pay7_apply (a b c d e f g v) (y : S128x1024.Idx) :
    k0_pay7 (F := Ideal) a b c d e f g v y = moment1 (k0_pay6 (F := Ideal) a b c d e f g y) (v y) := by
  pointwise [k0_pay7, moment1]

theorem pay8_apply (a b c d e f g v) (y : S128x1024.Idx) :
    k0_pay8 (F := Ideal) a b c d e f g v y = moment2 (k0_pay6 (F := Ideal) a b c d e f g y) (v y) := by
  pointwise [k0_pay8, moment2]

theorem pay9_apply (a b c d e f g v v') (w : FVec Ideal S128x1024 .f32) (y : S128x1024.Idx) :
    k0_pay1 (F := Ideal) w (k0_pay9 (F := Ideal) a b c d e f g v v') (Scalar.ofBits .f32 0x3C23D70A#32) y
      = delta (k0_pay6 (F := Ideal) a b c d e f g y) (w y) (v y) (v' y) := by
  pointwise [k0_pay1, k0_pay9, delta, ← pay7_apply a b c d e f g v y, ← pay8_apply a b c d e f g v' y]

/-- The grid's one point. -/
abbrev pt : Fin grid0.N := ⟨0, by decide⟩

theorem whole5 (hO : Ok m) : ((cfgM m hO).win 5).WholeAt pt :=
  ⟨flush0_5 _ _, fun t _ => Subsingleton.elim (α := Fin 1) _ _, fun a => ⟨(by decide +kernel :
    ∀ a : Fin 2, cc0_transform_5 (grid0.coords pt) a = 0) a, by fin_cases a <;> rfl⟩⟩

theorem whole6 (hO : Ok m) : ((cfgM m hO).win 6).WholeAt pt :=
  ⟨flush0_6 _ _, fun t _ => Subsingleton.elim (α := Fin 1) _ _, fun a => ⟨(by decide +kernel :
    ∀ a : Fin 2, cc0_transform_6 (grid0.coords pt) a = 0) a, by fin_cases a <;> rfl⟩⟩

theorem whole7 (hO : Ok m) : ((cfgM m hO).win 7).WholeAt pt :=
  ⟨flush0_7 _ _, fun t _ => Subsingleton.elim (α := Fin 1) _ _, fun a => ⟨(by decide +kernel :
    ∀ a : Fin 2, cc0_transform_7 (grid0.coords pt) a = 0) a, by fin_cases a <;> rfl⟩⟩

theorem whole8 (hO : Ok m) : ((cfgM m hO).win 8).WholeAt pt :=
  ⟨flush0_8 _ _, fun t _ => Subsingleton.elim (α := Fin 1) _ _, fun a => ⟨(by decide +kernel :
    ∀ a : Fin 2, cc0_transform_8 (grid0.coords pt) a = 0) a, by fin_cases a <;> rfl⟩⟩

theorem index0 (hO : Ok m) : ((cfgM m hO).win 0).index pt = ![0, 0, 0] :=
  (by decide +kernel : cc0_transform_0 (grid0.coords pt) = ![0, 0, 0])

theorem index1 (hO : Ok m) : ((cfgM m hO).win 1).index pt = ![(dev m 0).toNat, 0, 0] := by
  have h : ∀ p q : BitVec 32, ∀ a b : ℕ, p = q → a = 0 → b = 0 → (![p.toNat, a, b] : Fin 3 → ℕ) = ![q.toNat, 0, 0] := by
    rintro p _ _ _ rfl rfl rfl; rfl
  exact h _ (dev m 0) _ _ (kdev m hO 0) (by decide +kernel : (BitVec.ofNat 32 ((grid0.coords pt) 0).val).toNat = 0) (by decide +kernel : (BitVec.ofNat 32 ((grid0.coords pt) 1).val).toNat = 0)

theorem iblk0_apply (hO : Ok m) (c : Dev nD) (x : S8x128x1024.Idx) : iblk m hO c 0 pt x = m ((c : Thread nD τ).loc main_arg2) x := by
  have e : (((cfgM m hO).win 0).blk pt).view.emb x = x := by
    funext a
    apply Fin.ext
    have h := congrFun (index0 m hO) a
    show ((cfgM m hO).win 0).index pt a * _ + 1 * (x a).val = (x a).val
    rw [h]
    fin_cases a <;> simp
  exact congrArg (m ((c : Thread nD τ).loc main_arg2)) e

/-- The device's own block: that of its number. -/
theorem iblk1_apply (hO : Ok m) (c : Dev nD) (k : Fin 8) (hk : dev m c = BitVec.ofNat 32 k.val) (p : Fin 128) (q : Fin 1024) :
    iblk m hO c 1 pt (ix3 0 p q) = m ((c : Thread nD τ).loc main_arg1) (ix3 k p q) := by
  have hd : (dev m 0).toNat = k.val := by
    obtain rfl : c = 0 := Subsingleton.elim _ _
    rw [hk, BitVec.toNat_ofNat]
    omega
  have e : (((cfgM m hO).win 1).blk pt).view.emb (ix3 0 p q) = ix3 k p q := by
    funext a
    apply Fin.ext
    have h := congrFun (index1 m hO) a
    show ((cfgM m hO).win 1).index pt a * S1x128x1024.size a + 1 * (ix3 (0 : Fin 1) p q a).val = (ix3 k p q a).val
    rw [h]
    match a with
    | ⟨0, _⟩ => show (dev m 0).toNat * 1 + 1 * 0 = k.val; omega
    | ⟨1, _⟩ => show 0 * 128 + 1 * p.val = p.val; omega
    | ⟨2, _⟩ => show 0 * 1024 + 1 * q.val = q.val; omega
  exact congrArg (m ((c : Thread nD τ).loc main_arg1)) e

/-- What the kernel adds up of its blocks is the gradient's entry. -/
theorem ksum_blocks (hO : Ok m) (c : Dev nD) (y : S128x1024.Idx) : ksum (dev m c) (iblk m hO c 1 pt) (iblk m hO c 0 pt) y
    = grad (dev m c) (m ((c : Thread nD τ).loc main_arg1)) (m ((c : Thread nD τ).loc main_arg2)) y := by
  refine (ksum_apply _ _ _ _).trans (Finset.sum_congr rfl fun k _ => ?_)
  rw [iblk0_apply m hO c]
  exact select_own _ _ _ fun h => iblk1_apply m hO c k h _ _

theorem iblk2_apply (hO : Ok m) (c : Dev nD) (x : S128x1024.Idx) : iblk m hO c 2 pt x = m ((c : Thread nD τ).loc main_arg3) x := by
  have e : (((cfgM m hO).win 2).blk pt).view.emb x = x := by
    funext a
    apply Fin.ext
    have h := congrFun (by decide +kernel : cc0_transform_2 (grid0.coords pt) = ![0, 0]) a
    show cc0_transform_2 (grid0.coords pt) a * _ + 1 * (x a).val = (x a).val
    rw [h]
    fin_cases a <;> simp
  exact congrArg (m ((c : Thread nD τ).loc main_arg3)) e

theorem iblk3_apply (hO : Ok m) (c : Dev nD) (x : S128x1024.Idx) : iblk m hO c 3 pt x = m ((c : Thread nD τ).loc main_arg4) x := by
  have e : (((cfgM m hO).win 3).blk pt).view.emb x = x := by
    funext a
    apply Fin.ext
    have h := congrFun (by decide +kernel : cc0_transform_3 (grid0.coords pt) = ![0, 0]) a
    show cc0_transform_3 (grid0.coords pt) a * _ + 1 * (x a).val = (x a).val
    rw [h]
    fin_cases a <;> simp
  exact congrArg (m ((c : Thread nD τ).loc main_arg4)) e

theorem iblk4_apply (hO : Ok m) (c : Dev nD) (x : S128x1024.Idx) : iblk m hO c 4 pt x = m ((c : Thread nD τ).loc main_arg5) x := by
  have e : (((cfgM m hO).win 4).blk pt).view.emb x = x := by
    funext a
    apply Fin.ext
    have h := congrFun (by decide +kernel : cc0_transform_4 (grid0.coords pt) = ![0, 0]) a
    show cc0_transform_4 (grid0.coords pt) a * _ + 1 * (x a).val = (x a).val
    rw [h]
    fin_cases a <;> simp
  exact congrArg (m ((c : Thread nD τ).loc main_arg5)) e

/-- What the kernel adds up of its staging buffers. -/
theorem ksum_read (hO : Ok m) (c : Dev nD) (y : S128x1024.Idx) : ksum (dev m c)
    (View.read (Elt Ideal) (ms0_1 m hO pt).view ((hs0_1 m hO pt).unread (iblk m hO c 1 pt)))
    (View.read (Elt Ideal) (ms0_0 m hO pt).view ((hs0_0 m hO pt).unread (iblk m hO c 0 pt))) y
      = grad (dev m c) (m ((c : Thread nD τ).loc main_arg1)) (m ((c : Thread nD τ).loc main_arg2)) y :=
  (congrFun (congrArg₂ (ksum (dev m c)) (Memref.IsWhole.read_unread (hs0_1 m hO pt) (iblk m hO c 1 pt))
    (Memref.IsWhole.read_unread (hs0_0 m hO pt) (iblk m hO c 0 pt))) y).trans (ksum_blocks m hO c y)

theorem read2 (hO : Ok m) (c : Dev nD) (y : S128x1024.Idx) : View.read (Elt Ideal) (ms0_2 m hO pt).view
    ((hs0_2 m hO pt).unread (iblk m hO c 2 pt)) y = m ((c : Thread nD τ).loc main_arg3) y :=
  (congrFun (Memref.IsWhole.read_unread (hs0_2 m hO pt) (iblk m hO c 2 pt)) y).trans (iblk2_apply m hO c y)

theorem read3 (hO : Ok m) (c : Dev nD) (y : S128x1024.Idx) : View.read (Elt Ideal) (ms0_3 m hO pt).view
    ((hs0_3 m hO pt).unread (iblk m hO c 3 pt)) y = m ((c : Thread nD τ).loc main_arg4) y :=
  (congrFun (Memref.IsWhole.read_unread (hs0_3 m hO pt) (iblk m hO c 3 pt)) y).trans (iblk3_apply m hO c y)

theorem read4 (hO : Ok m) (c : Dev nD) (y : S128x1024.Idx) : View.read (Elt Ideal) (ms0_4 m hO pt).view
    ((hs0_4 m hO pt).unread (iblk m hO c 4 pt)) y = m ((c : Thread nD τ).loc main_arg5) y :=
  (congrFun (Memref.IsWhole.read_unread (hs0_4 m hO pt) (iblk m hO c 4 pt)) y).trans (iblk4_apply m hO c y)

theorem after5 (hO : Ok m) (c : Dev nD) (y : S128x1024.Idx) : (outsAt0 m hO c pt).1 y
    = grad (dev m c) (m ((c : Thread nD τ).loc main_arg1)) (m ((c : Thread nD τ).loc main_arg2)) y := by
  unfold outsAt0
  dsimp only
  frame_out
  simp only [kdev m hO c]
  exact ksum_read m hO c y

theorem after6 (hO : Ok m) (c : Dev nD) (y : S128x1024.Idx) : (outsAt0 m hO c pt).2.1 y
    = delta (grad (dev m c) (m ((c : Thread nD τ).loc main_arg1)) (m ((c : Thread nD τ).loc main_arg2)) y) (m ((c : Thread nD τ).loc main_arg3) y) (m ((c : Thread nD τ).loc main_arg4) y) (m ((c : Thread nD τ).loc main_arg5) y) := by
  unfold outsAt0
  dsimp only
  frame_out
  simp only [kdev m hO c]
  exact (pay9_apply _ _ _ _ _ _ _ _ _ _ y).trans
    (congr (congr (congrArg₂ delta (ksum_read m hO c y) (read2 m hO c y)) (read3 m hO c y)) (read4 m hO c y))

theorem after7 (hO : Ok m) (c : Dev nD) (y : S128x1024.Idx) : (outsAt0 m hO c pt).2.2.1 y
    = moment1 (grad (dev m c) (m ((c : Thread nD τ).loc main_arg1)) (m ((c : Thread nD τ).loc main_arg2)) y) (m ((c : Thread nD τ).loc main_arg4) y) := by
  unfold outsAt0
  dsimp only
  frame_out
  simp only [kdev m hO c]
  exact (pay7_apply _ _ _ _ _ _ _ _ y).trans (congrArg₂ moment1 (ksum_read m hO c y) (read3 m hO c y))

theorem after8 (hO : Ok m) (c : Dev nD) (y : S128x1024.Idx) : (outsAt0 m hO c pt).2.2.2 y
    = moment2 (grad (dev m c) (m ((c : Thread nD τ).loc main_arg1)) (m ((c : Thread nD τ).loc main_arg2)) y) (m ((c : Thread nD τ).loc main_arg5) y) := by
  unfold outsAt0
  dsimp only
  frame_out
  simp only [kdev m hO c]
  exact (pay8_apply _ _ _ _ _ _ _ _ y).trans (congrArg₂ moment2 (ksum_read m hO c y) (read4 m hO c y))

theorem final5 (hO : Ok m) (c : Dev nD) : (dats m hO 0 c).arrAt 5 ((Pipeline.pin pcfgs fun _ => adm m hO) 0).N
    = Cert.AdamOutRefIdeal.Read.val_main_v7 (F := Ideal) (m ((c : Thread nD τ).loc main_arg0)) (m ((c : Thread nD τ).loc main_arg1)) (m ((c : Thread nD τ).loc main_arg2)) :=
  (dats m hO 0 c).arrAt_eq_of_after_last 5 pt (whole5 m hO) _ fun y =>
    (congrFun (after0_5 m hO c pt) y).trans ((after5 m hO c y).trans (ref5 _ _ _ y).symm)

theorem final6 (hO : Ok m) (c : Dev nD) : (dats m hO 0 c).arrAt 6 ((Pipeline.pin pcfgs fun _ => adm m hO) 0).N
    = Cert.AdamOutRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m hO 0 c).arrAt_eq_of_after_last 6 pt (whole6 m hO) _ fun y =>
    (congrFun (after0_6 m hO c pt) y).trans ((after6 m hO c y).trans (ref6 _ _ _ _ _ _ y).symm)

theorem final7 (hO : Ok m) (c : Dev nD) : (dats m hO 0 c).arrAt 7 ((Pipeline.pin pcfgs fun _ => adm m hO) 0).N
    = Cert.AdamOutRefIdeal.Read.val_main_v12 (F := Ideal) (m ((c : Thread nD τ).loc main_arg0)) (m ((c : Thread nD τ).loc main_arg1)) (m ((c : Thread nD τ).loc main_arg2)) (m ((c : Thread nD τ).loc main_arg4)) :=
  (dats m hO 0 c).arrAt_eq_of_after_last 7 pt (whole7 m hO) _ fun y =>
    (congrFun (after0_7 m hO c pt) y).trans ((after7 m hO c y).trans (ref7 _ _ _ _ y).symm)

theorem final8 (hO : Ok m) (c : Dev nD) : (dats m hO 0 c).arrAt 8 ((Pipeline.pin pcfgs fun _ => adm m hO) 0).N
    = Cert.AdamOutRefIdeal.Read.val_main_v18 (F := Ideal) (m ((c : Thread nD τ).loc main_arg0)) (m ((c : Thread nD τ).loc main_arg1)) (m ((c : Thread nD τ).loc main_arg2)) (m ((c : Thread nD τ).loc main_arg5)) :=
  (dats m hO 0 c).arrAt_eq_of_after_last 8 pt (whole8 m hO) _ fun y =>
    (congrFun (after0_8 m hO c pt) y).trans ((after8 m hO c y).trans (ref8 _ _ _ _ y).symm)

/-- The kernel's run ends with the reference's values in its four arrays. -/
theorem run (ρ : Dev nD → PrngReg) (hO : Ok m) : θ_run defs (onTc (τ := τ) (main (F := Ideal))) ⟨m, fun _ => 0, ρ⟩ (fun r => ∀ c : Dev nD,
      r.2.mem ((c.tc : Thread nD τ).loc main_v0_0)
        = Cert.AdamOutRefIdeal.Read.val_main_v7 (F := Ideal) (m ((c : Thread nD τ).loc main_arg0)) (m ((c : Thread nD τ).loc main_arg1)) (m ((c : Thread nD τ).loc main_arg2))
      ∧ r.2.mem ((c.tc : Thread nD τ).loc main_v0_1)
        = Cert.AdamOutRefIdeal.Read.val_main_v31 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_v0_2)
        = Cert.AdamOutRefIdeal.Read.val_main_v12 (F := Ideal) (m ((c : Thread nD τ).loc main_arg0)) (m ((c : Thread nD τ).loc main_arg1)) (m ((c : Thread nD τ).loc main_arg2)) (m ((c : Thread nD τ).loc main_arg4))
      ∧ r.2.mem ((c.tc : Thread nD τ).loc main_v0_3)
        = Cert.AdamOutRefIdeal.Read.val_main_v18 (F := Ideal) (m ((c : Thread nD τ).loc main_arg0)) (m ((c : Thread nD τ).loc main_arg1)) (m ((c : Thread nD τ).loc main_arg2)) (m ((c : Thread nD τ).loc main_arg5))) :=
  (θ_run _ _ _).mono (fun r h c => ⟨((h c).1 5).trans (final5 m hO c), ((h c).1 6).trans (final6 m hO c),
    ((h c).1 7).trans (final7 m hO c), ((h c).1 8).trans (final8 m hO c)⟩) (run_main m ρ hO)

end Cert.AdamOutIdeal.Final

end
-- ==== Proof.AdamOutClaim.lean ====
module

public import proofs.«01_k».proof.Defs
public import proofs.«01_k».proof.Proof.Gen.AdamOut.Frame
public import proofs.«01_k».proof.Proof.Gen.Pre_device_out
public import proofs.«01_k».proof.Proof.AdamOutValue
public import proofs.«01_k».proof.Proof.Gen.AdamOutRefIdeal.Run
public import Idealize.ShloMosaic.Lib.Claim

/-! The AdamW step of the output projection's shard: kernel and reference leave the same four arrays. -/

@[expose] public section

set_option maxRecDepth 16384

noncomputable section

namespace Cert.Proof

open Idealize.ShloMosaic Idealize.SL.Sem

theorem ok_AdamOut (m : (ℓ : Loc Cert.AdamOut.nD Cert.AdamOut.τ Cert.AdamOut.sig) → Buf (Elt Bits) ℓ) (h : Cert.Pre_AdamOut m) :
    Cert.AdamOut.Gen.Ok m := by
  have h0 := congrFun (h 0) (ix1 0)
  dsimp only [Cert.Pre_device_out.fn] at h0
  pointwise at h0
  have hd := Cert.AdamStep.device_lt h0
  have hk : View.readAt (Elt Bits) (View.whole Cert.AdamOut.main_arg0) (Rect.unit ![0] ![1] Cert.AdamOut.Facts₀.inb_S1_S1_0).toLoadRect
      (Cert.AdamOut.Gen.tbl m 0) (Shape.Idx.first (by decide)) = m ((0 : Dev Cert.AdamOut.nD).tc.loc Cert.AdamOut.main_arg0) (ix1 0) := by
    refine congrArg (m ((0 : Dev Cert.AdamOut.nD).tc.loc Cert.AdamOut.main_arg0)) (funext fun a => ?_)
    match a with
    | ⟨0, _⟩ => exact Subsingleton.elim (α := Fin 1) _ _
  intro i
  have h1 : (BitVec.ofNat 32 (i 0).val).toNat = 0 := by
    rw [Subsingleton.elim (α := Fin 1) (i 0) 0]; rfl
  have h2 : (BitVec.ofNat 32 (i 1).val).toNat = 0 := by
    rw [Subsingleton.elim (α := Fin 1) (i 1) 0]; rfl
  refine ⟨fun a => ?_, .inr (.inr ⟨by decide, rfl, ?_, rfl⟩)⟩
  · match a with
    | ⟨0, _⟩ => exact (congrArg (fun d : BitVec 32 => (d.toNat + 1) * 1) hk).trans_le (by show (BitVec.toNat _ + 1) * 1 ≤ 8; omega)
    | ⟨1, _⟩ => exact (congrArg (fun n : ℕ => (n + 1) * 128) h1).le
    | ⟨2, _⟩ => exact (congrArg (fun n : ℕ => (n + 1) * 1024) h2).le
  · exact congrArg (fun n : ℕ => n * 128) h1

theorem ok_AdamOutIdeal (m : (ℓ : Loc Cert.AdamOutIdeal.nD Cert.AdamOutIdeal.τ Cert.AdamOutIdeal.sig) → Buf (Elt Ideal) ℓ) (h : Cert.Pre_AdamOutIdeal m) :
    Cert.AdamOutIdeal.Gen.Ok m := by
  have h0 := congrFun (h 0) (ix1 0)
  dsimp only [Cert.Pre_device_out.fn] at h0
  pointwise at h0
  have hd := Cert.AdamStep.device_lt h0
  have hk : View.readAt (Elt Ideal) (View.whole Cert.AdamOutIdeal.main_arg0) (Rect.unit ![0] ![1] Cert.AdamOutIdeal.Facts₀.inb_S1_S1_0).toLoadRect
      (Cert.AdamOutIdeal.Gen.tbl m 0) (Shape.Idx.first (by decide)) = m ((0 : Dev Cert.AdamOutIdeal.nD).tc.loc Cert.AdamOutIdeal.main_arg0) (ix1 0) := by
    refine congrArg (m ((0 : Dev Cert.AdamOutIdeal.nD).tc.loc Cert.AdamOutIdeal.main_arg0)) (funext fun a => ?_)
    match a with
    | ⟨0, _⟩ => exact Subsingleton.elim (α := Fin 1) _ _
  intro i
  have h1 : (BitVec.ofNat 32 (i 0).val).toNat = 0 := by
    rw [Subsingleton.elim (α := Fin 1) (i 0) 0]; rfl
  have h2 : (BitVec.ofNat 32 (i 1).val).toNat = 0 := by
    rw [Subsingleton.elim (α := Fin 1) (i 1) 0]; rfl
  refine ⟨fun a => ?_, .inr (.inr ⟨by decide, rfl, ?_, rfl⟩)⟩
  · match a with
    | ⟨0, _⟩ => exact (congrArg (fun d : BitVec 32 => (d.toNat + 1) * 1) hk).trans_le (by show (BitVec.toNat _ + 1) * 1 ≤ 8; omega)
    | ⟨1, _⟩ => exact (congrArg (fun n : ℕ => (n + 1) * 128) h1).le
    | ⟨2, _⟩ => exact (congrArg (fun n : ℕ => (n + 1) * 1024) h2).le
  · exact congrArg (fun n : ℕ => n * 128) h1

/-- The AdamW step of the output projection's shard: kernel and reference leave the same four arrays. -/
theorem algebraic_AdamOut : Cert.algebraic_AdamOutIdeal_AdamOutRefIdeal := by
  pair_intro
  · run_from Cert.AdamOutIdeal.Gen.unchanged m g (ok_AdamOutIdeal m hpre) & Cert.AdamOutIdeal.Final.run m g (ok_AdamOutIdeal m hpre)
  · run_from Cert.AdamOutRefIdeal.Value.run m' g'
    · exact Cert.AdamOutRefIdeal.Read.val_main_v7_eq ..
    · exact Cert.AdamOutRefIdeal.Read.val_main_v31_eq ..
    · exact Cert.AdamOutRefIdeal.Read.val_main_v12_eq ..
    · exact Cert.AdamOutRefIdeal.Read.val_main_v18_eq ..

end Cert.Proof

end
-- ==== Proof.lean ====
module

public import proofs.«01_k».proof.Defs
public import proofs.«01_k».proof.Proof.Gen.BwdIn
public import proofs.«01_k».proof.Proof.Gen.BwdIn.Frame
public import proofs.«01_k».proof.Proof.Gen.BwdInIdeal
public import proofs.«01_k».proof.Proof.Gen.BwdInIdeal.Frame
public import proofs.«01_k».proof.Proof.Gen.BwdInIdeal.Value
public import proofs.«01_k».proof.Proof.Gen.BwdInRefIdeal
public import proofs.«01_k».proof.Proof.Gen.BwdInRefIdeal.Run
public import proofs.«01_k».proof.Proof.Gen.BwdInRefIdeal.Read
public import proofs.«01_k».proof.Proof.Gen.DwIn
public import proofs.«01_k».proof.Proof.Gen.DwIn.Frame
public import proofs.«01_k».proof.Proof.Gen.DwInIdeal
public import proofs.«01_k».proof.Proof.Gen.DwInIdeal.Frame
public import proofs.«01_k».proof.Proof.Gen.DwInIdeal.Value
public import proofs.«01_k».proof.Proof.Gen.DwInRefIdeal
public import proofs.«01_k».proof.Proof.Gen.DwInRefIdeal.Run
public import proofs.«01_k».proof.Proof.Gen.DwInRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Fwd
public import proofs.«01_k».proof.Proof.Gen.Fwd.Frame
public import proofs.«01_k».proof.Proof.Gen.FwdIdeal
public import proofs.«01_k».proof.Proof.Gen.FwdIdeal.Frame
public import proofs.«01_k».proof.Proof.Gen.FwdIdeal.Value
public import proofs.«01_k».proof.Proof.Gen.FwdRefIdeal
public import proofs.«01_k».proof.Proof.Gen.FwdRefIdeal.Run
public import proofs.«01_k».proof.Proof.Gen.FwdRefIdeal.Read
public import proofs.«01_k».proof.Proof.Gen.AdamConv
public import proofs.«01_k».proof.Proof.Gen.AdamConv.Frame
public import proofs.«01_k».proof.Proof.Gen.AdamConvIdeal
public import proofs.«01_k».proof.Proof.Gen.AdamConvIdeal.Frame
public import proofs.«01_k».proof.Proof.Gen.AdamConvIdeal.Value
public import proofs.«01_k».proof.Proof.Gen.AdamConvRefIdeal
public import proofs.«01_k».proof.Proof.Gen.AdamConvRefIdeal.Run
public import proofs.«01_k».proof.Proof.Gen.AdamConvRefIdeal.Read
public import proofs.«01_k».proof.Proof.Gen.AdamAda
public import proofs.«01_k».proof.Proof.Gen.AdamAda.Frame
public import proofs.«01_k».proof.Proof.Gen.AdamAdaIdeal
public import proofs.«01_k».proof.Proof.Gen.AdamAdaIdeal.Frame
public import proofs.«01_k».proof.Proof.Gen.AdamAdaIdeal.Value
public import proofs.«01_k».proof.Proof.Gen.AdamAdaRefIdeal
public import proofs.«01_k».proof.Proof.Gen.AdamAdaRefIdeal.Run
public import proofs.«01_k».proof.Proof.Gen.AdamAdaRefIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutRefIdeal
public import proofs.«01_k».proof.Proof.Gen.AdamOutRefIdeal.Run
public import proofs.«01_k».proof.Proof.Gen.AdamOutRefIdeal.Read
public import proofs.«01_k».proof.Proof.Gen.AdamRow
public import proofs.«01_k».proof.Proof.Gen.AdamRow.Frame
public import proofs.«01_k».proof.Proof.Gen.AdamRowIdeal
public import proofs.«01_k».proof.Proof.Gen.AdamRowIdeal.Frame
public import proofs.«01_k».proof.Proof.Gen.AdamRowRefIdeal
public import proofs.«01_k».proof.Proof.Gen.AdamRowRefIdeal.Run
public import proofs.«01_k».proof.Proof.Gen.AdamRowRefIdeal.Read
public import proofs.«01_k».proof.Proof.Gen.AdamHalf
public import proofs.«01_k».proof.Proof.Gen.AdamHalf.Frame
public import proofs.«01_k».proof.Proof.Gen.AdamHalfIdeal
public import proofs.«01_k».proof.Proof.Gen.AdamHalfIdeal.Frame
public import proofs.«01_k».proof.Proof.Gen.AdamHalfRefIdeal
public import proofs.«01_k».proof.Proof.Gen.AdamHalfRefIdeal.Run
public import proofs.«01_k».proof.Proof.Gen.AdamHalfRefIdeal.Read
public import proofs.«01_k».proof.Proof.Gen.AdamWide
public import proofs.«01_k».proof.Proof.Gen.AdamWide.Frame
public import proofs.«01_k».proof.Proof.Gen.AdamWideIdeal
public import proofs.«01_k».proof.Proof.Gen.AdamWideIdeal.Frame
public import proofs.«01_k».proof.Proof.Gen.AdamWideRefIdeal
public import proofs.«01_k».proof.Proof.Gen.AdamWideRefIdeal.Run
public import proofs.«01_k».proof.Proof.Gen.AdamWideRefIdeal.Read
public import proofs.«01_k».proof.Proof.Gen.AdamGates
public import proofs.«01_k».proof.Proof.Gen.AdamGates.Frame
public import proofs.«01_k».proof.Proof.Gen.AdamGatesIdeal
public import proofs.«01_k».proof.Proof.Gen.AdamGatesIdeal.Frame
public import proofs.«01_k».proof.Proof.Gen.AdamGatesRefIdeal
public import proofs.«01_k».proof.Proof.Gen.AdamGatesRefIdeal.Run
public import proofs.«01_k».proof.Proof.Gen.AdamGatesRefIdeal.Read
public import proofs.«01_k».proof.Proof.Gen.AdamPool
public import proofs.«01_k».proof.Proof.Gen.AdamPool.Frame
public import proofs.«01_k».proof.Proof.Gen.AdamPoolIdeal
public import proofs.«01_k».proof.Proof.Gen.AdamPoolIdeal.Frame
public import proofs.«01_k».proof.Proof.Gen.AdamPoolRefIdeal
public import proofs.«01_k».proof.Proof.Gen.AdamPoolRefIdeal.Run
public import proofs.«01_k».proof.Proof.Gen.AdamPoolRefIdeal.Read
public import proofs.«01_k».proof.Proof.Gen.Pre_finite
public import proofs.«01_k».proof.Proof.Gen.Pre_device_in
public import proofs.«01_k».proof.Proof.Gen.Pre_device_out
public import proofs.«01_k».proof.Proof.BwdInClaim
public import proofs.«01_k».proof.Proof.DwInClaim
public import proofs.«01_k».proof.Proof.OutClaim
public import proofs.«01_k».proof.Proof.FwdClaim
public import proofs.«01_k».proof.Proof.AdamConvClaim
public import proofs.«01_k».proof.Proof.AdamAdaClaim
public import proofs.«01_k».proof.Proof.AdamRowClaim
public import proofs.«01_k».proof.Proof.AdamHalfClaim
public import proofs.«01_k».proof.Proof.AdamWideClaim
public import proofs.«01_k».proof.Proof.AdamGatesClaim
public import proofs.«01_k».proof.Proof.AdamPoolClaim
public import proofs.«01_k».proof.Proof.AdamInClaim
public import proofs.«01_k».proof.Proof.AdamOutClaim
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem

/-- The reference `BwdInRefIdeal` runs to the end and leaves its arguments as they were. -/
theorem frame_BwdInRefIdeal : Cert.quiescent_BwdInRefIdeal := fun m g _ =>
  (θ_run _ _ _).mono (fun r h => ⟨fun c => (h c).2.2.2.2, funext fun s => match s with
    | (_, .reg s) => s.elim0
    | (_, .dma s) => s.elim0⟩) (Cert.BwdInRefIdeal.Value.run m g)

/-- The same under the precondition, which the frame does not need. -/
theorem frame_BwdInRefIdeal_finite : Cert.quiescent_BwdInRefIdeal_pre_finite := fun m ρ _ => frame_BwdInRefIdeal m ρ trivial

/-- The reference `DwInRefIdeal` runs to the end and leaves its arguments as they were. -/
theorem frame_DwInRefIdeal : Cert.quiescent_DwInRefIdeal := fun m g _ =>
  (θ_run _ _ _).mono (fun r h => ⟨fun c => (h c).2, funext fun s => match s with
    | (_, .reg s) => s.elim0
    | (_, .dma s) => s.elim0⟩) (Cert.DwInRefIdeal.Value.run m g)

/-- The reference `OutRefIdeal` runs to the end and leaves its arguments as they were. -/
theorem frame_OutRefIdeal : Cert.quiescent_OutRefIdeal := fun m g _ =>
  (θ_run _ _ _).mono (fun r h => ⟨fun c => (h c).2.2.2.2.2.2, funext fun s => match s with
    | (_, .reg s) => s.elim0
    | (_, .dma s) => s.elim0⟩) (Cert.OutRefIdeal.Value.run m g)

/-- The reference `FwdRefIdeal` runs to the end and leaves its arguments as they were. -/
theorem frame_FwdRefIdeal : Cert.quiescent_FwdRefIdeal := fun m g _ =>
  (θ_run _ _ _).mono (fun r h => ⟨fun c => (h c).2.2.2, funext fun s => match s with
    | (_, .reg s) => s.elim0
    | (_, .dma s) => s.elim0⟩) (Cert.FwdRefIdeal.Value.run m g)

/-- The reference `AdamConvRefIdeal` runs to the end and leaves its arguments as they were. -/
theorem frame_AdamConvRefIdeal : Cert.quiescent_AdamConvRefIdeal := fun m g _ =>
  (θ_run _ _ _).mono (fun r h => ⟨fun c => (h c).2.2.2.2, funext fun s => match s with
    | (_, .reg s) => s.elim0
    | (_, .dma s) => s.elim0⟩) (Cert.AdamConvRefIdeal.Value.run m g)

/-- The reference `AdamAdaRefIdeal` runs to the end and leaves its arguments as they were. -/
theorem frame_AdamAdaRefIdeal : Cert.quiescent_AdamAdaRefIdeal := fun m g _ =>
  (θ_run _ _ _).mono (fun r h => ⟨fun c => (h c).2.2.2.2, funext fun s => match s with
    | (_, .reg s) => s.elim0
    | (_, .dma s) => s.elim0⟩) (Cert.AdamAdaRefIdeal.Value.run m g)

/-- The reference `AdamRowRefIdeal` runs to the end and leaves its arguments as they were. -/
theorem frame_AdamRowRefIdeal : Cert.quiescent_AdamRowRefIdeal := fun m g _ =>
  (θ_run _ _ _).mono (fun r h => ⟨fun c => (h c).2.2.2.2.2, funext fun s => match s with
    | (_, .reg s) => s.elim0
    | (_, .dma s) => s.elim0⟩) (Cert.AdamRowRefIdeal.Value.run m g)

/-- The reference `AdamHalfRefIdeal` runs to the end and leaves its arguments as they were. -/
theorem frame_AdamHalfRefIdeal : Cert.quiescent_AdamHalfRefIdeal := fun m g _ =>
  (θ_run _ _ _).mono (fun r h => ⟨fun c => (h c).2.2.2.2.2, funext fun s => match s with
    | (_, .reg s) => s.elim0
    | (_, .dma s) => s.elim0⟩) (Cert.AdamHalfRefIdeal.Value.run m g)

/-- The reference `AdamWideRefIdeal` runs to the end and leaves its arguments as they were. -/
theorem frame_AdamWideRefIdeal : Cert.quiescent_AdamWideRefIdeal := fun m g _ =>
  (θ_run _ _ _).mono (fun r h => ⟨fun c => (h c).2.2.2.2.2, funext fun s => match s with
    | (_, .reg s) => s.elim0
    | (_, .dma s) => s.elim0⟩) (Cert.AdamWideRefIdeal.Value.run m g)

/-- The reference `AdamGatesRefIdeal` runs to the end and leaves its arguments as they were. -/
theorem frame_AdamGatesRefIdeal : Cert.quiescent_AdamGatesRefIdeal := fun m g _ =>
  (θ_run _ _ _).mono (fun r h => ⟨fun c => (h c).2.2.2.2.2, funext fun s => match s with
    | (_, .reg s) => s.elim0
    | (_, .dma s) => s.elim0⟩) (Cert.AdamGatesRefIdeal.Value.run m g)

/-- The reference `AdamPoolRefIdeal` runs to the end and leaves its arguments as they were. -/
theorem frame_AdamPoolRefIdeal : Cert.quiescent_AdamPoolRefIdeal := fun m g _ =>
  (θ_run _ _ _).mono (fun r h => ⟨fun c => (h c).2.2.2.2.2, funext fun s => match s with
    | (_, .reg s) => s.elim0
    | (_, .dma s) => s.elim0⟩) (Cert.AdamPoolRefIdeal.Value.run m g)

/-- The reference `AdamInRefIdeal` runs to the end and leaves its arguments as they were. -/
theorem frame_AdamInRefIdeal : Cert.quiescent_AdamInRefIdeal := fun m g _ =>
  (θ_run _ _ _).mono (fun r h => ⟨fun c => (h c).2.2.2.2, funext fun s => match s with
    | (_, .reg s) => s.elim0
    | (_, .dma s) => s.elim0⟩) (Cert.AdamInRefIdeal.Value.run m g)

/-- The same under the precondition, which the frame does not need. -/
theorem frame_AdamInRefIdeal_device_in : Cert.quiescent_AdamInRefIdeal_pre_device_in := fun m ρ _ => frame_AdamInRefIdeal m ρ trivial

/-- The reference `AdamOutRefIdeal` runs to the end and leaves its arguments as they were. -/
theorem frame_AdamOutRefIdeal : Cert.quiescent_AdamOutRefIdeal := fun m g _ =>
  (θ_run _ _ _).mono (fun r h => ⟨fun c => (h c).2.2.2.2, funext fun s => match s with
    | (_, .reg s) => s.elim0
    | (_, .dma s) => s.elim0⟩) (Cert.AdamOutRefIdeal.Value.run m g)

/-- The same under the precondition, which the frame does not need. -/
theorem frame_AdamOutRefIdeal_device_out : Cert.quiescent_AdamOutRefIdeal_pre_device_out := fun m ρ _ => frame_AdamOutRefIdeal m ρ trivial

/-- All claims together. -/
theorem claim : Cert.Claim := ⟨Cert.BwdIn.Gen.facts, Cert.BwdInIdeal.Gen.facts, Cert.BwdInRefIdeal.Gen.facts, Cert.DwIn.Gen.facts, Cert.DwInIdeal.Gen.facts, Cert.DwInRefIdeal.Gen.facts, Cert.Out.Gen.facts, Cert.OutIdeal.Gen.facts, Cert.OutRefIdeal.Gen.facts, Cert.Fwd.Gen.facts, Cert.FwdIdeal.Gen.facts, Cert.FwdRefIdeal.Gen.facts, Cert.AdamConv.Gen.facts, Cert.AdamConvIdeal.Gen.facts, Cert.AdamConvRefIdeal.Gen.facts, Cert.AdamAda.Gen.facts, Cert.AdamAdaIdeal.Gen.facts, Cert.AdamAdaRefIdeal.Gen.facts, Cert.AdamRow.Gen.facts, Cert.AdamRowIdeal.Gen.facts, Cert.AdamRowRefIdeal.Gen.facts, Cert.AdamHalf.Gen.facts, Cert.AdamHalfIdeal.Gen.facts, Cert.AdamHalfRefIdeal.Gen.facts, Cert.AdamWide.Gen.facts, Cert.AdamWideIdeal.Gen.facts, Cert.AdamWideRefIdeal.Gen.facts, Cert.AdamGates.Gen.facts, Cert.AdamGatesIdeal.Gen.facts, Cert.AdamGatesRefIdeal.Gen.facts, Cert.AdamPool.Gen.facts, Cert.AdamPoolIdeal.Gen.facts, Cert.AdamPoolRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.Pre_finite.Gen.facts, Cert.Pre_device_in.Gen.facts, Cert.Pre_device_out.Gen.facts,
  fun m ρ _ => Cert.BwdIn.Gen.frame m ρ,
  fun m ρ _ => Cert.BwdInIdeal.Gen.frame m ρ,
  fun m ρ _ => Cert.BwdInIdeal.Gen.frame m ρ,
  frame_BwdInRefIdeal,
  frame_BwdInRefIdeal_finite,
  fun m ρ _ => Cert.DwIn.Gen.frame m ρ,
  fun m ρ _ => Cert.DwInIdeal.Gen.frame m ρ,
  frame_DwInRefIdeal,
  fun m ρ _ => Cert.Out.Gen.frame m ρ,
  fun m ρ _ => Cert.OutIdeal.Gen.frame m ρ,
  frame_OutRefIdeal,
  fun m ρ _ => Cert.Fwd.Gen.frame m ρ,
  fun m ρ _ => Cert.FwdIdeal.Gen.frame m ρ,
  frame_FwdRefIdeal,
  fun m ρ _ => Cert.AdamConv.Gen.frame m ρ,
  fun m ρ _ => Cert.AdamConvIdeal.Gen.frame m ρ,
  frame_AdamConvRefIdeal,
  fun m ρ _ => Cert.AdamAda.Gen.frame m ρ,
  fun m ρ _ => Cert.AdamAdaIdeal.Gen.frame m ρ,
  frame_AdamAdaRefIdeal,
  fun m ρ _ => Cert.AdamRow.Gen.frame m ρ trivial,
  fun m ρ _ => Cert.AdamRowIdeal.Gen.frame m ρ trivial,
  frame_AdamRowRefIdeal,
  fun m ρ _ => Cert.AdamHalf.Gen.frame m ρ trivial,
  fun m ρ _ => Cert.AdamHalfIdeal.Gen.frame m ρ trivial,
  frame_AdamHalfRefIdeal,
  fun m ρ _ => Cert.AdamWide.Gen.frame m ρ trivial,
  fun m ρ _ => Cert.AdamWideIdeal.Gen.frame m ρ trivial,
  frame_AdamWideRefIdeal,
  fun m ρ _ => Cert.AdamGates.Gen.frame m ρ trivial,
  fun m ρ _ => Cert.AdamGatesIdeal.Gen.frame m ρ trivial,
  frame_AdamGatesRefIdeal,
  fun m ρ _ => Cert.AdamPool.Gen.frame m ρ trivial,
  fun m ρ _ => Cert.AdamPoolIdeal.Gen.frame m ρ trivial,
  frame_AdamPoolRefIdeal,
  fun m ρ h => Cert.AdamIn.Gen.frame m ρ (ok_AdamIn m h),
  fun m ρ h => Cert.AdamInIdeal.Gen.frame m ρ (ok_AdamInIdeal m h),
  frame_AdamInRefIdeal,
  frame_AdamInRefIdeal_device_in,
  fun m ρ h => Cert.AdamOut.Gen.frame m ρ (ok_AdamOut m h),
  fun m ρ h => Cert.AdamOutIdeal.Gen.frame m ρ (ok_AdamOutIdeal m h),
  frame_AdamOutRefIdeal,
  frame_AdamOutRefIdeal_device_out,
  trivial, algebraic_BwdIn, trivial, algebraic_DwIn, trivial, algebraic_Out, trivial, algebraic_Fwd, trivial, algebraic_AdamConv, trivial, algebraic_AdamAda, trivial, algebraic_AdamRow, trivial, algebraic_AdamHalf, trivial, algebraic_AdamWide, trivial, algebraic_AdamGates, trivial, algebraic_AdamPool, trivial, algebraic_AdamIn, trivial, algebraic_AdamOut⟩

end Cert.Proof

end
